-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v40_2)) (v1 : (c : Dev Cert.Kernel4Ideal.nD) → Buf (Elt Ideal) ((c.tc : Thread Cert.Kernel4Ideal.nD Cert.Kernel4Ideal.τ).loc Cert.Kernel4Ideal.main_v40_6)) (v2 : (c : Dev Cert.Kernel4Ideal.nD) → Buf (Elt Ideal) ((c.tc : Thread Cert.Kernel4Ideal.nD Cert.Kernel4Ideal.τ).loc Cert.Kernel4Ideal.main_v40_7)) (v3 : (c : Dev Cert.Kernel4Ideal.nD) → Buf (Elt Ideal) ((c.tc : Thread Cert.Kernel4Ideal.nD Cert.Kernel4Ideal.τ).loc Cert.Kernel4Ideal.main_v40_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40_2) = v0 c
          ∧ r.2.mem ((c.tc : Thread Cert.Kernel4Ideal.nD Cert.Kernel4Ideal.τ).loc Cert.Kernel4Ideal.main_v40_6) = v1 c
          ∧ r.2.mem ((c.tc : Thread Cert.Kernel4Ideal.nD Cert.Kernel4Ideal.τ).loc Cert.Kernel4Ideal.main_v40_7) = v2 c
          ∧ r.2.mem ((c.tc : Thread Cert.Kernel4Ideal.nD Cert.Kernel4Ideal.τ).loc Cert.Kernel4Ideal.main_v40_8) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v33) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_v46) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x2048x512 : Shape := ⟨3, ![16, 2048, 512]⟩
abbrev S16x256x512 : Shape := ⟨3, ![16, 256, 512]⟩
abbrev S64 : Shape := ⟨1, ![64]⟩
abbrev S128 : Shape := ⟨1, ![128]⟩
abbrev S1x64 : Shape := ⟨2, ![1, 64]⟩
abbrev S4x64 : Shape := ⟨2, ![4, 64]⟩
abbrev S_ : Shape := ⟨0, ![]⟩
abbrev S16x2048x4x128 : Shape := ⟨4, ![16, 2048, 4, 128]⟩
abbrev S16x4x2048x128 : Shape := ⟨4, ![16, 4, 2048, 128]⟩
abbrev S16x256x4x128 : Shape := ⟨4, ![16, 256, 4, 128]⟩
abbrev S16x4x256x128 : Shape := ⟨4, ![16, 4, 256, 128]⟩
abbrev S1x128 : Shape := ⟨2, ![1, 128]⟩
abbrev S1x2x2048x128 : Shape := ⟨4, ![1, 2, 2048, 128]⟩
abbrev S1x2x256x128 : Shape := ⟨4, ![1, 2, 256, 128]⟩
abbrev S1x2048x256 : Shape := ⟨3, ![1, 2048, 256]⟩
abbrev S2x2048x128 : Shape := ⟨3, ![2, 2048, 128]⟩
abbrev S2x128x2304 : Shape := ⟨3, ![2, 128, 2304]⟩
abbrev S64x128 : Shape := ⟨2, ![64, 128]⟩
abbrev S1 : Shape := ⟨1, ![1]⟩
abbrev S1x1 : Shape := ⟨2, ![1, 1]⟩
abbrev S1x1x64x128 : Shape := ⟨4, ![1, 1, 64, 128]⟩
abbrev S128x128 : Shape := ⟨2, ![128, 128]⟩
abbrev S1x1x256x128 : Shape := ⟨4, ![1, 1, 256, 128]⟩
abbrev S256x128 : Shape := ⟨2, ![256, 128]⟩
abbrev S128x256 : Shape := ⟨2, ![128, 256]⟩
abbrev S1x128x256 : Shape := ⟨3, ![1, 128, 256]⟩
abbrev S1x1x2048x128 : Shape := ⟨4, ![1, 1, 2048, 128]⟩
abbrev S2048x128 : Shape := ⟨2, ![2048, 128]⟩
abbrev S128x2048 : Shape := ⟨2, ![128, 2048]⟩
abbrev S1x128x2048 : Shape := ⟨3, ![1, 128, 2048]⟩
abbrev S1x128x2304 : Shape := ⟨3, ![1, 128, 2304]⟩
abbrev S128x2304 : Shape := ⟨2, ![128, 2304]⟩
abbrev S128x1 : Shape := ⟨2, ![128, 1]⟩
abbrev S256x256 : Shape := ⟨2, ![256, 256]⟩
abbrev S2048x256 : Shape := ⟨2, ![2048, 256]⟩
abbrev S1x64x128 : Shape := ⟨3, ![1, 64, 128]⟩
abbrev S1x2048x128 : Shape := ⟨3, ![1, 2048, 128]⟩
abbrev S2048 : Shape := ⟨1, ![2048]⟩
abbrev S2048x1 : Shape := ⟨2, ![2048, 1]⟩

abbrev nBuf : Space → Nat
  | .hbm => 38
  | .vmem => 16
  | .smem => 0
  | _ => 0

abbrev bufTy : (tb : Table) → Fin (tcTables nBuf tb) → BufTy
  | .hbm, ⟨0, _⟩ => ⟨S16x2048x512, .f32⟩
  | .hbm, ⟨1, _⟩ => ⟨S16x256x512, .f32⟩
  | .hbm, ⟨2, _⟩ => ⟨S16x256x512, .f32⟩
  | .hbm, ⟨3, _⟩ => ⟨S16x2048x512, .f32⟩
  | .hbm, ⟨4, _⟩ => ⟨S16x2048x512, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16x2048x4x128, .f32⟩
  | .hbm, ⟨20, _⟩ => ⟨S16x4x2048x128, .f32⟩
  | .hbm, ⟨21, _⟩ => ⟨S16x4x2048x128, .f32⟩
  | .hbm, ⟨22, _⟩ => ⟨S16x4x2048x128, .f32⟩
  | .hbm, ⟨23, _⟩ => ⟨S16x4x2048x128, .bf16⟩
  | .hbm, ⟨24, _⟩ => ⟨S16x256x4x128, .f32⟩
  | .hbm, ⟨25, _⟩ => ⟨S16x4x256x128, .f32⟩
  | .hbm, ⟨26, _⟩ => ⟨S16x4x256x128, .bf16⟩
  | .hbm, ⟨27, _⟩ => ⟨S16x256x4x128, .f32⟩
  | .hbm, ⟨28, _⟩ => ⟨S16x4x256x128, .f32⟩
  | .hbm, ⟨29, _⟩ => ⟨S16x4x256x128, .bf16⟩
  | .hbm, ⟨30, _⟩ => ⟨S16x2048x4x128, .f32⟩
  | .hbm, ⟨31, _⟩ => ⟨S16x4x2048x128, .f32⟩
  | .hbm, ⟨32, _⟩ => ⟨S16x4x2048x128, .bf16⟩
  | .hbm, ⟨33, _⟩ => ⟨S16x2048x4x128, .f32⟩
  | .hbm, ⟨34, _⟩ => ⟨S16x4x2048x128, .f32⟩
  | .hbm, ⟨35, _⟩ => ⟨S16x4x2048x128, .bf16⟩
  | .hbm, ⟨36, _⟩ => ⟨S1x128, .f32⟩
  | .hbm, ⟨37, _⟩ => ⟨S16x2048x512, .bf16⟩
  | .local _ .vmem, ⟨0, _⟩ => ⟨S4x64, .f32⟩
  | .local _ .vmem, ⟨1, _⟩ => ⟨S1x128, .f32⟩
  | .local _ .vmem, ⟨2, _⟩ => ⟨S1x2x2048x128, .bf16⟩
  | .local _ .vmem, ⟨3, _⟩ => ⟨S1x2x2048x128, .bf16⟩
  | .local _ .vmem, ⟨4, _⟩ => ⟨S1x2x256x128, .bf16⟩
  | .local _ .vmem, ⟨5, _⟩ => ⟨S1x2x256x128, .bf16⟩
  | .local _ .vmem, ⟨6, _⟩ => ⟨S1x2x256x128, .bf16⟩
  | .local _ .vmem, ⟨7, _⟩ => ⟨S1x2x256x128, .bf16⟩
  | .local _ .vmem, ⟨8, _⟩ => ⟨S1x2x2048x128, .bf16⟩
  | .local _ .vmem, ⟨9, _⟩ => ⟨S1x2x2048x128, .bf16⟩
  | .local _ .vmem, ⟨10, _⟩ => ⟨S1x2x2048x128, .bf16⟩
  | .local _ .vmem, ⟨11, _⟩ => ⟨S1x2x2048x128, .bf16⟩
  | .local _ .vmem, ⟨12, _⟩ => ⟨S1x2048x256, .bf16⟩
  | .local _ .vmem, ⟨13, _⟩ => ⟨S1x2048x256, .bf16⟩
  | .local _ .vmem, ⟨14, _⟩ => ⟨S2x2048x128, .f32⟩
  | .local _ .vmem, ⟨15, _⟩ => ⟨S2x128x2304, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16x2048x512 : Shape := ⟨3, ![16, 2048, 512]⟩
abbrev S16x256x512 : Shape := ⟨3, ![16, 256, 512]⟩
abbrev S64 : Shape := ⟨1, ![64]⟩
abbrev S128 : Shape := ⟨1, ![128]⟩
abbrev S16x2304x512 : Shape := ⟨3, ![16, 2304, 512]⟩
abbrev S16x2048x4x128 : Shape := ⟨4, ![16, 2048, 4, 128]⟩
abbrev S16x2048x4x64 : Shape := ⟨4, ![16, 2048, 4, 64]⟩
abbrev S16x2304x4x128 : Shape := ⟨4, ![16, 2304, 4, 128]⟩
abbrev S16x2304x4x64 : Shape := ⟨4, ![16, 2304, 4, 64]⟩
abbrev S_ : Shape := ⟨0, ![]⟩
abbrev S16x4x2048x2304 : Shape := ⟨4, ![16, 4, 2048, 2304]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x256x512, .f32⟩
  | .hbm, ⟨2, _⟩ => ⟨S16x256x512, .f32⟩
  | .hbm, ⟨3, _⟩ => ⟨S16x2048x512, .f32⟩
  | .hbm, ⟨4, _⟩ => ⟨S16x2048x512, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S16x2304x512, .f32⟩
  | .hbm, ⟨11, _⟩ => ⟨S16x2304x512, .f32⟩
  | .hbm, ⟨12, _⟩ => ⟨S16x2048x4x128, .f32⟩
  | .hbm, ⟨13, _⟩ => ⟨S16x2048x4x64, .f32⟩
  | .hbm, ⟨14, _⟩ => ⟨S16x2048x4x64, .f32⟩
  | .hbm, ⟨15, _⟩ => ⟨S16x2304x4x128, .f32⟩
  | .hbm, ⟨16, _⟩ => ⟨S16x2304x4x64, .f32⟩
  | .hbm, ⟨17, _⟩ => ⟨S16x2304x4x64, .f32⟩
  | .hbm, ⟨18, _⟩ => ⟨S16x2304x4x128, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16x4x2048x2304, .f32⟩
  | .hbm, ⟨31, _⟩ => ⟨S_, .f32⟩
  | .hbm, ⟨32, _⟩ => ⟨S16x4x2048x2304, .f32⟩
  | .hbm, ⟨33, _⟩ => ⟨S16x4x2048x2304, .f32⟩
  | .hbm, ⟨34, _⟩ => ⟨S_, .f32⟩
  | .hbm, ⟨35, _⟩ => ⟨S16x4x2048, .f32⟩
  | .hbm, ⟨36, _⟩ => ⟨S_, .f32⟩
  | .hbm, ⟨37, _⟩ => ⟨S16x4x2048, .f32⟩
  | .hbm, ⟨38, _⟩ => ⟨S16x4x2048, .f32⟩
  | .hbm, ⟨39, _⟩ => ⟨S16x4x2048x1, .f32⟩
  | .hbm, ⟨40, _⟩ => ⟨S16x4x2048x2304, .f32⟩
  | .hbm, ⟨41, _⟩ => ⟨S16x4x2048x2304, .f32⟩
  | .hbm, ⟨42, _⟩ => ⟨S16x4x2048x2304, .f32⟩
  | .hbm, ⟨43, _⟩ => ⟨S_, .f32⟩
  | .hbm, ⟨44, _⟩ => ⟨S16x4x2048, .f32⟩
  | .hbm, ⟨45, _⟩ => ⟨S16x4x2048x1, .f32⟩
  | .hbm, ⟨46, _⟩ => ⟨S16x4x2048x2304, .f32⟩
  | .hbm, ⟨47, _⟩ => ⟨S16x4x2048x2304, .f32⟩
  | .hbm, ⟨48, _⟩ => ⟨S16x4x128x2048, .f32⟩
  | .hbm, ⟨49, _⟩ => ⟨S16x2048x4x128, .f32⟩
  | .hbm, ⟨50, _⟩ => ⟨S16x4x2048x2304, .f32⟩
  | .hbm, ⟨51, _⟩ => ⟨S_, .f32⟩
  | .hbm, ⟨52, _⟩ => ⟨S16x4x2048x2304, .f32⟩
  | .hbm, ⟨53, _⟩ => ⟨S16x4x2048x2304, .f32⟩
  | .hbm, ⟨54, _⟩ => ⟨S_, .f32⟩
  | .hbm, ⟨55, _⟩ => ⟨S16x4x2048, .f32⟩
  | .hbm, ⟨56, _⟩ => ⟨S_, .f32⟩
  | .hbm, ⟨57, _⟩ => ⟨S16x4x2048, .f32⟩
  | .hbm, ⟨58, _⟩ => ⟨S16x4x2048, .f32⟩
  | .hbm, ⟨59, _⟩ => ⟨S16x4x2048x1, .f32⟩
  | .hbm, ⟨60, _⟩ => ⟨S16x4x2048x2304, .f32⟩
  | .hbm, ⟨61, _⟩ => ⟨S16x4x2048x2304, .f32⟩
  | .hbm, ⟨62, _⟩ => ⟨S16x4x2048x2304, .f32⟩
  | .hbm, ⟨63, _⟩ => ⟨S_, .f32⟩
  | .hbm, ⟨64, _⟩ => ⟨S16x4x2048, .f32⟩
  | .hbm, ⟨65, _⟩ => ⟨S16x4x2048x1, .f32⟩
  | .hbm, ⟨66, _⟩ => ⟨S16x4x2048x2304, .f32⟩
  | .hbm, ⟨67, _⟩ => ⟨S16x4x2048x2304, .f32⟩
  | .hbm, ⟨68, _⟩ => ⟨S16x4x128x2048, .f32⟩
  | .hbm, ⟨69, _⟩ => ⟨S16x2048x4x128, .f32⟩
  | .hbm, ⟨70, _⟩ => ⟨S16x2048x4x128, .f32⟩
  | .hbm, ⟨71, _⟩ => ⟨S16x2048x4x128, .f32⟩
  | .hbm, ⟨72, _⟩ => ⟨S16x2048x4x128, .f32⟩
  | .hbm, ⟨73, _⟩ => ⟨S16x2048x4x128, .f32⟩
  | .hbm, ⟨74, _⟩ => ⟨S_, .f32⟩
  | .hbm, ⟨75, _⟩ => ⟨S16x2048x4, .f32⟩
  | .hbm, ⟨76, _⟩ => ⟨S16x2048x4x1, .f32⟩
  | .hbm, ⟨77, _⟩ => ⟨S_, .f32⟩
  | .hbm, ⟨78, _⟩ => ⟨S16x2048x4x1, .f32⟩
  | .hbm, ⟨79, _⟩ => ⟨S16x2048x4x1, .f32⟩
  | .hbm, ⟨80, _⟩ => ⟨S_, .f32⟩
  | .hbm, ⟨81, _⟩ => ⟨S16x2048x4x1, .f32⟩
  | .hbm, ⟨82, _⟩ => ⟨S16x2048x4x1, .f32⟩
  | .hbm, ⟨83, _⟩ => ⟨S16x2048x4x1, .f32⟩
  | .hbm, ⟨84, _⟩ => ⟨S16x2048x4x128, .f32⟩
  | .hbm, ⟨85, _⟩ => ⟨S16x2048x4x128, .f32⟩
  | .hbm, ⟨86, _⟩ => ⟨S1x1x1x128, .f32⟩
  | .hbm, ⟨87, _⟩ => ⟨S16x2048x4x128, .f32⟩
  | .hbm, ⟨88, _⟩ => ⟨S16x2048x4x128, .f32⟩
  | .hbm, ⟨89, _⟩ => ⟨S_, .f32⟩
  | .hbm, ⟨90, _⟩ => ⟨S16x2048x4x128, .f32⟩
  | .hbm, ⟨91, _⟩ => ⟨S16x2048x4x128, .f32⟩
  | .hbm, ⟨92, _⟩ => ⟨S16x2048x512, .f32⟩
  | .hbm, ⟨93, _⟩ => ⟨S16x2048x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x512 : Shape := ⟨3, ![16, 2048, 512]⟩
abbrev S16x2048x3072 : Shape := ⟨3, ![16, 2048, 3072]⟩
abbrev S24x6144 : Shape := ⟨2, ![24, 6144]⟩
abbrev S2x1024 : Shape := ⟨2, ![2, 1024]⟩
abbrev S2x3x512 : Shape := ⟨3, ![2, 3, 512]⟩
abbrev S2x512x1024 : Shape := ⟨3, ![2, 512, 1024]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S1024 : Shape := ⟨1, ![1024]⟩
abbrev S24x6x1024 : Shape := ⟨3, ![24, 6, 1024]⟩
abbrev S1x1024 : Shape := ⟨2, ![1, 1024]⟩
abbrev S1x3x512 : Shape := ⟨3, ![1, 3, 512]⟩
abbrev S3x512 : Shape := ⟨2, ![3, 512]⟩
abbrev S1x512x1024 : Shape := ⟨3, ![1, 512, 1024]⟩
abbrev S1x512x512 : Shape := ⟨3, ![1, 512, 512]⟩
abbrev S1x8x512 : Shape := ⟨3, ![1, 8, 512]⟩
abbrev S1x512x3072 : Shape := ⟨3, ![1, 512, 3072]⟩
abbrev S1x6x1024 : Shape := ⟨3, ![1, 6, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S512x512 : Shape := ⟨2, ![512, 512]⟩
abbrev S1x1x512 : Shape := ⟨3, ![1, 1, 512]⟩
abbrev S1x512 : Shape := ⟨2, ![1, 512]⟩
abbrev S1x256x1024 : Shape := ⟨3, ![1, 256, 1024]⟩
abbrev S256x1024 : Shape := ⟨2, ![256, 1024]⟩
abbrev S1x256x512 : Shape := ⟨3, ![1, 256, 512]⟩
abbrev S256x512 : Shape := ⟨2, ![256, 512]⟩
abbrev S512x1024 : Shape := ⟨2, ![512, 1024]⟩
abbrev S1x1x1024 : Shape := ⟨3, ![1, 1, 1024]⟩
abbrev S1024x1024 : Shape := ⟨2, ![1024, 1024]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩

abbrev nBuf : Space → Nat
  | .hbm => 32
  | .vmem => 29
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x512, .f32⟩
  | .hbm, ⟨5, _⟩ => ⟨S16x2048x3072, .f32⟩
  | .hbm, ⟨6, _⟩ => ⟨S24x6144, .f32⟩
  | .hbm, ⟨7, _⟩ => ⟨S2x1024, .f32⟩
  | .hbm, ⟨8, _⟩ => ⟨S2x3x512, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x1024x1024, .f32⟩
  | .hbm, ⟨13, _⟩ => ⟨S2x1024x5632, .f32⟩
  | .hbm, ⟨14, _⟩ => ⟨S2x2816x1024, .f32⟩
  | .hbm, ⟨15, _⟩ => ⟨S1024, .f32⟩
  | .hbm, ⟨16, _⟩ => ⟨S2x512x1024, .bf16⟩
  | .hbm, ⟨17, _⟩ => ⟨S2x512x1024, .bf16⟩
  | .hbm, ⟨18, _⟩ => ⟨S2x512x1024, .bf16⟩
  | .hbm, ⟨19, _⟩ => ⟨S2x1024x1024, .bf16⟩
  | .hbm, ⟨20, _⟩ => ⟨S2x1024x5632, .bf16⟩
  | .hbm, ⟨21, _⟩ => ⟨S2x2816x1024, .bf16⟩
  | .hbm, ⟨22, _⟩ => ⟨S16x2048x512, .bf16⟩
  | .hbm, ⟨23, _⟩ => ⟨S16x2048x512, .bf16⟩
  | .hbm, ⟨24, _⟩ => ⟨S24x6x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x3x512, .f32⟩
  | .hbm, ⟨29, _⟩ => ⟨S3x512, .f32⟩
  | .hbm, ⟨30, _⟩ => ⟨S1x1024, .f32⟩
  | .hbm, ⟨31, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x8x512, .f32⟩
  | .local _ .vmem, ⟨11, _⟩ => ⟨S1x8x512, .f32⟩
  | .local _ .vmem, ⟨12, _⟩ => ⟨S1x8x512, .f32⟩
  | .local _ .vmem, ⟨13, _⟩ => ⟨S1x8x512, .f32⟩
  | .local _ .vmem, ⟨14, _⟩ => ⟨S1x512x3072, .f32⟩
  | .local _ .vmem, ⟨15, _⟩ => ⟨S1x512x3072, .f32⟩
  | .local _ .vmem, ⟨16, _⟩ => ⟨S1x6x1024, .f32⟩
  | .local _ .vmem, ⟨17, _⟩ => ⟨S1x6x1024, .f32⟩
  | .local _ .vmem, ⟨18, _⟩ => ⟨S1x1024, .f32⟩
  | .local _ .vmem, ⟨19, _⟩ => ⟨S3x512, .f32⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x1024x1024, .bf16⟩
  | .local _ .vmem, ⟨24, _⟩ => ⟨S1x1024x5632, .bf16⟩
  | .local _ .vmem, ⟨25, _⟩ => ⟨S1x2816x1024, .bf16⟩
  | .local _ .vmem, ⟨26, _⟩ => ⟨S1x1024, .f32⟩
  | .local _ .vmem, ⟨27, _⟩ => ⟨S1x512x1024, .f32⟩
  | .local _ .vmem, ⟨28, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference2Ideal.lean ====
abbrev S16x2048x1024 : Shape := ⟨3, ![16, 2048, 1024]⟩
abbrev S16x2048x512 : Shape := ⟨3, ![16, 2048, 512]⟩
abbrev S16x2048x3072 : Shape := ⟨3, ![16, 2048, 3072]⟩
abbrev S24x6144 : Shape := ⟨2, ![24, 6144]⟩
abbrev S2x1024 : Shape := ⟨2, ![2, 1024]⟩
abbrev S2x3x512 : Shape := ⟨3, ![2, 3, 512]⟩
abbrev S2x512x1024 : Shape := ⟨3, ![2, 512, 1024]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S1024 : Shape := ⟨1, ![1024]⟩
abbrev S24x6x1024 : Shape := ⟨3, ![24, 6, 1024]⟩
abbrev S16x1x1024 : Shape := ⟨3, ![16, 1, 1024]⟩
abbrev S_ : Shape := ⟨0, ![]⟩
abbrev S16x2050x512 : Shape := ⟨3, ![16, 2050, 512]⟩
abbrev S1x1x512 : Shape := ⟨3, ![1, 1, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x2816x1024 : Shape := ⟨3, ![1, 2816, 1024]⟩
abbrev S2816x1024 : Shape := ⟨2, ![2816, 1024]⟩

abbrev nBuf : Space → Nat
  | .hbm => 124
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x512, .f32⟩
  | .hbm, ⟨5, _⟩ => ⟨S16x2048x3072, .f32⟩
  | .hbm, ⟨6, _⟩ => ⟨S24x6144, .f32⟩
  | .hbm, ⟨7, _⟩ => ⟨S2x1024, .f32⟩
  | .hbm, ⟨8, _⟩ => ⟨S2x3x512, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x1024x1024, .f32⟩
  | .hbm, ⟨13, _⟩ => ⟨S2x1024x5632, .f32⟩
  | .hbm, ⟨14, _⟩ => ⟨S2x2816x1024, .f32⟩
  | .hbm, ⟨15, _⟩ => ⟨S1024, .f32⟩
  | .hbm, ⟨16, _⟩ => ⟨S24x6x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x1x1024, .f32⟩
  | .hbm, ⟨22, _⟩ => ⟨S16x1x1024, .f32⟩
  | .hbm, ⟨23, _⟩ => ⟨S_, .f32⟩
  | .hbm, ⟨24, _⟩ => ⟨S16x2050x512, .f32⟩
  | .hbm, ⟨25, _⟩ => ⟨S1x1x512, .f32⟩
  | .hbm, ⟨26, _⟩ => ⟨S1x1x512, .f32⟩
  | .hbm, ⟨27, _⟩ => ⟨S1x1x512, .f32⟩
  | .hbm, ⟨28, _⟩ => ⟨S16x2048x512, .f32⟩
  | .hbm, ⟨29, _⟩ => ⟨S16x2048x512, .f32⟩
  | .hbm, ⟨30, _⟩ => ⟨S16x2048x512, .f32⟩
  | .hbm, ⟨31, _⟩ => ⟨S16x2048x512, .f32⟩
  | .hbm, ⟨32, _⟩ => ⟨S16x2048x512, .f32⟩
  | .hbm, ⟨33, _⟩ => ⟨S16x2048x512, .f32⟩
  | .hbm, ⟨34, _⟩ => ⟨S16x2048x512, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S16x2048x512, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S1x512x1024, .f32⟩
  | .hbm, ⟨43, _⟩ => ⟨S512x1024, .f32⟩
  | .hbm, ⟨44, _⟩ => ⟨S16x2048x1024, .f32⟩
  | .hbm, ⟨45, _⟩ => ⟨S16x2048x1024, .f32⟩
  | .hbm, ⟨46, _⟩ => ⟨S1x512x1024, .f32⟩
  | .hbm, ⟨47, _⟩ => ⟨S512x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S1x512x1024, .f32⟩
  | .hbm, ⟨52, _⟩ => ⟨S512x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S1x1024x1024, .f32⟩
  | .hbm, ⟨57, _⟩ => ⟨S1024x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S1x1024, .f32⟩
  | .hbm, ⟨63, _⟩ => ⟨S1024, .f32⟩
  | .hbm, ⟨64, _⟩ => ⟨S16x2048x1024, .f32⟩
  | .hbm, ⟨65, _⟩ => ⟨S_, .f32⟩
  | .hbm, ⟨66, _⟩ => ⟨S16x2048, .f32⟩
  | .hbm, ⟨67, _⟩ => ⟨S16x2048x1, .f32⟩
  | .hbm, ⟨68, _⟩ => ⟨S_, .f32⟩
  | .hbm, ⟨69, _⟩ => ⟨S16x2048x1, .f32⟩
  | .hbm, ⟨70, _⟩ => ⟨S16x2048x1, .f32⟩
  | .hbm, ⟨71, _⟩ => ⟨S_, .f32⟩
  | .hbm, ⟨72, _⟩ => ⟨S16x2048x1, .f32⟩
  | .hbm, ⟨73, _⟩ => ⟨S16x2048x1, .f32⟩
  | .hbm, ⟨74, _⟩ => ⟨S16x2048x1, .f32⟩
  | .hbm, ⟨75, _⟩ => ⟨S16x2048x1024, .f32⟩
  | .hbm, ⟨76, _⟩ => ⟨S16x2048x1024, .f32⟩
  | .hbm, ⟨77, _⟩ => ⟨S1x1x1024, .f32⟩
  | .hbm, ⟨78, _⟩ => ⟨S16x2048x1024, .f32⟩
  | .hbm, ⟨79, _⟩ => ⟨S16x2048x1024, .f32⟩
  | .hbm, ⟨80, _⟩ => ⟨S_, .f32⟩
  | .hbm, ⟨81, _⟩ => ⟨S16x1x1024, .f32⟩
  | .hbm, ⟨82, _⟩ => ⟨S16x1x1024, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S1x1024x5632, .f32⟩
  | .hbm, ⟨88, _⟩ => ⟨S1024x5632, .f32⟩
  | .hbm, ⟨89, _⟩ => ⟨S16x2048x5632, .f32⟩
  | .hbm, ⟨90, _⟩ => ⟨S16x2048x2816, .f32⟩
  | .hbm, ⟨91, _⟩ => ⟨S16x2048x2816, .f32⟩
  | .hbm, ⟨92, _⟩ => ⟨S16x2048x2816, .f32⟩
  | .hbm, ⟨93, _⟩ => ⟨S16x2048x2816, .f32⟩
  | .hbm, ⟨94, _⟩ => ⟨S_, .f32⟩
  | .hbm, ⟨95, _⟩ => ⟨S16x2048x2816, .f32⟩
  | .hbm, ⟨96, _⟩ => ⟨S16x2048x2816, .f32⟩
  | .hbm, ⟨97, _⟩ => ⟨S_, .f32⟩
  | .hbm, ⟨98, _⟩ => ⟨S16x2048x2816, .f32⟩
  | .hbm, ⟨99, _⟩ => ⟨S16x2048x2816, .f32⟩
  | .hbm, ⟨100, _⟩ => ⟨S16x2048x2816, .f32⟩
  | .hbm, ⟨101, _⟩ => ⟨S16x2048x2816, .f32⟩
  | .hbm, ⟨102, _⟩ => ⟨S1x2816x1024, .f32⟩
  | .hbm, ⟨103, _⟩ => ⟨S2816x1024, .f32⟩
  | .hbm, ⟨104, _⟩ => ⟨S16x2048x1024, .f32⟩
  | .hbm, ⟨105, _⟩ => ⟨S16x2048x1024, .f32⟩
  | .hbm, ⟨106, _⟩ => ⟨S16x2048x1024, .f32⟩
  | .hbm, ⟨107, _⟩ => ⟨S16x2048x1024, .f32⟩
  | .hbm, ⟨108, _⟩ => ⟨S16x2048x1024, .f32⟩
  | .hbm, ⟨109, _⟩ => ⟨S_, .f32⟩
  | .hbm, ⟨110, _⟩ => ⟨S16x2048, .f32⟩
  | .hbm, ⟨111, _⟩ => ⟨S16x2048x1, .f32⟩
  | .hbm, ⟨112, _⟩ => ⟨S_, .f32⟩
  | .hbm, ⟨113, _⟩ => ⟨S16x2048x1, .f32⟩
  | .hbm, ⟨114, _⟩ => ⟨S16x2048x1, .f32⟩
  | .hbm, ⟨115, _⟩ => ⟨S_, .f32⟩
  | .hbm, ⟨116, _⟩ => ⟨S16x2048x1, .f32⟩
  | .hbm, ⟨117, _⟩ => ⟨S16x2048x1, .f32⟩
  | .hbm, ⟨118, _⟩ => ⟨S16x2048x1, .f32⟩
  | .hbm, ⟨119, _⟩ => ⟨S16x2048x1024, .f32⟩
  | .hbm, ⟨120, _⟩ => ⟨S16x2048x1024, .f32⟩
  | .hbm, ⟨121, _⟩ => ⟨S1x1x1024, .f32⟩
  | .hbm, ⟨122, _⟩ => ⟨S16x2048x1024, .f32⟩
  | .hbm, ⟨123, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_0 : Ref sig .tc := ⟨.hbm, 65, rfl⟩
abbrev main_v48 : Ref sig .tc := ⟨.hbm, 66, rfl⟩
abbrev main_v49 : Ref sig .tc := ⟨.hbm, 67, rfl⟩
abbrev main_cst_1 : Ref sig .tc := ⟨.hbm, 68, rfl⟩
abbrev main_v50 : Ref sig .tc := ⟨.hbm, 69, rfl⟩
abbrev main_v51 : Ref sig .tc := ⟨.hbm, 70, rfl⟩
abbrev main_cst_2 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_3 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call0_v0 : Ref sig .tc := ⟨.hbm, 92, rfl⟩
abbrev main_call0_v1 : Ref sig .tc := ⟨.hbm, 93, rfl⟩
abbrev main_call0_cst : Ref sig .tc := ⟨.hbm, 94, rfl⟩
abbrev main_call0_v2 : Ref sig .tc := ⟨.hbm, 95, rfl⟩
abbrev main_call0_v3 : Ref sig .tc := ⟨.hbm, 96, rfl⟩
abbrev main_call0_cst_0 : Ref sig .tc := ⟨.hbm, 97, rfl⟩
abbrev main_call0_v4 : Ref sig .tc := ⟨.hbm, 98, rfl⟩
abbrev main_call0_v5 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_4 : Ref sig .tc := ⟨.hbm, 109, rfl⟩
abbrev main_v80 : Ref sig .tc := ⟨.hbm, 110, rfl⟩
abbrev main_v81 : Ref sig .tc := ⟨.hbm, 111, rfl⟩
abbrev main_cst_5 : Ref sig .tc := ⟨.hbm, 112, rfl⟩
abbrev main_v82 : Ref sig .tc := ⟨.hbm, 113, rfl⟩
abbrev main_v83 : Ref sig .tc := ⟨.hbm, 114, rfl⟩
abbrev main_cst_6 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x512 : Shape := ⟨3, ![16, 2048, 512]⟩
abbrev S16x2048x3072 : Shape := ⟨3, ![16, 2048, 3072]⟩
abbrev S24x6144 : Shape := ⟨2, ![24, 6144]⟩
abbrev S2x1024 : Shape := ⟨2, ![2, 1024]⟩
abbrev S2x3x512 : Shape := ⟨3, ![2, 3, 512]⟩
abbrev S2x512x1024 : Shape := ⟨3, ![2, 512, 1024]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S24x6x1024 : Shape := ⟨3, ![24, 6, 1024]⟩
abbrev S1x1024 : Shape := ⟨2, ![1, 1024]⟩
abbrev S1024 : Shape := ⟨1, ![1024]⟩
abbrev S1x3x512 : Shape := ⟨3, ![1, 3, 512]⟩
abbrev S3x512 : Shape := ⟨2, ![3, 512]⟩
abbrev S1x512x1024 : Shape := ⟨3, ![1, 512, 1024]⟩
abbrev S1x512x512 : Shape := ⟨3, ![1, 512, 512]⟩
abbrev S1x8x512 : Shape := ⟨3, ![1, 8, 512]⟩
abbrev S1x512x3072 : Shape := ⟨3, ![1, 512, 3072]⟩
abbrev S1x6x1024 : Shape := ⟨3, ![1, 6, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S512x512 : Shape := ⟨2, ![512, 512]⟩
abbrev S1x1x512 : Shape := ⟨3, ![1, 1, 512]⟩
abbrev S1x512 : Shape := ⟨2, ![1, 512]⟩
abbrev S1x256x1024 : Shape := ⟨3, ![1, 256, 1024]⟩
abbrev S256x1024 : Shape := ⟨2, ![256, 1024]⟩
abbrev S1x256x512 : Shape := ⟨3, ![1, 256, 512]⟩
abbrev S256x512 : Shape := ⟨2, ![256, 512]⟩
abbrev S512x1024 : Shape := ⟨2, ![512, 1024]⟩
abbrev S1x1x1024 : Shape := ⟨3, ![1, 1, 1024]⟩
abbrev S1024x1024 : Shape := ⟨2, ![1024, 1024]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩

abbrev nBuf : Space → Nat
  | .hbm => 30
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x512, .f32⟩
  | .hbm, ⟨5, _⟩ => ⟨S16x2048x3072, .f32⟩
  | .hbm, ⟨6, _⟩ => ⟨S24x6144, .f32⟩
  | .hbm, ⟨7, _⟩ => ⟨S2x1024, .f32⟩
  | .hbm, ⟨8, _⟩ => ⟨S2x3x512, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x1024x1024, .f32⟩
  | .hbm, ⟨13, _⟩ => ⟨S2x1024x5632, .f32⟩
  | .hbm, ⟨14, _⟩ => ⟨S2x2816x1024, .f32⟩
  | .hbm, ⟨15, _⟩ => ⟨S2x512x1024, .bf16⟩
  | .hbm, ⟨16, _⟩ => ⟨S2x512x1024, .bf16⟩
  | .hbm, ⟨17, _⟩ => ⟨S2x512x1024, .bf16⟩
  | .hbm, ⟨18, _⟩ => ⟨S2x1024x1024, .bf16⟩
  | .hbm, ⟨19, _⟩ => ⟨S2x1024x5632, .bf16⟩
  | .hbm, ⟨20, _⟩ => ⟨S2x2816x1024, .bf16⟩
  | .hbm, ⟨21, _⟩ => ⟨S16x2048x512, .bf16⟩
  | .hbm, ⟨22, _⟩ => ⟨S16x2048x512, .bf16⟩
  | .hbm, ⟨23, _⟩ => ⟨S24x6x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x3x512, .f32⟩
  | .hbm, ⟨28, _⟩ => ⟨S3x512, .f32⟩
  | .hbm, ⟨29, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x8x512, .f32⟩
  | .local _ .vmem, ⟨11, _⟩ => ⟨S1x8x512, .f32⟩
  | .local _ .vmem, ⟨12, _⟩ => ⟨S1x8x512, .f32⟩
  | .local _ .vmem, ⟨13, _⟩ => ⟨S1x8x512, .f32⟩
  | .local _ .vmem, ⟨14, _⟩ => ⟨S1x512x3072, .f32⟩
  | .local _ .vmem, ⟨15, _⟩ => ⟨S1x512x3072, .f32⟩
  | .local _ .vmem, ⟨16, _⟩ => ⟨S1x6x1024, .f32⟩
  | .local _ .vmem, ⟨17, _⟩ => ⟨S1x6x1024, .f32⟩
  | .local _ .vmem, ⟨18, _⟩ => ⟨S1x1024, .f32⟩
  | .local _ .vmem, ⟨19, _⟩ => ⟨S3x512, .f32⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x1024x1024, .bf16⟩
  | .local _ .vmem, ⟨24, _⟩ => ⟨S1x1024x5632, .bf16⟩
  | .local _ .vmem, ⟨25, _⟩ => ⟨S1x2816x1024, .bf16⟩
  | .local _ .vmem, ⟨26, _⟩ => ⟨S1x512x1024, .f32⟩
  | .local _ .vmem, ⟨27, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S16x2048x1024 : Shape := ⟨3, ![16, 2048, 1024]⟩
abbrev S16x2048x512 : Shape := ⟨3, ![16, 2048, 512]⟩
abbrev S16x2048x3072 : Shape := ⟨3, ![16, 2048, 3072]⟩
abbrev S24x6144 : Shape := ⟨2, ![24, 6144]⟩
abbrev S2x1024 : Shape := ⟨2, ![2, 1024]⟩
abbrev S2x3x512 : Shape := ⟨3, ![2, 3, 512]⟩
abbrev S2x512x1024 : Shape := ⟨3, ![2, 512, 1024]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S24x6x1024 : Shape := ⟨3, ![24, 6, 1024]⟩
abbrev S16x1x1024 : Shape := ⟨3, ![16, 1, 1024]⟩
abbrev S_ : Shape := ⟨0, ![]⟩
abbrev S16x2050x512 : Shape := ⟨3, ![16, 2050, 512]⟩
abbrev S1x1x512 : Shape := ⟨3, ![1, 1, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x2816x1024 : Shape := ⟨3, ![1, 2816, 1024]⟩
abbrev S2816x1024 : Shape := ⟨2, ![2816, 1024]⟩

abbrev nBuf : Space → Nat
  | .hbm => 107
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x512, .f32⟩
  | .hbm, ⟨5, _⟩ => ⟨S16x2048x3072, .f32⟩
  | .hbm, ⟨6, _⟩ => ⟨S24x6144, .f32⟩
  | .hbm, ⟨7, _⟩ => ⟨S2x1024, .f32⟩
  | .hbm, ⟨8, _⟩ => ⟨S2x3x512, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x1024x1024, .f32⟩
  | .hbm, ⟨13, _⟩ => ⟨S2x1024x5632, .f32⟩
  | .hbm, ⟨14, _⟩ => ⟨S2x2816x1024, .f32⟩
  | .hbm, ⟨15, _⟩ => ⟨S24x6x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x1x1024, .f32⟩
  | .hbm, ⟨22, _⟩ => ⟨S_, .f32⟩
  | .hbm, ⟨23, _⟩ => ⟨S16x2050x512, .f32⟩
  | .hbm, ⟨24, _⟩ => ⟨S1x1x512, .f32⟩
  | .hbm, ⟨25, _⟩ => ⟨S1x1x512, .f32⟩
  | .hbm, ⟨26, _⟩ => ⟨S1x1x512, .f32⟩
  | .hbm, ⟨27, _⟩ => ⟨S16x2048x512, .f32⟩
  | .hbm, ⟨28, _⟩ => ⟨S16x2048x512, .f32⟩
  | .hbm, ⟨29, _⟩ => ⟨S16x2048x512, .f32⟩
  | .hbm, ⟨30, _⟩ => ⟨S16x2048x512, .f32⟩
  | .hbm, ⟨31, _⟩ => ⟨S16x2048x512, .f32⟩
  | .hbm, ⟨32, _⟩ => ⟨S16x2048x512, .f32⟩
  | .hbm, ⟨33, _⟩ => ⟨S16x2048x512, .f32⟩
  | .hbm, ⟨34, _⟩ => ⟨S16x2048x512, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S1x512x1024, .f32⟩
  | .hbm, ⟨42, _⟩ => ⟨S512x1024, .f32⟩
  | .hbm, ⟨43, _⟩ => ⟨S16x2048x1024, .f32⟩
  | .hbm, ⟨44, _⟩ => ⟨S16x2048x1024, .f32⟩
  | .hbm, ⟨45, _⟩ => ⟨S1x512x1024, .f32⟩
  | .hbm, ⟨46, _⟩ => ⟨S512x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S1x512x1024, .f32⟩
  | .hbm, ⟨51, _⟩ => ⟨S512x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S1x1024x1024, .f32⟩
  | .hbm, ⟨56, _⟩ => ⟨S1024x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S1x1024, .f32⟩
  | .hbm, ⟨62, _⟩ => ⟨S1024, .f32⟩
  | .hbm, ⟨63, _⟩ => ⟨S16x2048x1024, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1, .f32⟩
  | .hbm, ⟨74, _⟩ => ⟨S16x2048x1024, .f32⟩
  | .hbm, ⟨75, _⟩ => ⟨S16x2048x1024, .f32⟩
  | .hbm, ⟨76, _⟩ => ⟨S1x1x1024, .f32⟩
  | .hbm, ⟨77, _⟩ => ⟨S16x2048x1024, .f32⟩
  | .hbm, ⟨78, _⟩ => ⟨S16x2048x1024, .f32⟩
  | .hbm, ⟨79, _⟩ => ⟨S_, .f32⟩
  | .hbm, ⟨80, _⟩ => ⟨S16x1x1024, .f32⟩
  | .hbm, ⟨81, _⟩ => ⟨S16x1x1024, .f32⟩
  | .hbm, ⟨82, _⟩ => ⟨S16x2048x1024, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S1x1024x5632, .f32⟩
  | .hbm, ⟨87, _⟩ => ⟨S1024x5632, .f32⟩
  | .hbm, ⟨88, _⟩ => ⟨S16x2048x5632, .f32⟩
  | .hbm, ⟨89, _⟩ => ⟨S16x2048x2816, .f32⟩
  | .hbm, ⟨90, _⟩ => ⟨S16x2048x2816, .f32⟩
  | .hbm, ⟨91, _⟩ => ⟨S16x2048x2816, .f32⟩
  | .hbm, ⟨92, _⟩ => ⟨S16x2048x2816, .f32⟩
  | .hbm, ⟨93, _⟩ => ⟨S_, .f32⟩
  | .hbm, ⟨94, _⟩ => ⟨S16x2048x2816, .f32⟩
  | .hbm, ⟨95, _⟩ => ⟨S16x2048x2816, .f32⟩
  | .hbm, ⟨96, _⟩ => ⟨S_, .f32⟩
  | .hbm, ⟨97, _⟩ => ⟨S16x2048x2816, .f32⟩
  | .hbm, ⟨98, _⟩ => ⟨S16x2048x2816, .f32⟩
  | .hbm, ⟨99, _⟩ => ⟨S16x2048x2816, .f32⟩
  | .hbm, ⟨100, _⟩ => ⟨S16x2048x2816, .f32⟩
  | .hbm, ⟨101, _⟩ => ⟨S1x2816x1024, .f32⟩
  | .hbm, ⟨102, _⟩ => ⟨S2816x1024, .f32⟩
  | .hbm, ⟨103, _⟩ => ⟨S16x2048x1024, .f32⟩
  | .hbm, ⟨104, _⟩ => ⟨S16x2048x1024, .f32⟩
  | .hbm, ⟨105, _⟩ => ⟨S16x2048x1024, .f32⟩
  | .hbm, ⟨106, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_0 : Ref sig .tc := ⟨.hbm, 64, rfl⟩
abbrev main_v48 : Ref sig .tc := ⟨.hbm, 65, rfl⟩
abbrev main_v49 : Ref sig .tc := ⟨.hbm, 66, rfl⟩
abbrev main_cst_1 : Ref sig .tc := ⟨.hbm, 67, rfl⟩
abbrev main_v50 : Ref sig .tc := ⟨.hbm, 68, rfl⟩
abbrev main_v51 : Ref sig .tc := ⟨.hbm, 69, rfl⟩
abbrev main_cst_2 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_3 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_call0_v0 : Ref sig .tc := ⟨.hbm, 91, rfl⟩
abbrev main_call0_v1 : Ref sig .tc := ⟨.hbm, 92, rfl⟩
abbrev main_call0_cst : Ref sig .tc := ⟨.hbm, 93, rfl⟩
abbrev main_call0_v2 : Ref sig .tc := ⟨.hbm, 94, rfl⟩
abbrev main_call0_v3 : Ref sig .tc := ⟨.hbm, 95, rfl⟩
abbrev main_call0_cst_0 : Ref sig .tc := ⟨.hbm, 96, rfl⟩
abbrev main_call0_v4 : Ref sig .tc := ⟨.hbm, 97, rfl⟩
abbrev main_call0_v5 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Kernel4.lean ====
abbrev S16x2048x1024 : Shape := ⟨3, ![16, 2048, 1024]⟩
abbrev S24x6144 : Shape := ⟨2, ![24, 6144]⟩
abbrev S2x1024 : Shape := ⟨2, ![2, 1024]⟩
abbrev S2x1024x6912 : Shape := ⟨3, ![2, 1024, 6912]⟩
abbrev S2x64 : Shape := ⟨2, ![2, 64]⟩
abbrev S2048x2x16 : Shape := ⟨3, ![2048, 2, 16]⟩
abbrev S24x6x1024 : Shape := ⟨3, ![24, 6, 1024]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S128 : Shape := ⟨1, ![128]⟩
abbrev S1x128 : Shape := ⟨2, ![1, 128]⟩
abbrev S2048x1x16 : Shape := ⟨3, ![2048, 1, 16]⟩
abbrev S2048x16 : Shape := ⟨2, ![2048, 16]⟩
abbrev S_ : Shape := ⟨0, ![]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16x4x2048x128 : Shape := ⟨4, ![16, 4, 2048, 128]⟩
abbrev S16x2x2048x128 : Shape := ⟨4, ![16, 2, 2048, 128]⟩
abbrev S16x2048x512 : Shape := ⟨3, ![16, 2048, 512]⟩
abbrev S16x2048x3072 : Shape := ⟨3, ![16, 2048, 3072]⟩
abbrev S1x512x1024 : Shape := ⟨3, ![1, 512, 1024]⟩
abbrev S1x6x1024 : Shape := ⟨3, ![1, 6, 1024]⟩
abbrev S1x1024x6912 : Shape := ⟨3, ![1, 1024, 6912]⟩
abbrev S512x128 : Shape := ⟨2, ![512, 128]⟩
abbrev S1x4x512x128 : Shape := ⟨4, ![1, 4, 512, 128]⟩
abbrev S1x2x512x128 : Shape := ⟨4, ![1, 2, 512, 128]⟩
abbrev S1x512x512 : Shape := ⟨3, ![1, 512, 512]⟩
abbrev S1x512x3072 : Shape := ⟨3, ![1, 512, 3072]⟩
abbrev S512x1024 : Shape := ⟨2, ![512, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x128 : Shape := ⟨2, ![256, 128]⟩
abbrev S1x1024x512 : Shape := ⟨3, ![1, 1024, 512]⟩
abbrev S1024x512 : Shape := ⟨2, ![1024, 512]⟩
abbrev S256x512 : Shape := ⟨2, ![256, 512]⟩
abbrev S1x1x256x128 : Shape := ⟨4, ![1, 1, 256, 128]⟩
abbrev S1x1024x256 : Shape := ⟨3, ![1, 1024, 256]⟩
abbrev S1024x256 : Shape := ⟨2, ![1024, 256]⟩
abbrev S256x256 : Shape := ⟨2, ![256, 256]⟩
abbrev S1x1024x1536 : Shape := ⟨3, ![1, 1024, 1536]⟩
abbrev S1024x1536 : Shape := ⟨2, ![1024, 1536]⟩
abbrev S256x1536 : Shape := ⟨2, ![256, 1536]⟩
abbrev S1x256x512 : Shape := ⟨3, ![1, 256, 512]⟩
abbrev S1x1024x1024 : Shape := ⟨3, ![1, 1024, 1024]⟩
abbrev S1024x1024 : Shape := ⟨2, ![1024, 1024]⟩

abbrev nBuf : Space → Nat
  | .hbm => 58
  | .vmem => 33
  | .smem => 0
  | _ => 0

abbrev bufTy : (tb : Table) → Fin (tcTables nBuf tb) → BufTy
  | .hbm, ⟨0, _⟩ => ⟨S16x2048x1024, .f32⟩
  | .hbm, ⟨1, _⟩ => ⟨S24x6144, .f32⟩
  | .hbm, ⟨2, _⟩ => ⟨S2x1024, .f32⟩
  | .hbm, ⟨3, _⟩ => ⟨S2x1024x6912, .f32⟩
  | .hbm, ⟨4, _⟩ => ⟨S2x64, .f32⟩
  | .hbm, ⟨5, _⟩ => ⟨S2x64, .f32⟩
  | .hbm, ⟨6, _⟩ => ⟨S2048x2x16, .f32⟩
  | .hbm, ⟨7, _⟩ => ⟨S2048x2x16, .f32⟩
  | .hbm, ⟨8, _⟩ => ⟨S24x6x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S2x1024x6912, .bf16⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S1x128, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S2x64, .f32⟩
  | .hbm, ⟨23, _⟩ => ⟨S128, .f32⟩
  | .hbm, ⟨24, _⟩ => ⟨S1x128, .f32⟩
  | .hbm, ⟨25, _⟩ => ⟨S2048x1x16, .f32⟩
  | .hbm, ⟨26, _⟩ => ⟨S2048x16, .f32⟩
  | .hbm, ⟨27, _⟩ => ⟨S2048x1x16, .f32⟩
  | .hbm, ⟨28, _⟩ => ⟨S2048x16, .f32⟩
  | .hbm, ⟨29, _⟩ => ⟨S2048x1x16, .f32⟩
  | .hbm, ⟨30, _⟩ => ⟨S2048x16, .f32⟩
  | .hbm, ⟨31, _⟩ => ⟨S2048x1x16, .f32⟩
  | .hbm, ⟨32, _⟩ => ⟨S2048x16, .f32⟩
  | .hbm, ⟨33, _⟩ => ⟨S_, .f32⟩
  | .hbm, ⟨34, _⟩ => ⟨S2048x16, .f32⟩
  | .hbm, ⟨35, _⟩ => ⟨S2048x64, .f32⟩
  | .hbm, ⟨36, _⟩ => ⟨S1x2048x1x64, .f32⟩
  | .hbm, ⟨37, _⟩ => ⟨S1x2048x2x64, .f32⟩
  | .hbm, ⟨38, _⟩ => ⟨S2048x128, .f32⟩
  | .hbm, ⟨39, _⟩ => ⟨S2048x16, .f32⟩
  | .hbm, ⟨40, _⟩ => ⟨S2048x16, .f32⟩
  | .hbm, ⟨41, _⟩ => ⟨S2048x64, .f32⟩
  | .hbm, ⟨42, _⟩ => ⟨S1x2048x1x64, .f32⟩
  | .hbm, ⟨43, _⟩ => ⟨S1x2048x2x64, .f32⟩
  | .hbm, ⟨44, _⟩ => ⟨S2048x128, .f32⟩
  | .hbm, ⟨45, _⟩ => ⟨S2048x64, .f32⟩
  | .hbm, ⟨46, _⟩ => ⟨S1x2048x1x64, .f32⟩
  | .hbm, ⟨47, _⟩ => ⟨S1x2048x2x64, .f32⟩
  | .hbm, ⟨48, _⟩ => ⟨S2048x128, .f32⟩
  | .hbm, ⟨49, _⟩ => ⟨S16x4x2048x128, .bf16⟩
  | .hbm, ⟨50, _⟩ => ⟨S16x4x2048x128, .bf16⟩
  | .hbm, ⟨51, _⟩ => ⟨S16x4x2048x128, .bf16⟩
  | .hbm, ⟨52, _⟩ => ⟨S16x4x2048x128, .bf16⟩
  | .hbm, ⟨53, _⟩ => ⟨S16x2x2048x128, .bf16⟩
  | .hbm, ⟨54, _⟩ => ⟨S16x2x2048x128, .bf16⟩
  | .hbm, ⟨55, _⟩ => ⟨S16x2048x512, .f32⟩
  | .hbm, ⟨56, _⟩ => ⟨S16x2048x512, .f32⟩
  | .hbm, ⟨57, _⟩ => ⟨S16x2048x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024x6912, .bf16⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x4x512x128, .bf16⟩
  | .local _ .vmem, ⟨15, _⟩ => ⟨S1x4x512x128, .bf16⟩
  | .local _ .vmem, ⟨16, _⟩ => ⟨S1x4x512x128, .bf16⟩
  | .local _ .vmem, ⟨17, _⟩ => ⟨S1x4x512x128, .bf16⟩
  | .local _ .vmem, ⟨18, _⟩ => ⟨S1x4x512x128, .bf16⟩
  | .local _ .vmem, ⟨19, _⟩ => ⟨S1x4x512x128, .bf16⟩
  | .local _ .vmem, ⟨20, _⟩ => ⟨S1x4x512x128, .bf16⟩
  | .local _ .vmem, ⟨21, _⟩ => ⟨S1x4x512x128, .bf16⟩
  | .local _ .vmem, ⟨22, _⟩ => ⟨S1x2x512x128, .bf16⟩
  | .local _ .vmem, ⟨23, _⟩ => ⟨S1x2x512x128, .bf16⟩
  | .local _ .vmem, ⟨24, _⟩ => ⟨S1x2x512x128, .bf16⟩
  | .local _ .vmem, ⟨25, _⟩ => ⟨S1x2x512x128, .bf16⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | .local _ .vmem, ⟨30, _⟩ => ⟨S1x512x3072, .f32⟩
  | .local _ .vmem, ⟨31, _⟩ => ⟨S1x512x3072, .f32⟩
  | .local _ .vmem, ⟨32, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40_0 : Ref sig .tc := ⟨.hbm, 49, rfl⟩
abbrev main_v40_1 : Ref sig .tc := ⟨.hbm, 50, rfl⟩
abbrev main_v40_2 : Ref sig .tc := ⟨.hbm, 51, rfl⟩
abbrev main_v40_3 : Ref sig .tc := ⟨.hbm, 52, rfl⟩
abbrev main_v40_4 : Ref sig .tc := ⟨.hbm, 53, rfl⟩
abbrev main_v40_5 : Ref sig .tc := ⟨.hbm, 54, rfl⟩
abbrev main_v40_6 : Ref sig .tc := ⟨.hbm, 55, rfl⟩
abbrev main_v40_7 : Ref sig .tc := ⟨.hbm, 56, rfl⟩
abbrev main_v40_8 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x6912 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x3072 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S16x2048x1024 : Shape := ⟨3, ![16, 2048, 1024]⟩
abbrev S24x6144 : Shape := ⟨2, ![24, 6144]⟩
abbrev S2x1024 : Shape := ⟨2, ![2, 1024]⟩
abbrev S2x1024x6912 : Shape := ⟨3, ![2, 1024, 6912]⟩
abbrev S2x64 : Shape := ⟨2, ![2, 64]⟩
abbrev S2048x2x16 : Shape := ⟨3, ![2048, 2, 16]⟩
abbrev S24x6x1024 : Shape := ⟨3, ![24, 6, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S1x1024x6912 : Shape := ⟨3, ![1, 1024, 6912]⟩
abbrev S1024x6912 : Shape := ⟨2, ![1024, 6912]⟩
abbrev S16x2048x6912 : Shape := ⟨3, ![16, 2048, 6912]⟩
abbrev S16x2048x512 : Shape := ⟨3, ![16, 2048, 512]⟩
abbrev S16x2048x128 : Shape := ⟨3, ![16, 2048, 128]⟩
abbrev S16x2048x3072 : Shape := ⟨3, ![16, 2048, 3072]⟩
abbrev S16x2048x4x128 : Shape := ⟨4, ![16, 2048, 4, 128]⟩
abbrev S16x4x2048x128 : Shape := ⟨4, ![16, 4, 2048, 128]⟩

abbrev nBuf : Space → Nat
  | .hbm => 61
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S24x6144, .f32⟩
  | .hbm, ⟨2, _⟩ => ⟨S2x1024, .f32⟩
  | .hbm, ⟨3, _⟩ => ⟨S2x1024x6912, .f32⟩
  | .hbm, ⟨4, _⟩ => ⟨S2x64, .f32⟩
  | .hbm, ⟨5, _⟩ => ⟨S2x64, .f32⟩
  | .hbm, ⟨6, _⟩ => ⟨S2048x2x16, .f32⟩
  | .hbm, ⟨7, _⟩ => ⟨S2048x2x16, .f32⟩
  | .hbm, ⟨8, _⟩ => ⟨S24x6x1024, .f32⟩
  | .hbm, ⟨9, _⟩ => ⟨S1x1024, .f32⟩
  | .hbm, ⟨10, _⟩ => ⟨S1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S16x1x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S1x1024x6912, .f32⟩
  | .hbm, ⟨37, _⟩ => ⟨S1024x6912, .f32⟩
  | .hbm, ⟨38, _⟩ => ⟨S16x2048x6912, .f32⟩
  | .hbm, ⟨39, _⟩ => ⟨S16x2048x512, .f32⟩
  | .hbm, ⟨40, _⟩ => ⟨S16x2048x512, .f32⟩
  | .hbm, ⟨41, _⟩ => ⟨S16x2048x512, .f32⟩
  | .hbm, ⟨42, _⟩ => ⟨S16x2048x512, .f32⟩
  | .hbm, ⟨43, _⟩ => ⟨S16x2048x128, .f32⟩
  | .hbm, ⟨44, _⟩ => ⟨S16x2048x128, .f32⟩
  | .hbm, ⟨45, _⟩ => ⟨S16x2048x512, .f32⟩
  | .hbm, ⟨46, _⟩ => ⟨S16x2048x512, .f32⟩
  | .hbm, ⟨47, _⟩ => ⟨S16x2048x512, .f32⟩
  | .hbm, ⟨48, _⟩ => ⟨S16x2048x3072, .f32⟩
  | .hbm, ⟨49, _⟩ => ⟨S16x2048x4x128, .f32⟩
  | .hbm, ⟨50, _⟩ => ⟨S16x4x2048x128, .f32⟩
  | .hbm, ⟨51, _⟩ => ⟨S16x4x2048x128, .bf16⟩
  | .hbm, ⟨52, _⟩ => ⟨S16x2048x512, .f32⟩
  | .hbm, ⟨53, _⟩ => ⟨S16x2048x3072, .f32⟩
  | .hbm, ⟨54, _⟩ => ⟨S16x2048x3072, .f32⟩
  | .hbm, ⟨55, _⟩ => ⟨S_, .f32⟩
  | .hbm, ⟨56, _⟩ => ⟨S16x2048x3072, .f32⟩
  | .hbm, ⟨57, _⟩ => ⟨S16x2048x3072, .f32⟩
  | .hbm, ⟨58, _⟩ => ⟨S_, .f32⟩
  | .hbm, ⟨59, _⟩ => ⟨S16x2048x3072, .f32⟩
  | .hbm, ⟨60, _⟩ => ⟨S16x2048x3072, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Proof.Blk.lean ====
/- The kernel's row blocks: what the score scratch holds, and what a block leaves in the accumulator. -/
module

public import proofs.«01_k».proof.Proof.Gen.KernelIdeal.Frame.RunA
public import Idealize.ShloMosaic.Lib.Pipeline.ReadBack
public import Idealize.ShloMosaic.Lib.Pointwise

@[expose] public section

noncomputable section

namespace Cert.KernelIdeal.Blk

open Cert.KernelIdeal Cert.KernelIdeal.Gen Idealize.ShloMosaic Idealize.SL.Sem

abbrev VI (s : Shape) (e : EltTy) := Vec Ideal s e

/-- A block's scores, row `r` against key `k`: the context keys first, then the latent keys. -/
def scoreOf (q : VI S1x1x64x128 .bf16) (kc : VI S1x1x256x128 .bf16) (kx : VI S1x1x2048x128 .bf16)
    (r : Fin 128) (k : Fin 2304) : EReal :=
  if h : k.val < 256 then k0_pay5 q kc (ix3 0 r ⟨k.val, h⟩)
  else k0_pay6 (k0_pay4 q) kx (ix3 0 r ⟨k.val - 256, by omega⟩)

/-- The stores `L` of the score scratch leave `A` in slot `s`. -/
def Holds (L : List (View.Piece (Elt Ideal) S2x128x2304 .f32)) (s : Fin 2) (A : Fin 128 → Fin 2304 → EReal) : Prop :=
  ∀ r k, View.canon L (ix3 s r k) = A r k

/-- The store of a block's scores against the context keys (`n = 256`) or the latent keys (`n = 2048`). -/
abbrev piece (σ o n : ℕ) (i : ∀ a : Fin 3, (![σ, 0, o] : Fin 3 → ℕ) a + (![1, 128, n] : Fin 3 → ℕ) a ≤ S2x128x2304.size a)
    (w : (⟨3, ![1, 128, n]⟩ : Shape).Idx → EReal) : View.Piece (Elt Ideal) S2x128x2304 .f32 :=
  ⟨Rect.unit (s := S2x128x2304) ![σ, 0, o] ![1, 128, n] i, w⟩

theorem canon_piece (σ o n : ℕ) (hσ : σ < 2) (i w L) (r : Fin 128) (k : Fin 2304) (j : Fin n) (h : k.val = o + j.val) :
    View.canon (piece σ o n i w :: L) (ix3 ⟨σ, hσ⟩ r k) = w (ix3 0 r j) := by
  have e : (ix3 (⟨σ, hσ⟩ : Fin 2) r k : S2x128x2304.Idx) = (Rect.unit (s := S2x128x2304) ![σ, 0, o] ![1, 128, n] i).emb (ix3 0 r j) := by
    refine funext fun b => Fin.ext ?_
    show ((ix3 (⟨σ, hσ⟩ : Fin 2) r k : S2x128x2304.Idx) b).val = (![σ, 0, o] : Fin 3 → ℕ) b + 1 * ((ix3 (0 : Fin 1) r j : (⟨3, ![1, 128, n]⟩ : Shape).Idx) b).val
    fin_cases b <;> simp [ix3, h]
  rw [e]; exact View.canon_cons_emb _ _ _ _

theorem canon_piece_slot (σ τ o n : ℕ) (hτ : τ < 2) (hne : τ ≠ σ) (i w L) (r : Fin 128) (k : Fin 2304) :
    View.canon (piece σ o n i w :: L) (ix3 ⟨τ, hτ⟩ r k) = View.canon L (ix3 ⟨τ, hτ⟩ r k) := by
  refine View.canon_cons_of_not_mem _ _ fun hm => ?_
  have := (Rect.mem_set_unit.mp (show _ ∈ (Rect.unit (s := S2x128x2304) ![σ, 0, o] ![1, 128, n] i).set from hm)) 0
  simp [ix3] at this; omega

theorem canon_piece_col (σ τ o n : ℕ) (hτ : τ < 2) (i w L) (r : Fin 128) (k : Fin 2304) (h : k.val < o) :
    View.canon (piece σ o n i w :: L) (ix3 ⟨τ, hτ⟩ r k) = View.canon L (ix3 ⟨τ, hτ⟩ r k) := by
  refine View.canon_cons_of_not_mem _ _ fun hm => ?_
  have := (Rect.mem_set_unit.mp (show _ ∈ (Rect.unit (s := S2x128x2304) ![σ, 0, o] ![1, 128, n] i).set from hm)) 2
  have h2 : o ≤ k.val := this.1
  omega

theorem holds_top (σ : ℕ) (hσ : σ < 2) (q : VI S1x1x64x128 .bf16) (kc : VI S1x1x256x128 .bf16) (kx : VI S1x1x2048x128 .bf16)
    (L) (i1 i0) : Holds (piece σ 256 2048 i1 (k0_pay6 (k0_pay4 q) kx) :: piece σ 0 256 i0 (k0_pay5 q kc) :: L)
      ⟨σ, hσ⟩ (scoreOf q kc kx) := by
  intro r k
  unfold scoreOf
  by_cases h : k.val < 256
  · rw [canon_piece_col _ _ _ _ _ _ _ _ _ _ h, dif_pos h]
    exact canon_piece _ _ _ _ _ _ _ _ _ _ (by simp)
  · rw [dif_neg h]
    exact canon_piece _ _ _ _ _ _ _ _ _ _ (by simp; omega)

theorem holds_skip (σ τ : ℕ) (hτ : τ < 2) (hne : τ ≠ σ) (w1 w0 L A i1 i0) (h : Holds L ⟨τ, hτ⟩ A) :
    Holds (piece σ 256 2048 i1 w1 :: piece σ 0 256 i0 w0 :: L) ⟨τ, hτ⟩ A := by
  intro r k
  rw [canon_piece_slot _ _ _ _ _ hne, canon_piece_slot _ _ _ _ _ hne]
  exact h r k

/-- A load of one slot, columns `o` on. -/
theorem load_slot {n : ℕ} (v : View sig .tc .vmem S2x128x2304 .f32) (L) (σ o : ℕ) (hσ : σ < 2) (A) (h : Holds L ⟨σ, hσ⟩ A)
    (i : ∀ a : Fin 3, (![σ, 0, o] : Fin 3 → ℕ) a + (![1, 128, n] : Fin 3 → ℕ) a ≤ S2x128x2304.size a) (r : Fin 128) (k : Fin n)
    (k' : Fin 2304) (hk : k'.val = o + k.val) :
    v.readCov L (Rect.unit (s := S2x128x2304) ![σ, 0, o] ![1, 128, n] i).toLoadRect (ix3 0 r k) = A r k' := by
  rw [View.readCov_eq_canon', ← h]
  show View.canon L _ = _
  congr 1
  refine funext fun b => Fin.ext ?_
  show (![σ, 0, o] : Fin 3 → ℕ) b + 1 * ((ix3 (0 : Fin 1) r k : (⟨3, ![1, 128, n]⟩ : Shape).Idx) b).val = ((ix3 (⟨σ, hσ⟩ : Fin 2) r k' : S2x128x2304.Idx) b).val
  fin_cases b <;> simp [ix3, hk]

/-- One entry of a block before the two maps are subtracted: a value column's weighted sum over the sum of the weights. -/
def oval (s : Fin 2304 → EReal) (vc : Fin 256 → EReal) (vx : Fin 2048 → EReal) : EReal :=
  let M := Finset.univ.fold max ⊥ s
  let pc : Fin 256 → EReal := fun k => Ideal.exp2 (s ⟨k, by omega⟩ - M)
  let px : Fin 2048 → EReal := fun k => Ideal.exp2 (s ⟨256 + k, by omega⟩ - M)
  Ideal.div ((∑ k, pc k * vc k) + ∑ k, px k * vx k) ((∑ k, pc k) + ∑ k, px k)

theorem ofBits_neg_inf : Ideal.ofBits FTy.f32 0xFF800000#32 = ⊥ := by
  simp [Ideal.ofBits, Ideal.ieee]

section
variable (v : View sig .tc .vmem S2x128x2304 .f32) (L : List (View.Piece (Elt Ideal) S2x128x2304 .f32)) (σ : ℕ) (hσ : σ < 2)
    (A : Fin 128 → Fin 2304 → EReal) (h : Holds L ⟨σ, hσ⟩ A)
    (vc : VI S1x1x256x128 .bf16) (vx : VI S1x1x2048x128 .bf16) (i1) (i2) (i3) (a : Fin 64) (d : Fin 128)
include h

theorem load_full (r : Fin 128) (k : Fin 2304) :
    v.readCov L (Rect.unit (s := S2x128x2304) ![σ, 0, 0] ![1, 128, 2304] i1).toLoadRect (ix3 0 r k) = A r k :=
  load_slot v L σ 0 hσ A h i1 r k k (by simp)

theorem load_ctx (r : Fin 128) (k : Fin 256) :
    v.readCov L (Rect.unit (s := S2x128x2304) ![σ, 0, 0] ![1, 128, 256] i2).toLoadRect (ix3 0 r k) = A r ⟨k, by omega⟩ :=
  load_slot v L σ 0 hσ A h i2 r k _ (by simp)

theorem load_lat (r : Fin 128) (k : Fin 2048) :
    v.readCov L (Rect.unit (s := S2x128x2304) ![σ, 0, 256] ![1, 128, 2048] i3).toLoadRect (ix3 0 r k) = A r ⟨256 + k, by omega⟩ :=
  load_slot v L σ 256 hσ A h i3 r k _ rfl

theorem leaf_lo :
    k0_pay12 (k0_pay10 (v.readCov L (Rect.unit (s := S2x128x2304) ![σ, 0, 0] ![1, 128, 2304] i1).toLoadRect))
      (v.readCov L (Rect.unit (s := S2x128x2304) ![σ, 0, 0] ![1, 128, 256] i2).toLoadRect) vc
      (v.readCov L (Rect.unit (s := S2x128x2304) ![σ, 0, 256] ![1, 128, 2048] i3).toLoadRect) vx (ix3 0 a d)
    = oval (A ⟨a, by omega⟩) (fun k => vc (ix4 0 0 k d)) (fun k => vx (ix4 0 0 k d)) := by
  unfold k0_pay12 k0_pay11 k0_pay10 oval
  pointwise
  simp only [load_full v L σ hσ A h i1, load_ctx v L σ hσ A h i2, load_lat v L σ hσ A h i3, ofBits_neg_inf]
  rfl

theorem leaf_hi :
    k0_pay13 (k0_pay10 (v.readCov L (Rect.unit (s := S2x128x2304) ![σ, 0, 0] ![1, 128, 2304] i1).toLoadRect))
      (v.readCov L (Rect.unit (s := S2x128x2304) ![σ, 0, 0] ![1, 128, 256] i2).toLoadRect) vc
      (v.readCov L (Rect.unit (s := S2x128x2304) ![σ, 0, 256] ![1, 128, 2048] i3).toLoadRect) vx (ix3 0 a d)
    = oval (A ⟨64 + a, by omega⟩) (fun k => vc (ix4 0 0 k d)) (fun k => vx (ix4 0 0 k d)) := by
  unfold k0_pay13 k0_pay11 k0_pay10 oval
  pointwise
  simp only [load_full v L σ hσ A h i1, load_ctx v L σ hσ A h i2, load_lat v L σ hσ A h i3, ofBits_neg_inf]
  rfl

end

/-- Row `row` of map `μ` (0: the first half of the columns) against key `k`, from the whole blocks of one head. -/
def srow (x2 : VI S1x2x2048x128 .bf16) (x3 : VI S1x2x256x128 .bf16) (x5 : VI S1x2x2048x128 .bf16) (hd : Fin 2)
    (μ : Fin 2) (row : Fin 2048) (k : Fin 2304) : EReal :=
  ∑ j : Fin 64, x2 (ix4 0 hd row ⟨64 * μ.val + j.val, by omega⟩) *
    (if h : k.val < 256 then x3 (ix4 0 hd ⟨k.val, h⟩ ⟨64 * μ.val + j.val, by omega⟩)
      else x5 (ix4 0 hd ⟨k.val - 256, by omega⟩ ⟨64 * μ.val + j.val, by omega⟩))

theorem sum_low (f : Fin 128 → EReal) : ∑ x : Fin 128, (if x.val < 64 then f x else 0) = ∑ j : Fin 64, f ⟨j.val, by omega⟩ := by
  rw [show (∑ x : Fin 128, (if x.val < 64 then f x else 0)) = ∑ x : Fin (64 + 64), (if x.val < 64 then f x else 0) from rfl, Fin.sum_univ_add]
  simp
  rfl

theorem sum_high (f : Fin 128 → EReal) : ∑ x : Fin 128, (if x.val < 64 then 0 else f x) = ∑ j : Fin 64, f ⟨64 + j.val, by omega⟩ := by
  rw [show (∑ x : Fin 128, (if x.val < 64 then 0 else f x)) = ∑ x : Fin (64 + 64), (if x.val < 64 then 0 else f x) from rfl, Fin.sum_univ_add]
  simp
  rfl

theorem sel_low (x : Fin 128) (a b : EReal) :
    Scalar.select (IntOp.cmpi CmpIPredicate.slt (BitVec.ofNat 32 x.val) 64#32) a b = if x.val < 64 then a else b := by
  have h : ∀ x : Fin 128, IntOp.cmpi CmpIPredicate.slt (BitVec.ofNat 32 x.val) 64#32 = if x.val < 64 then 1#1 else 0#1 := by decide
  rw [h x]
  split <;> rfl

/-- The blocks' rectangles of one head, and the block's query rows from `ρ` on. -/
abbrev rq (hd ρ : ℕ) (i : ∀ a : Fin 4, (![0, hd, ρ, 0] : Fin 4 → ℕ) a + (![1, 1, 64, 128] : Fin 4 → ℕ) a ≤ S1x2x2048x128.size a) :
    Rect S1x2x2048x128 := Rect.unit (s := S1x2x2048x128) ![0, hd, ρ, 0] ![1, 1, 64, 128] i
abbrev rc (hd : ℕ) (i : ∀ a : Fin 4, (![0, hd, 0, 0] : Fin 4 → ℕ) a + (![1, 1, 256, 128] : Fin 4 → ℕ) a ≤ S1x2x256x128.size a) :
    Rect S1x2x256x128 := Rect.unit (s := S1x2x256x128) ![0, hd, 0, 0] ![1, 1, 256, 128] i
abbrev rx (hd : ℕ) (i : ∀ a : Fin 4, (![0, hd, 0, 0] : Fin 4 → ℕ) a + (![1, 1, 2048, 128] : Fin 4 → ℕ) a ≤ S1x2x2048x128.size a) :
    Rect S1x2x2048x128 := Rect.unit (s := S1x2x2048x128) ![0, hd, 0, 0] ![1, 1, 2048, 128] i

section
variable (hd ρ : ℕ) (hhd : hd < 2) (i0 i1 i2)
    (x2 : VI S1x2x2048x128 .bf16) (x3 : VI S1x2x256x128 .bf16) (x4 : VI S1x2x256x128 .bf16) (x5 x6 : VI S1x2x2048x128 .bf16)

theorem ld_q (a : Fin 64) (j : Fin 128) (row : Fin 2048) (hr : row.val = ρ + a.val) :
    View.ld x2 (rq hd ρ i0) (ix4 0 0 a j) = x2 (ix4 0 ⟨hd, hhd⟩ row j) := by
  unfold View.ld; congr 1
  funext b; fin_cases b <;> apply Fin.ext <;> simp [ix4]
  exact hr.symm

theorem ld_c (a : Fin 256) (j : Fin 128) :
    View.ld x3 (rc hd i1) (ix4 0 0 a j) = x3 (ix4 0 ⟨hd, hhd⟩ a j) := by
  unfold View.ld; congr 1
  funext b; fin_cases b <;> apply Fin.ext <;> simp [ix4]

theorem ld_x (a : Fin 2048) (j : Fin 128) :
    View.ld x5 (rx hd i2) (ix4 0 0 a j) = x5 (ix4 0 ⟨hd, hhd⟩ a j) := by
  unfold View.ld; congr 1
  funext b; fin_cases b <;> apply Fin.ext <;> simp [ix4]

theorem scoreOf_lo (a : Fin 64) (row : Fin 2048) (hr : row.val = ρ + a.val) :
    scoreOf (View.ld x2 (rq hd ρ i0)) (View.ld x3 (rc hd i1)) (View.ld x5 (rx hd i2)) ⟨a, by omega⟩ = srow x2 x3 x5 ⟨hd, hhd⟩ 0 row := by
  have ha := a.isLt
  funext k
  unfold scoreOf srow
  split
  · unfold k0_pay5 k0_pay4 k0_pay2
    pointwise
    simp only [sel_low, ha, ↓reduceDIte, ite_mul, zero_mul, sum_low]
    have hrow : (⟨ρ + a.val, by have := row.isLt; omega⟩ : Fin 2048) = row := Fin.ext hr.symm
    simp [hrow, *]
  · unfold k0_pay6 k0_pay4 k0_pay2
    pointwise
    simp only [sel_low, ha, ↓reduceDIte, ite_mul, zero_mul, sum_low]
    have hrow : (⟨ρ + a.val, by have := row.isLt; omega⟩ : Fin 2048) = row := Fin.ext hr.symm
    simp [hrow, *]

theorem scoreOf_hi (a : Fin 64) (row : Fin 2048) (hr : row.val = ρ + a.val) :
    scoreOf (View.ld x2 (rq hd ρ i0)) (View.ld x3 (rc hd i1)) (View.ld x5 (rx hd i2)) ⟨64 + a, by omega⟩ = srow x2 x3 x5 ⟨hd, hhd⟩ 1 row := by
  funext k
  have ha : ¬ (64 + a.val < 64) := by omega
  unfold scoreOf srow
  split
  · unfold k0_pay5 k0_pay4 k0_pay2
    pointwise
    simp only [sel_low, ha, ↓reduceDIte, ite_mul, zero_mul, sum_high]
    have hrow : (⟨ρ + a.val, by have := row.isLt; omega⟩ : Fin 2048) = row := Fin.ext hr.symm
    simp [hrow, *]
  · unfold k0_pay6 k0_pay4 k0_pay2
    pointwise
    simp only [sel_low, ha, ↓reduceDIte, ite_mul, zero_mul, sum_high]
    have hrow : (⟨ρ + a.val, by have := row.isLt; omega⟩ : Fin 2048) = row := Fin.ext hr.symm
    simp [hrow, *]

end

/-- What the accumulator holds of head `hd`: map, row, column. -/
def gacc (x2 : VI S1x2x2048x128 .bf16) (x3 x4 : VI S1x2x256x128 .bf16) (x5 x6 : VI S1x2x2048x128 .bf16) (hd : Fin 2)
    (μ : Fin 2) (row : Fin 2048) (d : Fin 128) : EReal :=
  oval (srow x2 x3 x5 hd μ row) (fun k => x4 (ix4 0 hd k d)) (fun k => x6 (ix4 0 hd k d))

/-- The stores `L` of the accumulator leave head `hd`'s values in the rows below `n`. -/
def Upto (G : Fin 2 → Fin 2048 → Fin 128 → EReal) (L : List (View.Piece (Elt Ideal) S2x2048x128 .f32)) (n : ℕ) : Prop :=
  ∀ (μ : Fin 2) (row : Fin 2048) (d : Fin 128), row.val < n → View.canon L (ix3 μ row d) = G μ row d

theorem upto_zero (G L) : Upto G L 0 := fun _ _ _ h => absurd h (Nat.not_lt_zero _)

abbrev apiece (μ ρ : ℕ) (i : ∀ a : Fin 3, (![μ, ρ, 0] : Fin 3 → ℕ) a + (![1, 64, 128] : Fin 3 → ℕ) a ≤ S2x2048x128.size a)
    (w : VI S1x64x128 .f32) : View.Piece (Elt Ideal) S2x2048x128 .f32 :=
  ⟨Rect.unit (s := S2x2048x128) ![μ, ρ, 0] ![1, 64, 128] i, w⟩

theorem canon_apiece (μ ρ : ℕ) (hμ : μ < 2) (i w L) (row : Fin 2048) (d : Fin 128) (a : Fin 64) (h : row.val = ρ + a.val) :
    View.canon (apiece μ ρ i w :: L) (ix3 ⟨μ, hμ⟩ row d) = w (ix3 0 a d) := by
  have e : (ix3 (⟨μ, hμ⟩ : Fin 2) row d : S2x2048x128.Idx) = (Rect.unit (s := S2x2048x128) ![μ, ρ, 0] ![1, 64, 128] i).emb (ix3 0 a d) := by
    refine funext fun b => Fin.ext ?_
    show ((ix3 (⟨μ, hμ⟩ : Fin 2) row d : S2x2048x128.Idx) b).val = (![μ, ρ, 0] : Fin 3 → ℕ) b + 1 * ((ix3 (0 : Fin 1) a d : S1x64x128.Idx) b).val
    fin_cases b <;> simp [ix3, h]
  rw [e]; exact View.canon_cons_emb _ _ _ _

theorem canon_apiece_map (μ μ' ρ : ℕ) (hμ : μ' < 2) (hne : μ' ≠ μ) (i w L) (row : Fin 2048) (d : Fin 128) :
    View.canon (apiece μ ρ i w :: L) (ix3 ⟨μ', hμ⟩ row d) = View.canon L (ix3 ⟨μ', hμ⟩ row d) := by
  refine View.canon_cons_of_not_mem _ _ fun hm => ?_
  have := (Rect.mem_set_unit.mp (show _ ∈ (Rect.unit (s := S2x2048x128) ![μ, ρ, 0] ![1, 64, 128] i).set from hm)) 0
  simp [ix3] at this; omega

theorem canon_apiece_row (μ ρ : ℕ) (i w L) (μ' : Fin 2) (row : Fin 2048) (d : Fin 128) (h : row.val < ρ) :
    View.canon (apiece μ ρ i w :: L) (ix3 μ' row d) = View.canon L (ix3 μ' row d) := by
  refine View.canon_cons_of_not_mem _ _ fun hm => ?_
  have := (Rect.mem_set_unit.mp (show _ ∈ (Rect.unit (s := S2x2048x128) ![μ, ρ, 0] ![1, 64, 128] i).set from hm)) 1
  have h2 : ρ ≤ row.val := this.1
  omega

section
variable (arg5 : Memref sig .tc .vmem S1x2x2048x128 .bf16) (harg5 : arg5.IsWhole) (arg6 : Memref sig .tc .vmem S1x2x256x128 .bf16) (harg6 : arg6.IsWhole)
  (arg7 : Memref sig .tc .vmem S1x2x256x128 .bf16) (harg7 : arg7.IsWhole) (arg8 : Memref sig .tc .vmem S1x2x2048x128 .bf16) (harg8 : arg8.IsWhole)
  (arg9 : Memref sig .tc .vmem S1x2x2048x128 .bf16) (harg9 : arg9.IsWhole) (arg12 : Memref sig .tc .vmem S2x128x2304 .f32)
  (x2 : VI S1x2x2048x128 .bf16) (x3 : VI S1x2x256x128 .bf16) (x4 : VI S1x2x256x128 .bf16) (x5 x6 : VI S1x2x2048x128 .bf16)

/-- One more row block on the accumulator: its two stores, from a score scratch that holds its scores in slot `σ`. -/
theorem upto_step (hd ρ σ : ℕ) (hhd : hd < 2) (hσ : σ < 2) (L S) (iq ic ix j0 j1 k1 k2 k3)
    (hS : Holds S ⟨σ, hσ⟩ (scoreOf (View.readAt (Elt Ideal) arg5.view (rq hd ρ iq).toLoadRect (harg5.unread x2))
      (View.readAt (Elt Ideal) arg6.view (rc hd ic).toLoadRect (harg6.unread x3))
      (View.readAt (Elt Ideal) arg8.view (rx hd ix).toLoadRect (harg8.unread x5))))
    (hL : Upto (gacc x2 x3 x4 x5 x6 ⟨hd, hhd⟩) L ρ) :
    Upto (gacc x2 x3 x4 x5 x6 ⟨hd, hhd⟩)
      (apiece 1 ρ j1 (k0_pay13 (k0_pay10 (arg12.view.readCov S (Rect.unit (s := S2x128x2304) ![σ, 0, 0] ![1, 128, 2304] k1).toLoadRect))
          (arg12.view.readCov S (Rect.unit (s := S2x128x2304) ![σ, 0, 0] ![1, 128, 256] k2).toLoadRect)
          (View.readAt (Elt Ideal) arg7.view (rc hd ic).toLoadRect (harg7.unread x4))
          (arg12.view.readCov S (Rect.unit (s := S2x128x2304) ![σ, 0, 256] ![1, 128, 2048] k3).toLoadRect)
          (View.readAt (Elt Ideal) arg9.view (rx hd ix).toLoadRect (harg9.unread x6)))
        :: apiece 0 ρ j0 (k0_pay12 (k0_pay10 (arg12.view.readCov S (Rect.unit (s := S2x128x2304) ![σ, 0, 0] ![1, 128, 2304] k1).toLoadRect))
          (arg12.view.readCov S (Rect.unit (s := S2x128x2304) ![σ, 0, 0] ![1, 128, 256] k2).toLoadRect)
          (View.readAt (Elt Ideal) arg7.view (rc hd ic).toLoadRect (harg7.unread x4))
          (arg12.view.readCov S (Rect.unit (s := S2x128x2304) ![σ, 0, 256] ![1, 128, 2048] k3).toLoadRect)
          (View.readAt (Elt Ideal) arg9.view (rx hd ix).toLoadRect (harg9.unread x6))) :: L) (ρ + 64) := by
  simp only [View.readAt_eq_ld, Memref.IsWhole.read_unread] at hS ⊢
  intro μ row d hrow
  by_cases hlt : row.val < ρ
  · rw [canon_apiece_row _ _ _ _ _ _ _ _ hlt, canon_apiece_row _ _ _ _ _ _ _ _ hlt]
    exact hL μ row d hlt
  · have hr : row.val = ρ + (⟨row.val - ρ, by omega⟩ : Fin 64).val := by simp; omega
    have hv : ∀ s, oval s (fun k => View.ld x4 (rc hd ic) (ix4 0 0 k d)) (fun k => View.ld x6 (rx hd ix) (ix4 0 0 k d))
        = oval s (fun k => x4 (ix4 0 ⟨hd, hhd⟩ k d)) (fun k => x6 (ix4 0 ⟨hd, hhd⟩ k d)) := fun s =>
      congrArg₂ (oval s) (funext fun k => ld_c hd hhd ic x4 k d) (funext fun k => ld_x hd hhd ix x6 k d)
    obtain ⟨m, hm⟩ := μ
    have : m = 0 ∨ m = 1 := by omega
    rcases this with rfl | rfl
    · rw [canon_apiece_map 1 0 ρ hm (by omega), canon_apiece 0 ρ hm _ _ _ row d _ hr, leaf_lo _ _ σ hσ _ hS, hv,
        scoreOf_lo hd ρ hhd _ _ _ _ _ _ _ row hr]
      rfl
    · rw [canon_apiece 1 ρ hm _ _ _ row d _ hr, leaf_hi _ _ σ hσ _ hS, hv,
        scoreOf_hi hd ρ hhd _ _ _ _ _ _ _ row hr]
      rfl

end

end Cert.KernelIdeal.Blk
-- ==== Proof.BlkAll.lean ====
/- Every row block of both heads, from the named pieces of the body's run. -/
module

public import proofs.«01_k».proof.Proof.Blk
public import Idealize.ShloMosaic.Lib.Pointwise

@[expose] public section

noncomputable section

namespace Cert.KernelIdeal.Blk

open Cert.KernelIdeal Cert.KernelIdeal.Gen Idealize.ShloMosaic Idealize.SL.Sem

section
variable (arg5 : Memref sig .tc .vmem S1x2x2048x128 .bf16) (harg5 : arg5.IsWhole) (arg6 : Memref sig .tc .vmem S1x2x256x128 .bf16) (harg6 : arg6.IsWhole)
  (arg7 : Memref sig .tc .vmem S1x2x256x128 .bf16) (harg7 : arg7.IsWhole) (arg8 : Memref sig .tc .vmem S1x2x2048x128 .bf16) (harg8 : arg8.IsWhole)
  (arg9 : Memref sig .tc .vmem S1x2x2048x128 .bf16) (harg9 : arg9.IsWhole) (arg12 : Memref sig .tc .vmem S2x128x2304 .f32)
  (x2 : VI S1x2x2048x128 .bf16) (x3 : VI S1x2x256x128 .bf16) (x4 : VI S1x2x256x128 .bf16) (x5 x6 : VI S1x2x2048x128 .bf16)

theorem in_q (hd ρ : ℕ) (hhd : hd < 2) (hρ : ρ ≤ 1984) :
    ∀ a : Fin 4, (![0, hd, ρ, 0] : Fin 4 → ℕ) a + (![1, 1, 64, 128] : Fin 4 → ℕ) a ≤ S1x2x2048x128.size a := by
  intro a; fin_cases a <;> simp [S1x2x2048x128] <;> omega

theorem in_c (hd : ℕ) (hhd : hd < 2) :
    ∀ a : Fin 4, (![0, hd, 0, 0] : Fin 4 → ℕ) a + (![1, 1, 256, 128] : Fin 4 → ℕ) a ≤ S1x2x256x128.size a := by
  intro a; fin_cases a <;> simp [S1x2x256x128] <;> omega

theorem in_x (hd : ℕ) (hhd : hd < 2) :
    ∀ a : Fin 4, (![0, hd, 0, 0] : Fin 4 → ℕ) a + (![1, 1, 2048, 128] : Fin 4 → ℕ) a ≤ S1x2x2048x128.size a := by
  intro a; fin_cases a <;> simp [S1x2x2048x128] <;> omega

theorem in_a (μ ρ : ℕ) (hμ : μ < 2) (hρ : ρ ≤ 1984) :
    ∀ a : Fin 3, (![μ, ρ, 0] : Fin 3 → ℕ) a + (![1, 64, 128] : Fin 3 → ℕ) a ≤ S2x2048x128.size a := by
  intro a; fin_cases a <;> simp [S2x2048x128] <;> omega

theorem in_s (σ o n : ℕ) (hσ : σ < 2) (ho : o + n ≤ 2304) :
    ∀ a : Fin 3, (![σ, 0, o] : Fin 3 → ℕ) a + (![1, 128, n] : Fin 3 → ℕ) a ≤ S2x128x2304.size a := by
  intro a; fin_cases a <;> simp [S2x128x2304] <;> omega

/-- The rows of the first `n` blocks are done. -/
def Done (G : Fin 2 → Fin 2048 → Fin 128 → EReal) (L : List (View.Piece (Elt Ideal) S2x2048x128 .f32)) (n : ℕ) : Prop := Upto G L (64 * n)

theorem done_step (hd : ℕ) (hhd : hd < 2) (n ρ σ : ℕ) (hn : n < 32) (hσ : σ < 2) (hρ : ρ = 64 * n) (L S) (iq ic ix j0 j1 k1 k2 k3)
    (hS : Holds S ⟨σ, hσ⟩ (scoreOf (View.readAt (Elt Ideal) arg5.view (rq hd ρ iq).toLoadRect (harg5.unread x2))
      (View.readAt (Elt Ideal) arg6.view (rc hd ic).toLoadRect (harg6.unread x3))
      (View.readAt (Elt Ideal) arg8.view (rx hd ix).toLoadRect (harg8.unread x5))))
    (hL : Done (gacc x2 x3 x4 x5 x6 ⟨hd, hhd⟩) L n) :
    Done (gacc x2 x3 x4 x5 x6 ⟨hd, hhd⟩)
      (apiece 1 ρ j1 (k0_pay13 (k0_pay10 (arg12.view.readCov S (Rect.unit (s := S2x128x2304) ![σ, 0, 0] ![1, 128, 2304] k1).toLoadRect))
          (arg12.view.readCov S (Rect.unit (s := S2x128x2304) ![σ, 0, 0] ![1, 128, 256] k2).toLoadRect)
          (View.readAt (Elt Ideal) arg7.view (rc hd ic).toLoadRect (harg7.unread x4))
          (arg12.view.readCov S (Rect.unit (s := S2x128x2304) ![σ, 0, 256] ![1, 128, 2048] k3).toLoadRect)
          (View.readAt (Elt Ideal) arg9.view (rx hd ix).toLoadRect (harg9.unread x6)))
        :: apiece 0 ρ j0 (k0_pay12 (k0_pay10 (arg12.view.readCov S (Rect.unit (s := S2x128x2304) ![σ, 0, 0] ![1, 128, 2304] k1).toLoadRect))
          (arg12.view.readCov S (Rect.unit (s := S2x128x2304) ![σ, 0, 0] ![1, 128, 256] k2).toLoadRect)
          (View.readAt (Elt Ideal) arg7.view (rc hd ic).toLoadRect (harg7.unread x4))
          (arg12.view.readCov S (Rect.unit (s := S2x128x2304) ![σ, 0, 256] ![1, 128, 2048] k3).toLoadRect)
          (View.readAt (Elt Ideal) arg9.view (rx hd ix).toLoadRect (harg9.unread x6))) :: L) (n + 1) := by
  subst hρ
  exact upto_step arg5 harg5 arg6 harg6 arg7 harg7 arg8 harg8 arg9 harg9 arg12 x2 x3 x4 x5 x6 hd (64 * n) σ hhd hσ L S _ _ _ _ _ _ _ _ hS hL

/-- The same, the two stores' contents given by equations. -/
theorem done_step' (hd : ℕ) (hhd : hd < 2) (n ρ σ : ℕ) (hn : n < 32) (hσ : σ < 2) (hρ : ρ = 64 * n) (L S) (iq ic ix j0 j1 k1 k2 k3 w1 w0)
    (hS : Holds S ⟨σ, hσ⟩ (scoreOf (View.readAt (Elt Ideal) arg5.view (rq hd ρ iq).toLoadRect (harg5.unread x2))
      (View.readAt (Elt Ideal) arg6.view (rc hd ic).toLoadRect (harg6.unread x3))
      (View.readAt (Elt Ideal) arg8.view (rx hd ix).toLoadRect (harg8.unread x5))))
    (hL : Done (gacc x2 x3 x4 x5 x6 ⟨hd, hhd⟩) L n)
    (h1 : w1 = (k0_pay13 (k0_pay10 (arg12.view.readCov S (Rect.unit (s := S2x128x2304) ![σ, 0, 0] ![1, 128, 2304] k1).toLoadRect))
          (arg12.view.readCov S (Rect.unit (s := S2x128x2304) ![σ, 0, 0] ![1, 128, 256] k2).toLoadRect)
          (View.readAt (Elt Ideal) arg7.view (rc hd ic).toLoadRect (harg7.unread x4))
          (arg12.view.readCov S (Rect.unit (s := S2x128x2304) ![σ, 0, 256] ![1, 128, 2048] k3).toLoadRect)
          (View.readAt (Elt Ideal) arg9.view (rx hd ix).toLoadRect (harg9.unread x6))))
    (h0 : w0 = (k0_pay12 (k0_pay10 (arg12.view.readCov S (Rect.unit (s := S2x128x2304) ![σ, 0, 0] ![1, 128, 2304] k1).toLoadRect))
          (arg12.view.readCov S (Rect.unit (s := S2x128x2304) ![σ, 0, 0] ![1, 128, 256] k2).toLoadRect)
          (View.readAt (Elt Ideal) arg7.view (rc hd ic).toLoadRect (harg7.unread x4))
          (arg12.view.readCov S (Rect.unit (s := S2x128x2304) ![σ, 0, 256] ![1, 128, 2048] k3).toLoadRect)
          (View.readAt (Elt Ideal) arg9.view (rx hd ix).toLoadRect (harg9.unread x6)))) :
    Done (gacc x2 x3 x4 x5 x6 ⟨hd, hhd⟩) (apiece 1 ρ j1 w1 :: apiece 0 ρ j0 w0 :: L) (n + 1) := by
  subst h1 h0
  exact done_step arg5 harg5 arg6 harg6 arg7 harg7 arg8 harg8 arg9 harg9 arg12 x2 x3 x4 x5 x6 hd hhd n ρ σ hn hσ hρ L S _ _ _ _ _ _ _ _ hS hL

theorem holds_top' (σ : ℕ) (hσ : σ < 2) (q : VI S1x1x64x128 .bf16) (kc : VI S1x1x256x128 .bf16) (kx : VI S1x1x2048x128 .bf16)
    (L) (i1 i0 w1 w0) (h1 : w1 = k0_pay6 (k0_pay4 q) kx) (h0 : w0 = k0_pay5 q kc) :
    Holds (piece σ 256 2048 i1 w1 :: piece σ 0 256 i0 w0 :: L) ⟨σ, hσ⟩ (scoreOf q kc kx) := by
  subst h1 h0
  exact holds_top σ hσ q kc kx L i1 i0

theorem done_zero (G L) : Done G L 0 := upto_zero G L

set_option maxHeartbeats 2000000 in
set_option maxRecDepth 10000 in
theorem upto_head0 (c : Dev nD) : Done (gacc x2 x3 x4 x5 x6 0)
    (kernelRun0_A.sl.HS0_64 (F := Ideal) c arg5 harg5 arg6 harg6 arg7 harg7 arg8 harg8 arg9 harg9 arg12 x2 x3 x4 x5 x6) 32 := by
  iterate 32
    refine done_step arg5 harg5 arg6 harg6 arg7 harg7 arg8 harg8 arg9 harg9 arg12 x2 x3 x4 x5 x6 0 (by decide) _ _ _ (by decide) (by decide) rfl _ _
      (in_q 0 _ (by decide) (by decide)) (in_c 0 (by decide)) (in_x 0 (by decide)) (in_a 0 _ (by decide) (by decide)) (in_a 1 _ (by decide) (by decide))
      (in_s _ 0 2304 (by decide) (by decide)) (in_s _ 0 256 (by decide) (by decide)) (in_s _ 256 2048 (by decide) (by decide)) ?_ ?_
    · exact holds_skip _ _ _ (by decide) _ _ _ _ _ _ (holds_top' _ _ _ _ _ _ _ _ _ _ rfl rfl)
  exact done_zero _ _

set_option maxHeartbeats 2000000 in
set_option maxRecDepth 10000 in
theorem upto_head1 (c : Dev nD) : Done (gacc x2 x3 x4 x5 x6 1)
    (kernelRun0_A.sl.HS0_128 (F := Ideal) c arg5 harg5 arg6 harg6 arg7 harg7 arg8 harg8 arg9 harg9 arg12 x2 x3 x4 x5 x6) 32 := by
  refine done_step arg5 harg5 arg6 harg6 arg7 harg7 arg8 harg8 arg9 harg9 arg12 x2 x3 x4 x5 x6 1 (by decide) _ _ _ (by decide) (by decide) rfl _ _
      (in_q 1 _ (by decide) (by decide)) (in_c 1 (by decide)) (in_x 1 (by decide)) (in_a 0 _ (by decide) (by decide)) (in_a 1 _ (by decide) (by decide))
      (in_s _ 0 2304 (by decide) (by decide)) (in_s _ 0 256 (by decide) (by decide)) (in_s _ 256 2048 (by decide) (by decide)) ?_ ?_
  · exact holds_top' _ _ _ _ _ _ _ _ _ _ rfl rfl
  iterate 14
    refine done_step arg5 harg5 arg6 harg6 arg7 harg7 arg8 harg8 arg9 harg9 arg12 x2 x3 x4 x5 x6 1 (by decide) _ _ _ (by decide) (by decide) rfl _ _
      (in_q 1 _ (by decide) (by decide)) (in_c 1 (by decide)) (in_x 1 (by decide)) (in_a 0 _ (by decide) (by decide)) (in_a 1 _ (by decide) (by decide))
      (in_s _ 0 2304 (by decide) (by decide)) (in_s _ 0 256 (by decide) (by decide)) (in_s _ 256 2048 (by decide) (by decide)) ?_ ?_
    · exact holds_skip _ _ _ (by decide) _ _ _ _ _ _ (holds_top' _ _ _ _ _ _ _ _ _ _ rfl rfl)
  refine done_step' arg5 harg5 arg6 harg6 arg7 harg7 arg8 harg8 arg9 harg9 arg12 x2 x3 x4 x5 x6 1 (by decide) 16 1024 0 (by decide) (by decide) rfl _
      (kernelRun0_A.sl.HS1_100 c arg5 harg5 arg6 harg6 arg8 harg8 x2 x3 x5)
      (in_q 1 _ (by decide) (by decide)) (in_c 1 (by decide)) (in_x 1 (by decide)) (in_a 0 _ (by decide) (by decide)) (in_a 1 _ (by decide) (by decide))
      (in_s _ 0 2304 (by decide) (by decide)) (in_s _ 0 256 (by decide) (by decide)) (in_s _ 256 2048 (by decide) (by decide)) _ _ ?_ ?_
      (by delta kernelRun0_A.sl.r_142 kernelRun0_A.sl.r_143 kernelRun0_A.sl.r_144; unfold_payloads; rfl)
      (by delta kernelRun0_A.sl.r_142 kernelRun0_A.sl.r_143 kernelRun0_A.sl.r_144; unfold_payloads; rfl)
  · exact holds_skip _ _ _ (by decide) _ _ _ _ _ _ (holds_top' _ _ _ _ _ _ _ _ _ _ rfl rfl)
  iterate 16
    refine done_step arg5 harg5 arg6 harg6 arg7 harg7 arg8 harg8 arg9 harg9 arg12 x2 x3 x4 x5 x6 1 (by decide) _ _ _ (by decide) (by decide) rfl _ _
      (in_q 1 _ (by decide) (by decide)) (in_c 1 (by decide)) (in_x 1 (by decide)) (in_a 0 _ (by decide) (by decide)) (in_a 1 _ (by decide) (by decide))
      (in_s _ 0 2304 (by decide) (by decide)) (in_s _ 0 256 (by decide) (by decide)) (in_s _ 256 2048 (by decide) (by decide)) ?_ ?_
    · exact holds_skip _ _ _ (by decide) _ _ _ _ _ _ (holds_top' _ _ _ _ _ _ _ _ _ _ rfl rfl)
  exact done_zero _ _
end

end Cert.KernelIdeal.Blk
-- ==== Proof.Row.lean ====
/- One row of the differential attention over the extended reals: the two ways of writing it. -/
module

public import Idealize.ShloMosaic.PureOps.Ideal.Laws

@[expose] public section

noncomputable section

namespace Cert.Attn

open Idealize.ShloMosaic

/-- The weight of the second map, from the four vectors. -/
def lamK (a b c d : Fin 64 → EReal) : EReal :=
  Ideal.exp (∑ j, a j * b j) - Ideal.exp (∑ j, c j * d j) + Ideal.ofBits .f32 0x3E4CCCCD#32

/-- One output row: the difference of the maps, normed over its columns and scaled. -/
def rowK (lam : EReal) (a1 a2 g : Fin 128 → EReal) (d : Fin 128) : EReal :=
  (a1 d - lam * a2 d) * Ideal.rsqrt (Ideal.div (∑ e, (a1 e - lam * a2 e) * (a1 e - lam * a2 e)) (Ideal.ofBits .f32 0x43000000#32)
    + Ideal.ofBits .f32 0x358637BD#32) * g d * Ideal.ofBits .f32 0x3F4CCCCD#32

/-- The softmax weight of key `k`. -/
def weight (s : Fin 2304 → EReal) (k : Fin 2304) : EReal :=
  Ideal.div (Ideal.exp (s k - Finset.univ.fold max ⊥ s)) (∑ k', Ideal.exp (s k' - Finset.univ.fold max ⊥ s))

end Cert.Attn
-- ==== Proof.Out.lean ====
/- What one grid point leaves in the output block, at an index. -/
module

public import proofs.«01_k».proof.Proof.BlkAll
public import proofs.«01_k».proof.Proof.Row
public import proofs.«01_k».proof.Proof.Gen.KernelIdeal.Frame

@[expose] public section

noncomputable section

namespace Cert.KernelIdeal.Blk

open Cert.KernelIdeal Cert.KernelIdeal.Gen Idealize.ShloMosaic Idealize.SL.Sem Cert.Attn

theorem pay3_apply (lv : VI S4x64 .f32) : k0_pay3 lv (ix2 0 0) =
    lamK (fun j => lv (ix2 0 j)) (fun j => lv (ix2 1 j)) (fun j => lv (ix2 2 j)) (fun j => lv (ix2 3 j)) := by
  unfold k0_pay3 lamK
  pointwise
  try rfl

theorem pay277_apply (lam : VI S1x1 .f32) (u v : VI S1x2048x128 .f32) (g : VI S1x128 .f32) (row : Fin 2048) (d : Fin 128) :
    k0_pay277 lam u v g (ix3 0 row d) =
      rowK (lam (ix2 0 0)) (fun d => u (ix3 0 row d)) (fun d => v (ix3 0 row d)) (fun d => g (ix2 0 d)) d := by
  unfold k0_pay277 rowK
  pointwise
  try rfl

theorem pay1_apply (lam : VI S1x1 .f32) (u v : VI S1x2048x128 .f32) (g : VI S1x128 .f32) (row : Fin 2048) (d : Fin 128) :
    k0_pay1 (k0_pay555 lam u v g) k0_pay556 (ix3 0 row d) =
      rowK (lam (ix2 0 0)) (fun d => u (ix3 0 row d)) (fun d => v (ix3 0 row d)) (fun d => g (ix2 0 d)) d := by
  unfold k0_pay1 k0_pay555 k0_pay556 rowK
  pointwise
  try rfl

/-- A load of one whole map of the accumulator. -/
theorem load_map (v : View sig .tc .vmem S2x2048x128 .f32) (G L) (μ : ℕ) (hμ : μ < 2) (h : Done G L 32) (i) (row : Fin 2048) (d : Fin 128) :
    v.readCov L (Rect.unit (s := S2x2048x128) ![μ, 0, 0] ![1, 2048, 128] i).toLoadRect (ix3 0 row d) = G ⟨μ, hμ⟩ row d := by
  rw [View.readCov_eq_canon', ← h ⟨μ, hμ⟩ row d (by omega)]
  show View.canon L _ = _
  congr 1
  refine funext fun b => Fin.ext ?_
  show (![μ, 0, 0] : Fin 3 → ℕ) b + 1 * ((ix3 (0 : Fin 1) row d : S1x2048x128.Idx) b).val = ((ix3 (⟨μ, hμ⟩ : Fin 2) row d : S2x2048x128.Idx) b).val
  fin_cases b <;> simp [ix3]

/-- The store of one head's columns. -/
abbrev opiece (o : ℕ) (i : ∀ a : Fin 3, (![0, 0, o] : Fin 3 → ℕ) a + (![1, 2048, 128] : Fin 3 → ℕ) a ≤ S1x2048x256.size a)
    (w : VI S1x2048x128 .bf16) : View.Piece (Elt Ideal) S1x2048x256 .bf16 :=
  ⟨Rect.unit (s := S1x2048x256) ![0, 0, o] ![1, 2048, 128] i, w⟩

theorem canon_opiece (o : ℕ) (i w L) (row : Fin 2048) (d : Fin 128) (k : Fin 256) (h : k.val = o + d.val) :
    View.canon (opiece o i w :: L) (ix3 0 row k) = w (ix3 0 row d) := by
  have e : (ix3 (0 : Fin 1) row k : S1x2048x256.Idx) = (Rect.unit (s := S1x2048x256) ![0, 0, o] ![1, 2048, 128] i).emb (ix3 0 row d) := by
    refine funext fun b => Fin.ext ?_
    show ((ix3 (0 : Fin 1) row k : S1x2048x256.Idx) b).val = (![0, 0, o] : Fin 3 → ℕ) b + 1 * ((ix3 (0 : Fin 1) row d : S1x2048x128.Idx) b).val
    fin_cases b <;> simp [ix3, h]
  rw [e]; exact View.canon_cons_emb _ _ _ _

theorem canon_opiece_lo (o : ℕ) (i w L) (row : Fin 2048) (k : Fin 256) (h : k.val < o) :
    View.canon (opiece o i w :: L) (ix3 0 row k) = View.canon L (ix3 0 row k) := by
  refine View.canon_cons_of_not_mem _ _ fun hm => ?_
  have := (Rect.mem_set_unit.mp (show _ ∈ (Rect.unit (s := S1x2048x256) ![0, 0, o] ![1, 2048, 128] i).set from hm)) 2
  have h2 : o ≤ k.val := this.1
  omega

section
variable (x0 : VI S4x64 .f32) (x1 : VI S1x128 .f32) (x2 : VI S1x2x2048x128 .bf16) (x3 x4 : VI S1x2x256x128 .bf16) (x5 x6 : VI S1x2x2048x128 .bf16)

/-- One entry of the output block of a grid point, from its input blocks: head `hd` of the two, column `d` of its 128. -/
def outv (hd : Fin 2) (row : Fin 2048) (d : Fin 128) : EReal :=
  rowK (lamK (fun j => x0 (ix2 0 j)) (fun j => x0 (ix2 1 j)) (fun j => x0 (ix2 2 j)) (fun j => x0 (ix2 3 j)))
    (gacc x2 x3 x4 x5 x6 hd 0 row) (gacc x2 x3 x4 x5 x6 hd 1 row) (fun d => x1 (ix2 0 d)) d

variable (arg3 : Memref sig .tc .vmem S4x64 .f32) (harg3 : arg3.IsWhole) (arg4 : Memref sig .tc .vmem S1x128 .f32) (harg4 : arg4.IsWhole)
  (arg5 : Memref sig .tc .vmem S1x2x2048x128 .bf16) (harg5 : arg5.IsWhole) (arg6 : Memref sig .tc .vmem S1x2x256x128 .bf16) (harg6 : arg6.IsWhole)
  (arg7 : Memref sig .tc .vmem S1x2x256x128 .bf16) (harg7 : arg7.IsWhole) (arg8 : Memref sig .tc .vmem S1x2x2048x128 .bf16) (harg8 : arg8.IsWhole)
  (arg9 : Memref sig .tc .vmem S1x2x2048x128 .bf16) (harg9 : arg9.IsWhole)
  (arg10 : Memref sig .tc .vmem S1x2048x256 .bf16) (harg10 : arg10.IsWhole)
  (arg11 : Memref sig .tc .vmem S2x2048x128 .f32) (harg11 : arg11.IsWhole)
  (arg12 : Memref sig .tc .vmem S2x128x2304 .f32) (harg12 : arg12.IsWhole)

theorem lam_apply (c : Dev nD) : kernelRun0_A.sl.r (F := Ideal) c arg3 harg3 x0 (ix2 0 0) =
    lamK (fun j => x0 (ix2 0 j)) (fun j => x0 (ix2 1 j)) (fun j => x0 (ix2 2 j)) (fun j => x0 (ix2 3 j)) := by
  unfold kernelRun0_A.sl.r
  rw [pay3_apply]
  simp only [View.readAt_eq_ld, Memref.IsWhole.read_unread]
  have e : ∀ (a : Fin 4) (j : Fin 64), View.ld x0 (Rect.unit (s := S4x64) ![0, 0] S4x64.size inb_S4x64_S4x64_0_0) (ix2 a j) = x0 (ix2 a j) := by
    intro a j
    unfold View.ld
    congr 1
    refine funext fun b => Fin.ext ?_
    show (![0, 0] : Fin 2 → ℕ) b + 1 * ((ix2 a j : S4x64.Idx) b).val = ((ix2 a j : S4x64.Idx) b).val
    fin_cases b <;> simp [ix2]
  simp only [e]

theorem g_apply (d : Fin 128) : View.readAt (Elt Ideal) arg4.view (Rect.unit (s := S1x128) ![0, 0] S1x128.size inb_S1x128_S1x128_0_0).toLoadRect
    (harg4.unread x1) (ix2 0 d) = x1 (ix2 0 d) := by
  simp only [View.readAt_eq_ld, Memref.IsWhole.read_unread]
  unfold View.ld
  congr 1
  refine funext fun b => Fin.ext ?_
  show (![0, 0] : Fin 2 → ℕ) b + 1 * ((ix2 (0 : Fin 1) d : S1x128.Idx) b).val = ((ix2 (0 : Fin 1) d : S1x128.Idx) b).val
  fin_cases b <;> simp [ix2]

theorem out_head0 (c : Dev nD) (row : Fin 2048) (d : Fin 128) :
    kernelRun0_A.sl.r_95 (F := Ideal) c arg3 harg3 arg4 harg4 arg5 harg5 arg6 harg6 arg7 harg7 arg8 harg8 arg9 harg9 arg11 arg12 x0 x1 x2 x3 x4 x5 x6 (ix3 0 row d)
      = outv x0 x1 x2 x3 x4 x5 x6 0 row d := by
  unfold kernelRun0_A.sl.r_95
  rw [pay277_apply, lam_apply, outv]
  have h := upto_head0 arg5 harg5 arg6 harg6 arg7 harg7 arg8 harg8 arg9 harg9 arg12 x2 x3 x4 x5 x6 c
  have e0 : ∀ d, kernelRun0_A.sl.v1830 (F := Ideal) c arg5 harg5 arg6 harg6 arg7 harg7 arg8 harg8 arg9 harg9 arg11 arg12 x2 x3 x4 x5 x6 (ix3 0 row d)
      = gacc x2 x3 x4 x5 x6 0 0 row d := fun d => load_map arg11.view _ _ 0 (by decide) h _ row d
  have e1 : ∀ d, kernelRun0_A.sl.v1832 (F := Ideal) c arg5 harg5 arg6 harg6 arg7 harg7 arg8 harg8 arg9 harg9 arg11 arg12 x2 x3 x4 x5 x6 (ix3 0 row d)
      = gacc x2 x3 x4 x5 x6 0 1 row d := fun d => load_map arg11.view _ _ 1 (by decide) h _ row d
  simp only [e0, e1]
  exact congrArg (fun g => rowK _ _ _ g d) (funext fun d => g_apply x1 arg4 harg4 d)

theorem out_head1 (c : Dev nD) (row : Fin 2048) (d : Fin 128) :
    k0_pay1 (kernelRun0_A.sl.r_190 (F := Ideal) c arg3 harg3 arg4 harg4 arg5 harg5 arg6 harg6 arg7 harg7 arg8 harg8 arg9 harg9 arg11 arg12 x0 x1 x2 x3 x4 x5 x6) k0_pay556 (ix3 0 row d)
      = outv x0 x1 x2 x3 x4 x5 x6 1 row d := by
  unfold kernelRun0_A.sl.r_190
  rw [pay1_apply, lam_apply, outv]
  have h := upto_head1 arg5 harg5 arg6 harg6 arg7 harg7 arg8 harg8 arg9 harg9 arg12 x2 x3 x4 x5 x6 c
  have e0 : ∀ d, kernelRun0_A.sl.v3631 (F := Ideal) c arg5 harg5 arg6 harg6 arg7 harg7 arg8 harg8 arg9 harg9 arg11 arg12 x2 x3 x4 x5 x6 (ix3 0 row d)
      = gacc x2 x3 x4 x5 x6 1 0 row d := fun d => load_map arg11.view _ _ 0 (by decide) h _ row d
  have e1 : ∀ d, kernelRun0_A.sl.v3633 (F := Ideal) c arg5 harg5 arg6 harg6 arg7 harg7 arg8 harg8 arg9 harg9 arg11 arg12 x2 x3 x4 x5 x6 (ix3 0 row d)
      = gacc x2 x3 x4 x5 x6 1 1 row d := fun d => load_map arg11.view _ _ 1 (by decide) h _ row d
  simp only [e0, e1]
  exact congrArg (fun g => rowK _ _ _ g d) (funext fun d => g_apply x1 arg4 harg4 d)

theorem out_apply (c : Dev nD) (i : grid0.Coords) (row : Fin 2048) (hd : Fin 2) (d : Fin 128) (k : Fin 256) (hk : k.val = 128 * hd.val + d.val) :
    out0_A_7 (F := Ideal) c i arg3 harg3 arg4 harg4 arg5 harg5 arg6 harg6 arg7 harg7 arg8 harg8 arg9 harg9 arg10 harg10 arg11 harg11 arg12 harg12 x0 x1 x2 x3 x4 x5 x6 (ix3 0 row k)
      = outv x0 x1 x2 x3 x4 x5 x6 hd row d := by
  unfold out0_A_7
  rw [View.read_writes_junk_eq_canon]
  obtain ⟨hd, hh⟩ := hd
  have : hd = 0 ∨ hd = 1 := by omega
  rcases this with rfl | rfl
  · refine (canon_opiece_lo 128 inb_S1x2048x256_S1x2048x128_0_0_128 _ _ row k (by simp at hk; omega)).trans ?_
    refine (canon_opiece 0 inb_S1x2048x256_S1x2048x128_0_0_0 _ _ row d k (by simp at hk; omega)).trans ?_
    exact out_head0 x0 x1 x2 x3 x4 x5 x6 arg3 harg3 arg4 harg4 arg5 harg5 arg6 harg6 arg7 harg7 arg8 harg8 arg9 harg9 arg11 arg12 c row d
  · refine (canon_opiece 128 inb_S1x2048x256_S1x2048x128_0_0_128 _ _ row d k (by simp at hk; omega)).trans ?_
    exact out_head1 x0 x1 x2 x3 x4 x5 x6 arg3 harg3 arg4 harg4 arg5 harg5 arg6 harg6 arg7 harg7 arg8 harg8 arg9 harg9 arg11 arg12 c row d

end

end Cert.KernelIdeal.Blk
-- ==== Proof.In.lean ====
/- The blocks that a grid point stages, as entries of the argument arrays. -/
module

public import proofs.«01_k».proof.Proof.Gen.KernelIdeal.Value
public import Idealize.ShloMosaic.Lib.Claim
public import Idealize.ShloMosaic.Lib.StableHlo.RunRead
public import Idealize.ShloMosaic.Lib.Pointwise

@[expose] public section

noncomputable section

namespace Cert.KernelIdeal.In

open Cert.KernelIdeal Cert.KernelIdeal.Gen Idealize.ShloMosaic Idealize.ShloMosaic.TcCoe Idealize.SL.Sem

variable (m : (ℓ : Loc nD τ sig) → Buf (Elt Ideal) ℓ)

theorem N_eq : cfg0.N = 32 := N_0

/-- Grid point `t` works on batch `t / 2` … -/
def tb (t : Fin cfg0.N) : Fin 16 := ⟨t.val / 2, by have := lt_of_lt_of_eq t.isLt N_eq; omega⟩
/-- … and on heads `2 (t % 2)` and `2 (t % 2) + 1`. -/
def th (t : Fin cfg0.N) (hd : Fin 2) : Fin 4 := ⟨2 * (t.val % 2) + hd.val, by omega⟩

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 4) = t.val / 2 ∧ win0_2.index t (1 : Fin 4) = t.val % 2 ∧ win0_2.index t (2 : Fin 4) = 0
    ∧ win0_2.index t (3 : Fin 4) = 0 := (by decide +kernel : ∀ t : Fin grid0.N, _)
theorem idx3 : ∀ t : Fin cfg0.N, win0_3.index t (0 : Fin 4) = t.val / 2 ∧ win0_3.index t (1 : Fin 4) = t.val % 2 ∧ win0_3.index t (2 : Fin 4) = 0
    ∧ win0_3.index t (3 : Fin 4) = 0 := (by decide +kernel : ∀ t : Fin grid0.N, _)
theorem idx4 : ∀ t : Fin cfg0.N, win0_4.index t (0 : Fin 4) = t.val / 2 ∧ win0_4.index t (1 : Fin 4) = t.val % 2 ∧ win0_4.index t (2 : Fin 4) = 0
    ∧ win0_4.index t (3 : Fin 4) = 0 := (by decide +kernel : ∀ t : Fin grid0.N, _)
theorem idx5 : ∀ t : Fin cfg0.N, win0_5.index t (0 : Fin 4) = t.val / 2 ∧ win0_5.index t (1 : Fin 4) = t.val % 2 ∧ win0_5.index t (2 : Fin 4) = 0
    ∧ win0_5.index t (3 : Fin 4) = 0 := (by decide +kernel : ∀ t : Fin grid0.N, _)
theorem idx6 : ∀ t : Fin cfg0.N, win0_6.index t (0 : Fin 4) = t.val / 2 ∧ win0_6.index t (1 : Fin 4) = t.val % 2 ∧ win0_6.index t (2 : Fin 4) = 0
    ∧ win0_6.index t (3 : Fin 4) = 0 := (by decide +kernel : ∀ t : Fin grid0.N, _)
theorem idx7 : ∀ t : Fin cfg0.N, win0_7.index t (0 : Fin 3) = t.val / 2 ∧ win0_7.index t (1 : Fin 3) = 0 ∧ win0_7.index t (2 : Fin 3) = t.val % 2 :=
  (by decide +kernel : ∀ t : Fin grid0.N, _)

theorem emb0 (t : Fin cfg0.N) (a : Fin 4) (j : Fin 64) : ((cfg0.win 0).blk t).view.emb (ix2 a j) = ix2 a j := by
  obtain ⟨e0, e1⟩ := idx0 t
  funext x; apply Fin.ext
  match x with
  | ⟨0, _⟩ => show win0_0.index t (0 : Fin 2) * 4 + 1 * a.val = a.val; omega
  | ⟨1, _⟩ => show win0_0.index t (1 : Fin 2) * 64 + 1 * j.val = j.val; omega

theorem emb1 (t : Fin cfg0.N) (a : Fin 1) (j : Fin 128) : ((cfg0.win 1).blk t).view.emb (ix2 a j) = ix2 a j := by
  obtain ⟨e0, e1⟩ := idx1 t
  funext x; apply Fin.ext
  match x with
  | ⟨0, _⟩ => show win0_1.index t (0 : Fin 2) * 1 + 1 * a.val = a.val; omega
  | ⟨1, _⟩ => show win0_1.index t (1 : Fin 2) * 128 + 1 * j.val = j.val; omega

theorem emb2 (t : Fin cfg0.N) (hd : Fin 2) (r : Fin 2048) (d : Fin 128) :
    ((cfg0.win 2).blk t).view.emb (ix4 0 hd r d) = ix4 (tb t) (th t hd) r d := by
  obtain ⟨e0, e1, e2, e3⟩ := idx2 t
  funext x; apply Fin.ext
  match x with
  | ⟨0, _⟩ => show win0_2.index t (0 : Fin 4) * 1 + 1 * 0 = t.val / 2; omega
  | ⟨1, _⟩ => show win0_2.index t (1 : Fin 4) * 2 + 1 * hd.val = 2 * (t.val % 2) + hd.val; omega
  | ⟨2, _⟩ => show win0_2.index t (2 : Fin 4) * 2048 + 1 * r.val = r.val; omega
  | ⟨3, _⟩ => show win0_2.index t (3 : Fin 4) * 128 + 1 * d.val = d.val; omega

theorem emb3 (t : Fin cfg0.N) (hd : Fin 2) (r : Fin 256) (d : Fin 128) :
    ((cfg0.win 3).blk t).view.emb (ix4 0 hd r d) = ix4 (tb t) (th t hd) r d := by
  obtain ⟨e0, e1, e2, e3⟩ := idx3 t
  funext x; apply Fin.ext
  match x with
  | ⟨0, _⟩ => show win0_3.index t (0 : Fin 4) * 1 + 1 * 0 = t.val / 2; omega
  | ⟨1, _⟩ => show win0_3.index t (1 : Fin 4) * 2 + 1 * hd.val = 2 * (t.val % 2) + hd.val; omega
  | ⟨2, _⟩ => show win0_3.index t (2 : Fin 4) * 256 + 1 * r.val = r.val; omega
  | ⟨3, _⟩ => show win0_3.index t (3 : Fin 4) * 128 + 1 * d.val = d.val; omega

theorem emb4 (t : Fin cfg0.N) (hd : Fin 2) (r : Fin 256) (d : Fin 128) :
    ((cfg0.win 4).blk t).view.emb (ix4 0 hd r d) = ix4 (tb t) (th t hd) r d := by
  obtain ⟨e0, e1, e2, e3⟩ := idx4 t
  funext x; apply Fin.ext
  match x with
  | ⟨0, _⟩ => show win0_4.index t (0 : Fin 4) * 1 + 1 * 0 = t.val / 2; omega
  | ⟨1, _⟩ => show win0_4.index t (1 : Fin 4) * 2 + 1 * hd.val = 2 * (t.val % 2) + hd.val; omega
  | ⟨2, _⟩ => show win0_4.index t (2 : Fin 4) * 256 + 1 * r.val = r.val; omega
  | ⟨3, _⟩ => show win0_4.index t (3 : Fin 4) * 128 + 1 * d.val = d.val; omega

theorem emb5 (t : Fin cfg0.N) (hd : Fin 2) (r : Fin 2048) (d : Fin 128) :
    ((cfg0.win 5).blk t).view.emb (ix4 0 hd r d) = ix4 (tb t) (th t hd) r d := by
  obtain ⟨e0, e1, e2, e3⟩ := idx5 t
  funext x; apply Fin.ext
  match x with
  | ⟨0, _⟩ => show win0_5.index t (0 : Fin 4) * 1 + 1 * 0 = t.val / 2; omega
  | ⟨1, _⟩ => show win0_5.index t (1 : Fin 4) * 2 + 1 * hd.val = 2 * (t.val % 2) + hd.val; omega
  | ⟨2, _⟩ => show win0_5.index t (2 : Fin 4) * 2048 + 1 * r.val = r.val; omega
  | ⟨3, _⟩ => show win0_5.index t (3 : Fin 4) * 128 + 1 * d.val = d.val; omega

theorem emb6 (t : Fin cfg0.N) (hd : Fin 2) (r : Fin 2048) (d : Fin 128) :
    ((cfg0.win 6).blk t).view.emb (ix4 0 hd r d) = ix4 (tb t) (th t hd) r d := by
  obtain ⟨e0, e1, e2, e3⟩ := idx6 t
  funext x; apply Fin.ext
  match x with
  | ⟨0, _⟩ => show win0_6.index t (0 : Fin 4) * 1 + 1 * 0 = t.val / 2; omega
  | ⟨1, _⟩ => show win0_6.index t (1 : Fin 4) * 2 + 1 * hd.val = 2 * (t.val % 2) + hd.val; omega
  | ⟨2, _⟩ => show win0_6.index t (2 : Fin 4) * 2048 + 1 * r.val = r.val; omega
  | ⟨3, _⟩ => show win0_6.index t (3 : Fin 4) * 128 + 1 * d.val = d.val; omega

theorem emb7 (t : Fin cfg0.N) (r : Fin 2048) (k : Fin 256) :
    ((cfg0.win 7).blk t).view.emb (ix3 0 r k) = ix3 (tb t) r ⟨256 * (t.val % 2) + k.val, by omega⟩ := by
  obtain ⟨e0, e1, e2⟩ := idx7 t
  funext x; apply Fin.ext
  match x with
  | ⟨0, _⟩ => show win0_7.index t (0 : Fin 3) * 1 + 1 * 0 = t.val / 2; omega
  | ⟨1, _⟩ => show win0_7.index t (1 : Fin 3) * 2048 + 1 * r.val = r.val; omega
  | ⟨2, _⟩ => show win0_7.index t (2 : Fin 3) * 256 + 1 * k.val = 256 * (t.val % 2) + k.val; omega

/-- The factor of the queries. -/
def κ : EReal := Ideal.div (Ideal.ofBits .f32 0x3E000000#32) (Ideal.log (Ideal.ofBits .f32 0x40000000#32))

theorem heads_q (x : Vec Ideal S16x2048x512 .f32) (b : Fin 16) (h : Fin 4) (r : Fin 2048) (d : Fin 128) :
    (transpose S16x4x2048x128 [0, 2, 1, 3] (shapeCast S16x2048x4x128 x shapeCasts_S16x2048x512_S16x2048x4x128)
        transposes_S16x2048x4x128_S16x4x2048x128_0_2_1_3) (ix4 b h r d)
      = x (ix3 b r ⟨128 * h.val + d.val, by omega⟩) := by
  pointwise
  refine congrArg x (funext fun a => Fin.ext ?_)
  fin_cases a <;> simp [ix3] <;> omega

theorem heads_c (x : Vec Ideal S16x256x512 .f32) (b : Fin 16) (h : Fin 4) (r : Fin 256) (d : Fin 128) :
    (transpose S16x4x256x128 [0, 2, 1, 3] (shapeCast S16x256x4x128 x shapeCasts_S16x256x512_S16x256x4x128)
        transposes_S16x256x4x128_S16x4x256x128_0_2_1_3) (ix4 b h r d)
      = x (ix3 b r ⟨128 * h.val + d.val, by omega⟩) := by
  pointwise
  refine congrArg x (funext fun a => Fin.ext ?_)
  fin_cases a <;> simp [ix3] <;> omega

variable (c : Dev nD) (t : Fin cfg0.N)

theorem blk2 (hd : Fin 2) (r : Fin 2048) (d : Fin 128) :
    iblk m c 2 t (ix4 0 hd r d) = @HMul.hMul EReal EReal EReal _ (m ((c : Thread nD τ).loc main_arg0) (ix3 (tb t) r ⟨128 * (th t hd).val + d.val, by omega⟩)) κ := by
  show V m c main_v11 (((cfg0.win 2).blk t).view.emb (ix4 0 hd r d)) = _
  rw [emb2]
  entry_read
  exact congrArg₂ (fun a b : EReal => a * b) (heads_q _ _ _ _ _) rfl

theorem blk3 (hd : Fin 2) (r : Fin 256) (d : Fin 128) :
    iblk m c 3 t (ix4 0 hd r d) = m ((c : Thread nD τ).loc main_arg1) (ix3 (tb t) r ⟨128 * (th t hd).val + d.val, by omega⟩) := by
  show V m c main_v14 (((cfg0.win 3).blk t).view.emb (ix4 0 hd r d)) = _
  rw [emb3]
  entry_read
  exact heads_c _ _ _ _ _

theorem blk4 (hd : Fin 2) (r : Fin 256) (d : Fin 128) :
    iblk m c 4 t (ix4 0 hd r d) = m ((c : Thread nD τ).loc main_arg2) (ix3 (tb t) r ⟨128 * (th t hd).val + d.val, by omega⟩) := by
  show V m c main_v17 (((cfg0.win 4).blk t).view.emb (ix4 0 hd r d)) = _
  rw [emb4]
  entry_read
  exact heads_c _ _ _ _ _

theorem blk5 (hd : Fin 2) (r : Fin 2048) (d : Fin 128) :
    iblk m c 5 t (ix4 0 hd r d) = m ((c : Thread nD τ).loc main_arg3) (ix3 (tb t) r ⟨128 * (th t hd).val + d.val, by omega⟩) := by
  show V m c main_v20 (((cfg0.win 5).blk t).view.emb (ix4 0 hd r d)) = _
  rw [emb5]
  entry_read
  exact heads_q _ _ _ _ _

theorem blk6 (hd : Fin 2) (r : Fin 2048) (d : Fin 128) :
    iblk m c 6 t (ix4 0 hd r d) = m ((c : Thread nD τ).loc main_arg4) (ix3 (tb t) r ⟨128 * (th t hd).val + d.val, by omega⟩) := by
  show V m c main_v23 (((cfg0.win 6).blk t).view.emb (ix4 0 hd r d)) = _
  rw [emb6]
  entry_read
  exact heads_q _ _ _ _ _

theorem blk1 (d : Fin 128) : iblk m c 1 t (ix2 0 d) = m ((c : Thread nD τ).loc main_arg9) (ix1 d) := by
  show V m c main_v24 (((cfg0.win 1).blk t).view.emb (ix2 0 d)) = _
  rw [emb1]
  entry_read
  generalize m ((c : Thread nD τ).loc main_arg9) = x
  pointwise

/-- A vector of 64 laid out as a row. -/
abbrev rowOf (x : Vec Ideal S64 .f32) : Vec Ideal S1x64 .f32 := broadcastInDim S1x64 ![1] bcast_S64_S1x64_1 x

/-- The four vectors stacked. -/
theorem stack_eq (x y z w : Vec Ideal S1x64 .f32) (a : Fin 4) (j : Fin 64) :
    concatenate S4x64 0 [⟨S1x64, x⟩, ⟨S1x64, y⟩, ⟨S1x64, z⟩, ⟨S1x64, w⟩] concatenates_S1x64_S1x64_S1x64_S1x64_S4x64_d0 (ix2 a j)
      = (![x, y, z, w] a) (ix2 0 j) := by
  fin_cases a <;> pointwise <;> rfl

theorem entry4 : V m c main_v4 = concatenate S4x64 0 [⟨S1x64, rowOf (m ((c : Thread nD τ).loc main_arg5))⟩, ⟨S1x64, rowOf (m ((c : Thread nD τ).loc main_arg6))⟩,
    ⟨S1x64, rowOf (m ((c : Thread nD τ).loc main_arg7))⟩, ⟨S1x64, rowOf (m ((c : Thread nD τ).loc main_arg8))⟩] concatenates_S1x64_S1x64_S1x64_S1x64_S4x64_d0 := by
  show StableHlo.after hostOps0 (fun b => m (c, b)) (Proc.devRef .tc main_v4) = _
  rw [StableHlo.after_last_write (i := 4) [main_cst, main_v5, main_cst_0, main_v6, main_v7, main_v8, main_v9, main_v10, main_v11, main_v12, main_v13,
    main_v14, main_v15, main_v16, main_v17, main_v18, main_v19, main_v20, main_v21, main_v22, main_v23, main_v24] rfl rfl (by decide),
    StableHlo.nary4_result,
    StableHlo.upto_last_write (i := 0) (r := main_v0) [main_v1, main_v2, main_v3] rfl rfl (by decide), StableHlo.unary_result,
    StableHlo.upto_last_write (i := 1) (r := main_v1) [main_v2, main_v3] rfl rfl (by decide), StableHlo.unary_result,
    StableHlo.upto_last_write (i := 2) (r := main_v2) [main_v3] rfl rfl (by decide), StableHlo.unary_result,
    StableHlo.upto_last_write (i := 3) (r := main_v3) [] rfl rfl (by decide), StableHlo.unary_result,
    StableHlo.upto_unwritten (r := main_arg5) [] rfl (by decide),
    StableHlo.upto_unwritten (r := main_arg6) [main_v0] rfl (by decide),
    StableHlo.upto_unwritten (r := main_arg7) [main_v0, main_v1] rfl (by decide),
    StableHlo.upto_unwritten (r := main_arg8) [main_v0, main_v1, main_v2] rfl (by decide)]
  rfl

theorem rowOf_apply (x : Vec Ideal S64 .f32) (j : Fin 64) : rowOf x (ix2 0 j) = x (ix1 j) := by
  unfold rowOf
  pointwise

theorem blk0_0 (j : Fin 64) : iblk m c 0 t (ix2 0 j) = m ((c : Thread nD τ).loc main_arg5) (ix1 j) := by
  show V m c main_v4 (((cfg0.win 0).blk t).view.emb (ix2 0 j)) = _
  rw [emb0, entry4, stack_eq]
  exact rowOf_apply _ j

theorem blk0_1 (j : Fin 64) : iblk m c 0 t (ix2 1 j) = m ((c : Thread nD τ).loc main_arg6) (ix1 j) := by
  show V m c main_v4 (((cfg0.win 0).blk t).view.emb (ix2 1 j)) = _
  rw [emb0, entry4, stack_eq]
  exact rowOf_apply _ j

theorem blk0_2 (j : Fin 64) : iblk m c 0 t (ix2 2 j) = m ((c : Thread nD τ).loc main_arg7) (ix1 j) := by
  show V m c main_v4 (((cfg0.win 0).blk t).view.emb (ix2 2 j)) = _
  rw [emb0, entry4, stack_eq]
  exact rowOf_apply _ j

theorem blk0_3 (j : Fin 64) : iblk m c 0 t (ix2 3 j) = m ((c : Thread nD τ).loc main_arg8) (ix1 j) := by
  show V m c main_v4 (((cfg0.win 0).blk t).view.emb (ix2 3 j)) = _
  rw [emb0, entry4, stack_eq]
  exact rowOf_apply _ j

end Cert.KernelIdeal.In
-- ==== Proof.Ref.lean ====
/- What the reference computes, at an index. -/
module

public import proofs.«01_k».proof.Proof.Gen.ReferenceIdeal.Read
public import Idealize.ShloMosaic.Lib.Pointwise
public import proofs.«01_k».proof.Proof.Row

@[expose] public section

noncomputable section

namespace Cert.ReferenceIdeal.Ref

open Cert.ReferenceIdeal Cert.ReferenceIdeal.Gen Cert.ReferenceIdeal.Read Idealize.ShloMosaic Idealize.SL.Sem
open Cert.Attn

abbrev VI (s : Shape) (e : EltTy) := Vec Ideal s e

section
variable (x0 : VI S16x2048x512 .f32) (x1 x2 : VI S16x256x512 .f32) (x3 x4 : VI S16x2048x512 .f32)
  (x5 x6 x7 x8 : VI S64 .f32) (x9 : VI S128 .f32)

/-- The keys (or values) in one row of 2304: the context's, then the latents'. -/
def cat (y : VI S16x256x512 .f32) (z : VI S16x2048x512 .f32) (b : Fin 16) (k : Fin 2304) (col : Fin 512) : EReal :=
  if h : k.val < 256 then y (ix3 b ⟨k.val, h⟩ col) else z (ix3 b ⟨k.val - 256, by omega⟩ col)

theorem cat_apply0 (b : Fin 16) (k : Fin 2304) (col : Fin 512) : val_main_v0 (F := Ideal) x1 x3 (ix3 b k col) = cat x1 x3 b k col := by
  unfold val_main_v0 cat
  pointwise
  try rfl

theorem cat_apply1 (b : Fin 16) (k : Fin 2304) (col : Fin 512) : val_main_v1 (F := Ideal) x2 x4 (ix3 b k col) = cat x2 x4 b k col := by
  unfold val_main_v1 cat
  pointwise
  try rfl

/-- The score of row `row` against key `k` in head `h`, map `μ`. -/
def sc (b : Fin 16) (h : Fin 4) (μ : Fin 2) (row : Fin 2048) (k : Fin 2304) : EReal :=
  (∑ j : Fin 64, x0 (ix3 b row ⟨128 * h.val + (64 * μ.val + j.val), by omega⟩) * cat x1 x3 b k ⟨128 * h.val + (64 * μ.val + j.val), by omega⟩)
    * Ideal.ofBits .f32 0x3E000000#32

theorem sc0_apply (b : Fin 16) (h : Fin 4) (row : Fin 2048) (k : Fin 2304) :
    val_main_v19 (F := Ideal) x0 x1 x3 (ix4 b h row k) = sc x0 x1 x3 b h 0 row k := by
  simp only [val_main_v19_apply, val_main_v18_apply, val_main_cst_2_apply, val_main_v17_apply, val_main_v3_apply, val_main_v2_apply,
    val_main_v6_apply, val_main_v5_apply]
  unfold sc
  refine congrArg₂ (· * ·) (Finset.sum_congr rfl fun j _ => congrArg₂ (· * ·) (congrArg x0 (funext fun a => Fin.ext ?_))
    ((congrArg (val_main_v0 (F := Ideal) x1 x3) (funext fun a => Fin.ext ?_)).trans (cat_apply0 x1 x3 b k _))) rfl
  · fin_cases a <;> simp [ix3, ix4] <;> omega
  · fin_cases a <;> simp [ix3, ix4] <;> omega

theorem sc1_apply (b : Fin 16) (h : Fin 4) (row : Fin 2048) (k : Fin 2304) :
    val_main_v35 (F := Ideal) x0 x1 x3 (ix4 b h row k) = sc x0 x1 x3 b h 1 row k := by
  simp only [val_main_v35_apply, val_main_v34_apply, val_main_cst_6_apply, val_main_v33_apply, val_main_v4_apply, val_main_v2_apply,
    val_main_v7_apply, val_main_v5_apply]
  unfold sc
  refine congrArg₂ (· * ·) (Finset.sum_congr rfl fun j _ => congrArg₂ (· * ·) (congrArg x0 (funext fun a => Fin.ext ?_))
    ((congrArg (val_main_v0 (F := Ideal) x1 x3) (funext fun a => Fin.ext ?_)).trans (cat_apply0 x1 x3 b k _))) rfl
  · fin_cases a <;> simp [ix3, ix4] <;> omega
  · fin_cases a <;> simp [ix3, ix4] <;> omega

theorem ofBits_neg_inf : Ideal.ofBits FTy.f32 0xFF800000#32 = ⊥ := by
  simp [Ideal.ofBits, Ideal.ieee]

theorem max0_apply (b : Fin 16) (h : Fin 4) (row : Fin 2048) :
    val_main_v22 (F := Ideal) x0 x1 x3 (ix3 b h row) = Finset.univ.fold max ⊥ (sc x0 x1 x3 b h 0 row) := by
  have e : val_main_v20 (F := Ideal) x0 x1 x3 (ix3 b h row) = Finset.univ.fold max ⊥ (sc x0 x1 x3 b h 0 row) := by
    unfold val_main_v20 val_main_cst_3
    have hs : ∀ k, val_main_v19 (F := Ideal) x0 x1 x3 (ix4 b h row k) = sc x0 x1 x3 b h 0 row k := sc0_apply x0 x1 x3 b h row
    generalize val_main_v19 (F := Ideal) x0 x1 x3 = w at hs
    pointwise
    simp only [hs, ofBits_neg_inf]
  rw [val_main_v22_apply, e, val_main_v21_apply]
  simp only [val_main_cst_4_apply]
  show max (Ideal.ofBits FTy.f32 0xFF800000#32) _ = _
  rw [ofBits_neg_inf, max_eq_right bot_le]

theorem max1_apply (b : Fin 16) (h : Fin 4) (row : Fin 2048) :
    val_main_v38 (F := Ideal) x0 x1 x3 (ix3 b h row) = Finset.univ.fold max ⊥ (sc x0 x1 x3 b h 1 row) := by
  have e : val_main_v36 (F := Ideal) x0 x1 x3 (ix3 b h row) = Finset.univ.fold max ⊥ (sc x0 x1 x3 b h 1 row) := by
    unfold val_main_v36 val_main_cst_7
    have hs : ∀ k, val_main_v35 (F := Ideal) x0 x1 x3 (ix4 b h row k) = sc x0 x1 x3 b h 1 row k := sc1_apply x0 x1 x3 b h row
    generalize val_main_v35 (F := Ideal) x0 x1 x3 = w at hs
    pointwise
    simp only [hs, ofBits_neg_inf]
  rw [val_main_v38_apply, e, val_main_v37_apply]
  simp only [val_main_cst_8_apply]
  show max (Ideal.ofBits FTy.f32 0xFF800000#32) _ = _
  rw [ofBits_neg_inf, max_eq_right bot_le]

theorem exp0_apply (b : Fin 16) (h : Fin 4) (row : Fin 2048) (k : Fin 2304) :
    val_main_v26 (F := Ideal) x0 x1 x3 (ix4 b h row k)
      = Ideal.exp (sc x0 x1 x3 b h 0 row k - Finset.univ.fold max ⊥ (sc x0 x1 x3 b h 0 row)) := by
  rw [val_main_v26_apply, val_main_v25_apply, sc0_apply, val_main_v24_apply, val_main_v23_apply,
    show idx_main_v23 (idx_main_v24 (ix4 b h row k)) = ix3 b h row from funext fun a => by fin_cases a <;> rfl, max0_apply]
  rfl

theorem exp1_apply (b : Fin 16) (h : Fin 4) (row : Fin 2048) (k : Fin 2304) :
    val_main_v42 (F := Ideal) x0 x1 x3 (ix4 b h row k)
      = Ideal.exp (sc x0 x1 x3 b h 1 row k - Finset.univ.fold max ⊥ (sc x0 x1 x3 b h 1 row)) := by
  rw [val_main_v42_apply, val_main_v41_apply, sc1_apply, val_main_v40_apply, val_main_v39_apply,
    show idx_main_v39 (idx_main_v40 (ix4 b h row k)) = ix3 b h row from funext fun a => by fin_cases a <;> rfl, max1_apply]
  rfl

theorem w0_apply (b : Fin 16) (h : Fin 4) (row : Fin 2048) (k : Fin 2304) :
    val_main_v30 (F := Ideal) x0 x1 x3 (ix4 b h row k) = weight (sc x0 x1 x3 b h 0 row) k := by
  rw [val_main_v30_apply, exp0_apply, val_main_v29_apply, val_main_v28_apply, val_main_v27_apply]
  have e : ∀ k', val_main_v26 (F := Ideal) x0 x1 x3 (idx_main_v27 (idx_main_v28 (idx_main_v29 (ix4 b h row k))) k')
      = Ideal.exp (sc x0 x1 x3 b h 0 row k' - Finset.univ.fold max ⊥ (sc x0 x1 x3 b h 0 row)) := by
    intro k'
    rw [← exp0_apply]
    refine congrArg _ (funext fun a => ?_)
    fin_cases a <;> rfl
  simp only [e, val_main_cst_5_apply, weight]
  show Ideal.div _ (Ideal.ofBits .f32 0x00000000#32 + _) = _
  rw [show Ideal.ofBits .f32 0x00000000#32 = 0 by simp [Ideal.ofBits, Ideal.ieee], zero_add]

theorem w1_apply (b : Fin 16) (h : Fin 4) (row : Fin 2048) (k : Fin 2304) :
    val_main_v46 (F := Ideal) x0 x1 x3 (ix4 b h row k) = weight (sc x0 x1 x3 b h 1 row) k := by
  rw [val_main_v46_apply, exp1_apply, val_main_v45_apply, val_main_v44_apply, val_main_v43_apply]
  have e : ∀ k', val_main_v42 (F := Ideal) x0 x1 x3 (idx_main_v43 (idx_main_v44 (idx_main_v45 (ix4 b h row k))) k')
      = Ideal.exp (sc x0 x1 x3 b h 1 row k' - Finset.univ.fold max ⊥ (sc x0 x1 x3 b h 1 row)) := by
    intro k'
    rw [← exp1_apply]
    refine congrArg _ (funext fun a => ?_)
    fin_cases a <;> rfl
  simp only [e, val_main_cst_9_apply, weight]
  show Ideal.div _ (Ideal.ofBits .f32 0x00000000#32 + _) = _
  rw [show Ideal.ofBits .f32 0x00000000#32 = 0 by simp [Ideal.ofBits, Ideal.ieee], zero_add]

/-- One map's attention, head `h`, column `d`. -/
def att (b : Fin 16) (h : Fin 4) (μ : Fin 2) (row : Fin 2048) (d : Fin 128) : EReal :=
  ∑ k : Fin 2304, cat x2 x4 b k ⟨128 * h.val + d.val, by omega⟩ * weight (sc x0 x1 x3 b h μ row) k

theorem v_apply (b : Fin 16) (h : Fin 4) (k : Fin 2304) (d : Fin 128) :
    val_main_v8 (F := Ideal) x2 x4 (ix4 b k h d) = cat x2 x4 b k ⟨128 * h.val + d.val, by omega⟩ := by
  rw [val_main_v8_apply, ← cat_apply1]
  refine congrArg _ (funext fun a => Fin.ext ?_)
  fin_cases a <;> simp [ix3, ix4] <;> omega

theorem att0_apply (b : Fin 16) (h : Fin 4) (row : Fin 2048) (d : Fin 128) :
    val_main_v32 (F := Ideal) x0 x1 x2 x3 x4 (ix4 b row h d) = att x0 x1 x2 x3 x4 b h 0 row d := by
  rw [val_main_v32_apply, val_main_v31_apply]
  refine Finset.sum_congr rfl fun k _ => ?_
  rw [← v_apply, ← w0_apply]
  refine congrArg₂ (· * ·) (congrArg _ (funext fun a => ?_)) (congrArg _ (funext fun a => ?_)) <;> fin_cases a <;> rfl

theorem att1_apply (b : Fin 16) (h : Fin 4) (row : Fin 2048) (d : Fin 128) :
    val_main_v48 (F := Ideal) x0 x1 x2 x3 x4 (ix4 b row h d) = att x0 x1 x2 x3 x4 b h 1 row d := by
  rw [val_main_v48_apply, val_main_v47_apply]
  refine Finset.sum_congr rfl fun k _ => ?_
  rw [← v_apply, ← w1_apply]
  refine congrArg₂ (· * ·) (congrArg _ (funext fun a => ?_)) (congrArg _ (funext fun a => ?_)) <;> fin_cases a <;> rfl

/-- The weight of the second map. -/
def lam : EReal := lamK (fun j => x5 (ix1 j)) (fun j => x6 (ix1 j)) (fun j => x7 (ix1 j)) (fun j => x8 (ix1 j))

theorem lam_apply (i : S_.Idx) : val_main_v16 (F := Ideal) x5 x6 x7 x8 i = lam x5 x6 x7 x8 := by
  unfold val_main_v16 val_main_v15 val_main_v14 val_main_v13 val_main_v12 val_main_v11 val_main_v10 val_main_v9 val_main_cst
    val_main_cst_0 val_main_cst_1 lam lamK
  pointwise
  try rfl

theorem y_apply (b : Fin 16) (h : Fin 4) (row : Fin 2048) (d : Fin 128) :
    val_main_v51 (F := Ideal) x0 x1 x2 x3 x4 x5 x6 x7 x8 (ix4 b row h d)
      = att x0 x1 x2 x3 x4 b h 0 row d - lam x5 x6 x7 x8 * att x0 x1 x2 x3 x4 b h 1 row d := by
  rw [val_main_v51_apply, val_main_v50_apply, val_main_v49_apply, lam_apply, att0_apply, att1_apply]
  rfl

/-- One entry of the reference's result: head `h`, column `d` of its 128. -/
theorem out_apply (b : Fin 16) (h : Fin 4) (row : Fin 2048) (d : Fin 128) (col : Fin 512) (hc : col.val = 128 * h.val + d.val) :
    val_main_v68 (F := Ideal) x0 x1 x2 x3 x4 x5 x6 x7 x8 x9 (ix3 b row col)
      = rowK (lam x5 x6 x7 x8) (att x0 x1 x2 x3 x4 b h 0 row) (att x0 x1 x2 x3 x4 b h 1 row) (fun d => x9 (ix1 d)) d := by
  have hi : idx_main_v67 (ix3 b row col) = ix4 b row h d := by
    refine funext fun a => Fin.ext ?_
    fin_cases a <;> simp [ix3, ix4] <;> omega
  have e : ∀ k, val_main_v52 (F := Ideal) x0 x1 x2 x3 x4 x5 x6 x7 x8 (idx_main_v53 (idx_main_v54 (idx_main_v60 (ix4 b row h d))) k)
      = (att x0 x1 x2 x3 x4 b h 0 row k - lam x5 x6 x7 x8 * att x0 x1 x2 x3 x4 b h 1 row k)
        * (att x0 x1 x2 x3 x4 b h 0 row k - lam x5 x6 x7 x8 * att x0 x1 x2 x3 x4 b h 1 row k) := by
    intro k
    have hk : idx_main_v53 (idx_main_v54 (idx_main_v60 (ix4 b row h d))) k = ix4 b row h k := by
      refine funext fun a => ?_
      fin_cases a <;> rfl
    rw [hk, val_main_v52_apply, y_apply]
    rfl
  rw [val_main_v68_apply, val_main_v67_apply, hi, val_main_v66_apply, val_main_v65_apply, val_main_cst_13_apply, val_main_v64_apply,
    val_main_v63_apply, val_main_v62_apply, val_main_v61_apply, y_apply, val_main_v60_apply, val_main_v59_apply, val_main_v58_apply,
    val_main_v57_apply, val_main_cst_12_apply, val_main_v56_apply, val_main_v55_apply, val_main_cst_11_apply, val_main_v54_apply,
    val_main_v53_apply]
  simp only [e, val_main_cst_10_apply]
  unfold rowK
  rw [show (FloatOps.ofBits FTy.f32 0x00000000#32 : Ideal FTy.f32) = (0 : EReal) by
    show Ideal.ofBits .f32 0x00000000#32 = 0
    simp [Ideal.ofBits, Ideal.ieee], zero_add]
  have hg : (idx_main_v62 (idx_main_v63 (ix4 b row h d))) = ix1 d := by
    refine funext fun a => ?_
    fin_cases a <;> rfl
  rw [hg]
  rfl

end

end Cert.ReferenceIdeal.Ref
-- ==== Proof.Math.lean ====
/- Two ways of writing a row of the differential attention, equal over the extended reals. -/
module

public import proofs.«01_k».proof.Proof.Row

@[expose] public section

noncomputable section

namespace Cert.Attn

open Idealize.ShloMosaic

/-! ## A positive real factor -/

theorem add_mul_pos (c : ℝ) (hc : 0 < c) (x y : EReal) : (x + y) * (c : EReal) = x * c + y * c := by
  have h := EReal.left_distrib_of_nonneg_of_ne_top (x := (c : EReal)) (by exact_mod_cast hc.le) (EReal.coe_ne_top c) y x
  rw [mul_comm, add_comm x y, h, add_comm, mul_comm x, mul_comm y]

theorem sum_mul_pos {ι : Type} (c : ℝ) (hc : 0 < c) (f : ι → EReal) (s : Finset ι) :
    (∑ j ∈ s, f j) * (c : EReal) = ∑ j ∈ s, f j * c := by
  classical
  induction s using Finset.induction_on with
  | empty => simp
  | insert a t ha ih => rw [Finset.sum_insert ha, Finset.sum_insert ha, add_mul_pos c hc, ih]

theorem neg_mul_real (c : ℝ) (x : EReal) : -x * (c : EReal) = -(x * c) := EReal.neg_mul x c

theorem sub_mul_pos (c : ℝ) (hc : 0 < c) (x y : EReal) : (x - y) * (c : EReal) = x * c - y * c := by
  rw [sub_eq_add_neg, add_mul_pos c hc, neg_mul_real, sub_eq_add_neg]

theorem max_mul_pos (c : ℝ) (hc : 0 < c) (x y : EReal) : max x y * (c : EReal) = max (x * c) (y * c) := by
  have hm : Monotone fun z : EReal => z * (c : EReal) := fun a b h =>
    mul_le_mul_of_nonneg_right h (by exact_mod_cast hc.le)
  exact hm.map_max

theorem fold_mul_pos {n : ℕ} (c : ℝ) (hc : 0 < c) (s : Fin n → EReal) :
    Finset.univ.fold max ⊥ (fun k => s k * (c : EReal)) = Finset.univ.fold max ⊥ s * (c : EReal) := by
  have h := Finset.fold_hom (op := (max : EReal → EReal → EReal)) (op' := (max : EReal → EReal → EReal)) (s := (Finset.univ : Finset (Fin n)))
    (f := s) (b := ⊥) (m := fun z : EReal => z * (c : EReal)) (fun x y => max_mul_pos c hc x y)
  rw [← h, EReal.bot_mul_coe_of_pos hc]

/-! ## The powers -/

theorem exp2_mul (x : EReal) : Ideal.exp2 (x * (((Real.log 2)⁻¹ : ℝ) : EReal)) = Ideal.exp x := by
  have hl : 0 < Real.log 2 := Real.log_pos (by norm_num)
  induction x using EReal.rec with
  | bot => rw [EReal.bot_mul_coe_of_pos (inv_pos.mpr hl)]; rfl
  | top => rw [EReal.top_mul_coe_of_pos (inv_pos.mpr hl)]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num), mul_comm r, ← mul_assoc, mul_inv_cancel₀ hl.ne', one_mul]

/-- The kernel's power of two at scores scaled by `1 / log 2` is the exponential at the scores. -/
theorem pow_eq {n : ℕ} (s : Fin n → EReal) (k : Fin n) :
    Ideal.exp2 (s k * (((Real.log 2)⁻¹ : ℝ) : EReal) - Finset.univ.fold max ⊥ (fun k => s k * (((Real.log 2)⁻¹ : ℝ) : EReal)))
      = Ideal.exp (s k - Finset.univ.fold max ⊥ s) := by
  have hl : 0 < (Real.log 2)⁻¹ := inv_pos.mpr (Real.log_pos (by norm_num))
  rw [fold_mul_pos _ hl, ← sub_mul_pos _ hl, exp2_mul]

/-! ## One map -/

/-- The kernel's quotient for one column: the weighted sum over the sum of the weights. -/
def ov (s : Fin 2304 → EReal) (v : Fin 2304 → EReal) : EReal :=
  Ideal.div (∑ k, Ideal.exp (s k - Finset.univ.fold max ⊥ s) * v k) (∑ k, Ideal.exp (s k - Finset.univ.fold max ⊥ s))

/-- The reference's column: the sum of the values by their normed weights. -/
def av (s : Fin 2304 → EReal) (v : Fin 2304 → EReal) : EReal := ∑ k, v k * weight s k

theorem le_fold {n : ℕ} (s : Fin n → EReal) (k : Fin n) : s k ≤ Finset.univ.fold max ⊥ s :=
  (Finset.le_fold_max (s k)).mpr (Or.inr ⟨k, Finset.mem_univ k, le_rfl⟩)

theorem fold_attained {n : ℕ} (s : Fin n → EReal) (h : Finset.univ.fold max ⊥ s ≠ ⊥) : ∃ k, s k = Finset.univ.fold max ⊥ s := by
  rcases (Finset.le_fold_max (Finset.univ.fold max ⊥ s)).mp le_rfl with h' | ⟨k, _, hk⟩
  · exact absurd (le_bot_iff.mp h') h
  · exact ⟨k, le_antisymm (le_fold s k) hk⟩

/-- A finite maximum: the weights are reals with a positive real sum, and the two columns agree. -/
theorem good (s v : Fin 2304 → EReal) (M : ℝ) (hM : Finset.univ.fold max ⊥ s = (M : EReal)) : ov s v = av s v := by
  have he : ∀ k, ∃ r : ℝ, 0 ≤ r ∧ Ideal.exp (s k - (M : EReal)) = (r : EReal) := by
    intro k
    have hk : s k ≤ (M : EReal) := hM ▸ le_fold s k
    generalize s k = x at hk
    induction x using EReal.rec with
    | bot => exact ⟨0, le_rfl, rfl⟩
    | top => exact absurd (top_le_iff.mp hk) (EReal.coe_ne_top M)
    | coe r => exact ⟨Real.exp (r - M), (Real.exp_pos _).le, by rw [← EReal.coe_sub]; rfl⟩
  choose e he0 he using he
  obtain ⟨k₀, hk₀⟩ := fold_attained s (by rw [hM]; exact EReal.coe_ne_bot M)
  have h1 : e k₀ = 1 := by
    have h := he k₀
    rw [hk₀, hM, ← EReal.coe_sub, sub_self] at h
    have h' : ((Real.exp 0 : ℝ) : EReal) = (e k₀ : EReal) := h
    rw [Real.exp_zero] at h'
    exact_mod_cast h'.symm
  have hL : 0 < ∑ k, e k := by
    have := Finset.single_le_sum (f := e) (fun k _ => he0 k) (Finset.mem_univ k₀)
    rw [h1] at this
    linarith
  have hs : (∑ k, Ideal.exp (s k - (M : EReal))) = ((∑ k, e k : ℝ) : EReal) := by
    rw [Finset.sum_congr rfl fun k _ => he k]
    exact (map_sum (⟨⟨Real.toEReal, EReal.coe_zero⟩, EReal.coe_add⟩ : ℝ →+ EReal) e Finset.univ).symm
  unfold ov av weight
  rw [hM, hs]
  simp only [Ideal.div_coe hL.ne']
  rw [sum_mul_pos _ (by positivity)]
  refine Finset.sum_congr rfl fun k _ => ?_
  rw [mul_comm (Ideal.exp _) (v k), mul_assoc]

/-- Infinite. -/
def Inf (x : EReal) : Prop := x = ⊤ ∨ x = ⊥

theorem Inf.sub_left {x : EReal} (h : Inf x) (y : EReal) : Inf (x - y) := by
  rcases h with rfl | rfl
  · induction y using EReal.rec with
    | bot => exact Or.inl rfl
    | top => exact Or.inr rfl
    | coe r => exact Or.inl (EReal.top_sub_coe r)
  · exact Or.inr (EReal.bot_sub y)

theorem Inf.sub_right {x : EReal} (h : Inf x) (y : EReal) : Inf (y - x) := by
  rcases h with rfl | rfl
  · exact Or.inr (EReal.sub_top y)
  · induction y using EReal.rec with
    | bot => exact Or.inr rfl
    | top => exact Or.inl rfl
    | coe r => exact Or.inl (EReal.coe_sub_bot r)

theorem Inf.mul {x : EReal} (h : Inf x) {l : EReal} (hl : l ≠ 0) : Inf (l * x) := by
  rcases lt_or_gt_of_ne hl with h0 | h0 <;> rcases h with rfl | rfl
  · exact Or.inr (EReal.mul_top_of_neg h0)
  · exact Or.inl (EReal.mul_bot_of_neg h0)
  · exact Or.inl (EReal.mul_top_of_pos h0)
  · exact Or.inr (EReal.mul_bot_of_pos h0)

theorem sum_inf {n : ℕ} (f : Fin n → EReal) (hf : ∀ k, f k = 0 ∨ Inf (f k)) (t : Finset (Fin n)) :
    (∑ k ∈ t, f k = 0 ∧ ∀ k ∈ t, f k = 0) ∨ Inf (∑ k ∈ t, f k) := by
  classical
  induction t using Finset.induction_on with
  | empty => exact Or.inl ⟨rfl, fun k hk => absurd hk (Finset.notMem_empty k)⟩
  | insert a t ha ih =>
    rw [Finset.sum_insert ha]
    rcases ih with ⟨h0, hz⟩ | hi
    · rw [h0, add_zero]
      rcases hf a with h | h
      · refine Or.inl ⟨h, fun k hk => ?_⟩
        rcases Finset.mem_insert.mp hk with rfl | hk
        · exact h
        · exact hz k hk
      · exact Or.inr h
    · refine Or.inr ?_
      rcases hi with h | h <;> rw [h]
      · exact (hf a).elim (fun h => by rw [h]; exact Or.inl (zero_add _)) (fun h => h.elim (fun h => by rw [h]; exact Or.inl rfl) (fun h => by rw [h]; exact Or.inr rfl))
      · exact Or.inr (EReal.add_bot _)

theorem div_zero_zero : Ideal.div 0 0 = ⊥ := by simp [Ideal.div]

/-- An infinite maximum: every weight is zero over zero. -/
theorem bad (s v : Fin 2304 → EReal) (hM : Inf (Finset.univ.fold max ⊥ s)) :
    ov s v = ⊥ ∧ ((∃ k, v k ≠ 0) → Inf (av s v)) := by
  have he : ∀ k, Ideal.exp (s k - Finset.univ.fold max ⊥ s) = 0 := by
    intro k
    have hb : s k - Finset.univ.fold max ⊥ s = ⊥ := by
      rcases hM with h | h
      · rw [h]; exact EReal.sub_top _
      · have : s k = ⊥ := le_bot_iff.mp (h ▸ le_fold s k)
        rw [this]; exact EReal.bot_sub _
    rw [hb]; rfl
  have hw : ∀ k, weight s k = ⊥ := by
    intro k
    unfold weight
    simp only [he, Finset.sum_const_zero, div_zero_zero]
  constructor
  · unfold ov
    simp only [he, zero_mul, Finset.sum_const_zero, div_zero_zero]
  · rintro ⟨k, hk⟩
    unfold av
    simp only [hw]
    rcases sum_inf (fun k => v k * ⊥) (fun k => by
      by_cases h : v k = 0
      · exact Or.inl (by rw [h, zero_mul])
      · exact Or.inr (Inf.mul (Or.inr rfl) h)) Finset.univ with ⟨_, hz⟩ | h
    · have := hz k (Finset.mem_univ k)
      have hi : Inf (v k * ⊥) := Inf.mul (Or.inr rfl) hk
      rw [this] at hi
      rcases hi with h | h
      · exact absurd h EReal.zero_ne_top
      · exact absurd h EReal.zero_ne_bot
    · exact h

/-! ## The row -/

theorem sq_nonneg' (x : EReal) : 0 ≤ x * x := by
  rcases le_total 0 x with h | h
  · exact mul_nonneg h h
  · have := mul_nonneg (EReal.neg_nonneg.mpr h) (EReal.neg_nonneg.mpr h)
    rwa [EReal.neg_mul, mul_comm, EReal.neg_mul, neg_neg] at this

theorem ofBits_128 : Ideal.ofBits .f32 0x43000000#32 = ((128 : ℝ) : EReal) := by
  simp [Ideal.ofBits, Ideal.ieee, -EReal.coe_mul]; norm_num

theorem ofBits_eps : ∃ r : ℝ, Ideal.ofBits .f32 0x358637BD#32 = (r : EReal) :=
  ⟨8796093 * (2 : ℝ) ^ (-43 : ℤ), by simp [Ideal.ofBits, Ideal.ieee, -EReal.coe_mul]⟩

/-- A row with an infinite entry is zero. -/
theorem row_inf (lam : EReal) (a1 a2 g : Fin 128 → EReal) (d e : Fin 128) (h : Inf (a1 e - lam * a2 e)) : rowK lam a1 a2 g d = 0 := by
  have hs : (∑ e, (a1 e - lam * a2 e) * (a1 e - lam * a2 e)) = ⊤ := by
    refine top_le_iff.mp ?_
    refine le_trans ?_ (Finset.single_le_sum (f := fun e => (a1 e - lam * a2 e) * (a1 e - lam * a2 e)) (fun k _ => sq_nonneg' _) (Finset.mem_univ e))
    show ⊤ ≤ (a1 e - lam * a2 e) * (a1 e - lam * a2 e)
    rcases h with h | h <;> rw [h] <;> simp
  obtain ⟨r, hr⟩ := ofBits_eps
  unfold rowK
  rw [hs, ofBits_128, hr, Ideal.div_coe (by norm_num)]
  have h1 : (⊤ : EReal) * ((1 / 128 : ℝ) : EReal) = ⊤ := EReal.top_mul_coe_of_pos (by norm_num)
  rw [h1, EReal.top_add_coe]
  have h2 : Ideal.rsqrt (⊤ : EReal) = 0 := rfl
  rw [h2, mul_zero, zero_mul, zero_mul]

theorem row_zero (lam : EReal) (a1 a2 g : Fin 128 → EReal) (d : Fin 128) (h1 : a1 d = 0) (h2 : a2 d = 0) : rowK lam a1 a2 g d = 0 := by
  unfold rowK
  rw [h1, h2, mul_zero, sub_zero, zero_mul, zero_mul, zero_mul]

theorem av_zero (s v : Fin 2304 → EReal) (h : ∀ k, v k = 0) : av s v = 0 := by
  unfold av
  simp only [h, zero_mul, Finset.sum_const_zero]

theorem real_or_inf (x : EReal) : (∃ r : ℝ, x = (r : EReal)) ∨ Inf x := by
  induction x using EReal.rec with
  | bot => exact Or.inr (Or.inr rfl)
  | top => exact Or.inr (Or.inl rfl)
  | coe r => exact Or.inl ⟨r, rfl⟩

/-- The kernel's row is the reference's, whatever the scores, the values and the weight of the second map. -/
theorem row_eq (lam : EReal) (s1 s2 : Fin 2304 → EReal) (v : Fin 128 → Fin 2304 → EReal) (g : Fin 128 → EReal) (d : Fin 128) :
    rowK lam (fun d => ov s1 (v d)) (fun d => ov s2 (v d)) g d = rowK lam (fun d => av s1 (v d)) (fun d => av s2 (v d)) g d := by
  by_cases hv : ∃ e k, v e k ≠ 0
  · obtain ⟨e, k, hk⟩ := hv
    rcases real_or_inf (Finset.univ.fold max ⊥ s1) with ⟨M1, h1⟩ | h1
    · have e1 : ∀ d, ov s1 (v d) = av s1 (v d) := fun d => good s1 (v d) M1 h1
      rcases real_or_inf (Finset.univ.fold max ⊥ s2) with ⟨M2, h2⟩ | h2
      · have e2 : ∀ d, ov s2 (v d) = av s2 (v d) := fun d => good s2 (v d) M2 h2
        simp only [e1, e2]
      · by_cases hl : lam = 0
        · subst hl
          unfold rowK
          simp only [e1, zero_mul]
        · rw [row_inf _ _ _ _ d e, row_inf _ _ _ _ d e]
          · exact Inf.sub_right (Inf.mul ((bad s2 (v e) h2).2 ⟨k, hk⟩) hl) _
          · exact Inf.sub_right (Inf.mul (Or.inr (bad s2 (v e) h2).1) hl) _
    · rw [row_inf _ _ _ _ d e, row_inf _ _ _ _ d e]
      · exact Inf.sub_left ((bad s1 (v e) h1).2 ⟨k, hk⟩) _
      · exact Inf.sub_left (Or.inr (bad s1 (v e) h1).1) _
  · have hz : ∀ e k, v e k = 0 := fun e k => by
      by_contra h
      exact hv ⟨e, k, h⟩
    rw [row_zero lam (fun d => av s1 (v d)) (fun d => av s2 (v d)) g d (av_zero s1 (v d) (hz d)) (av_zero s2 (v d) (hz d))]
    rcases real_or_inf (Finset.univ.fold max ⊥ s1) with ⟨M1, h1⟩ | h1
    · have e1 : ∀ d, ov s1 (v d) = 0 := fun d => (good s1 (v d) M1 h1).trans (av_zero s1 (v d) (hz d))
      rcases real_or_inf (Finset.univ.fold max ⊥ s2) with ⟨M2, h2⟩ | h2
      · exact row_zero _ _ _ _ _ (e1 d) ((good s2 (v d) M2 h2).trans (av_zero s2 (v d) (hz d)))
      · by_cases hl : lam = 0
        · subst hl
          unfold rowK
          simp only [e1, zero_mul, sub_zero]
        · exact row_inf _ _ _ _ d d (Inf.sub_right (Inf.mul (Or.inr (bad s2 (v d) h2).1) hl) _)
    · exact row_inf _ _ _ _ d d (Inf.sub_left (Or.inr (bad s1 (v d) h1).1) _)

end Cert.Attn
-- ==== Proof.Arr.lean ====
/- The kernel's result array is the reference's. -/
module

public import proofs.«01_k».proof.Proof.Out
public import proofs.«01_k».proof.Proof.In
public import proofs.«01_k».proof.Proof.Ref
public import proofs.«01_k».proof.Proof.Math

@[expose] public section

noncomputable section

namespace Cert.KernelIdeal.Arr

open Cert.KernelIdeal Cert.KernelIdeal.Gen Cert.KernelIdeal.Value Cert.KernelIdeal.Blk Cert.KernelIdeal.In
open Idealize.ShloMosaic Idealize.ShloMosaic.TcCoe Idealize.SL.Sem Cert.Attn
open Cert.ReferenceIdeal.Ref (cat sc att lam)

/-! ## One quotient, its keys in two parts -/

theorem sum_parts (f : Fin 2304 → EReal) : (∑ k : Fin 256, f ⟨k.val, by omega⟩) + ∑ k : Fin 2048, f ⟨256 + k.val, by omega⟩ = ∑ k, f k := by
  rw [show (∑ k : Fin 2304, f k) = ∑ k : Fin (256 + 2048), f k from rfl, Fin.sum_univ_add]
  rfl

theorem oval_eq (s v : Fin 2304 → EReal) :
    oval (fun k => s k * (((Real.log 2)⁻¹ : ℝ) : EReal)) (fun k => v ⟨k.val, by omega⟩) (fun k => v ⟨256 + k.val, by omega⟩) = ov s v := by
  unfold oval ov
  have h1 := sum_parts fun k => Ideal.exp2 (s k * (((Real.log 2)⁻¹ : ℝ) : EReal) - Finset.univ.fold max ⊥ (fun k => s k * (((Real.log 2)⁻¹ : ℝ) : EReal))) * v k
  have h2 := sum_parts fun k => Ideal.exp2 (s k * (((Real.log 2)⁻¹ : ℝ) : EReal) - Finset.univ.fold max ⊥ (fun k => s k * (((Real.log 2)⁻¹ : ℝ) : EReal)))
  simp only [pow_eq] at h1 h2
  simp only [pow_eq]
  rw [h1, h2]

/-! ## The factor -/

theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem κ_eq : In.κ = ((1 / 8 * (Real.log 2)⁻¹ : ℝ) : EReal) := by
  have hl : 0 < Real.log 2 := Real.log_pos (by norm_num)
  unfold In.κ
  rw [ofBits_eighth, ofBits_two, Ideal.log_coe, if_neg (by norm_num), Ideal.div_coe hl.ne', ← EReal.coe_mul, one_div (Real.log 2)]

/-- A score with the factor on the query is the reference's score times `1 / log 2`. -/
theorem score_eq (q k : Fin 64 → EReal) :
    (∑ j, (q j * In.κ) * k j) = (∑ j, q j * k j) * Ideal.ofBits .f32 0x3E000000#32 * (((Real.log 2)⁻¹ : ℝ) : EReal) := by
  have hl : 0 < (Real.log 2)⁻¹ := inv_pos.mpr (Real.log_pos (by norm_num))
  rw [ofBits_eighth, mul_assoc, ← EReal.coe_mul, sum_mul_pos _ (by positivity), κ_eq]
  exact Finset.sum_congr rfl fun j _ => mul_right_comm _ _ _

variable (m : (ℓ : Loc nD τ sig) → Buf (Elt Ideal) ℓ) (c : Dev nD)

abbrev A0 : VI S16x2048x512 .f32 := m ((c : Thread nD τ).loc main_arg0)
abbrev A1 : VI S16x256x512 .f32 := m ((c : Thread nD τ).loc main_arg1)
abbrev A2 : VI S16x256x512 .f32 := m ((c : Thread nD τ).loc main_arg2)
abbrev A3 : VI S16x2048x512 .f32 := m ((c : Thread nD τ).loc main_arg3)
abbrev A4 : VI S16x2048x512 .f32 := m ((c : Thread nD τ).loc main_arg4)
abbrev A5 : VI S64 .f32 := m ((c : Thread nD τ).loc main_arg5)
abbrev A6 : VI S64 .f32 := m ((c : Thread nD τ).loc main_arg6)
abbrev A7 : VI S64 .f32 := m ((c : Thread nD τ).loc main_arg7)
abbrev A8 : VI S64 .f32 := m ((c : Thread nD τ).loc main_arg8)
abbrev A9 : VI S128 .f32 := m ((c : Thread nD τ).loc main_arg9)

/-- The reference's function of the argument arrays. -/
def G : VI S16x2048x512 .bf16 :=
  Cert.ReferenceIdeal.Read.val_main_v68 (F := Ideal) (A0 m c) (A1 m c) (A2 m c) (A3 m c) (A4 m c) (A5 m c) (A6 m c) (A7 m c) (A8 m c) (A9 m c)

variable (t : Fin cfg0.N)

theorem srow_eq (hd μ : Fin 2) (row : Fin 2048) (k : Fin 2304) :
    srow (iblk m c 2 t) (iblk m c 3 t) (iblk m c 5 t) hd μ row k
      = sc (A0 m c) (A1 m c) (A3 m c) (tb t) (th t hd) μ row k * (((Real.log 2)⁻¹ : ℝ) : EReal) := by
  unfold srow sc
  rw [← score_eq]
  refine Finset.sum_congr rfl fun j _ => ?_
  refine congrArg₂ (fun a b : EReal => a * b) (blk2 m c t hd row _) ?_
  unfold cat
  by_cases h : k.val < 256
  · rw [dif_pos h, dif_pos h]
    exact blk3 m c t hd _ _
  · rw [dif_neg h, dif_neg h]
    exact blk5 m c t hd _ _

theorem gacc_eq (hd μ : Fin 2) (row : Fin 2048) (d : Fin 128) :
    gacc (iblk m c 2 t) (iblk m c 3 t) (iblk m c 4 t) (iblk m c 5 t) (iblk m c 6 t) hd μ row d
      = ov (sc (A0 m c) (A1 m c) (A3 m c) (tb t) (th t hd) μ row)
        (fun k => cat (A2 m c) (A4 m c) (tb t) k ⟨128 * (th t hd).val + d.val, by omega⟩) := by
  unfold gacc
  rw [← oval_eq, show srow (iblk m c 2 t) (iblk m c 3 t) (iblk m c 5 t) hd μ row
    = fun k => sc (A0 m c) (A1 m c) (A3 m c) (tb t) (th t hd) μ row k * (((Real.log 2)⁻¹ : ℝ) : EReal) from funext (srow_eq m c t hd μ row)]
  congr 1
  · funext k
    unfold cat
    rw [dif_pos (show (⟨k.val, _⟩ : Fin 2304).val < 256 from k.isLt)]
    exact blk4 m c t hd _ _
  · funext k
    unfold cat
    rw [dif_neg (show ¬(⟨256 + k.val, _⟩ : Fin 2304).val < 256 by simp)]
    refine (blk6 m c t hd k d).trans ?_
    congr 2
    exact Fin.ext (by simp)

theorem outv_eq (hd : Fin 2) (row : Fin 2048) (d : Fin 128) (col : Fin 512) (hc : col.val = 128 * (th t hd).val + d.val) :
    outv (iblk m c 0 t) (iblk m c 1 t) (iblk m c 2 t) (iblk m c 3 t) (iblk m c 4 t) (iblk m c 5 t) (iblk m c 6 t) hd row d
      = G m c (ix3 (tb t) row col) := by
  unfold G outv
  rw [Cert.ReferenceIdeal.Ref.out_apply _ _ _ _ _ _ _ _ _ _ (tb t) (th t hd) row d col hc]
  have hl : lamK (fun j => iblk m c 0 t (ix2 0 j)) (fun j => iblk m c 0 t (ix2 1 j)) (fun j => iblk m c 0 t (ix2 2 j)) (fun j => iblk m c 0 t (ix2 3 j))
      = lam (A5 m c) (A6 m c) (A7 m c) (A8 m c) := by
    unfold lam
    rw [show (fun j => iblk m c 0 t (ix2 0 j)) = _ from funext (blk0_0 m c t), show (fun j => iblk m c 0 t (ix2 1 j)) = _ from funext (blk0_1 m c t),
      show (fun j => iblk m c 0 t (ix2 2 j)) = _ from funext (blk0_2 m c t), show (fun j => iblk m c 0 t (ix2 3 j)) = _ from funext (blk0_3 m c t)]
  have hg : (fun d => iblk m c 1 t (ix2 0 d)) = fun d => A9 m c (ix1 d) := funext (blk1 m c t)
  rw [show gacc (iblk m c 2 t) (iblk m c 3 t) (iblk m c 4 t) (iblk m c 5 t) (iblk m c 6 t) hd 0 row = _ from funext (gacc_eq m c t hd 0 row),
    show gacc (iblk m c 2 t) (iblk m c 3 t) (iblk m c 4 t) (iblk m c 5 t) (iblk m c 6 t) hd 1 row = _ from funext (gacc_eq m c t hd 1 row)]
  refine Eq.trans (congrArg₂ (fun l g => rowK l _ _ g d) hl hg) ?_
  exact row_eq _ _ _ (fun d k => cat (A2 m c) (A4 m c) (tb t) k ⟨128 * (th t hd).val + d.val, by omega⟩) _ d

/-- What a grid point writes back is its block of the reference's array. -/
theorem flushed_eq : (dats m 0 c).flushed 7 t = ((cfg0.win 7).blk t).view.read (Elt Ideal) (G m c) := by
  rw [flushed7_A]
  funext j
  obtain ⟨r, k, rfl⟩ : ∃ (r : Fin 2048) (k : Fin 256), j = ix3 0 r k := by
    refine ⟨j 1, j 2, funext fun a => ?_⟩
    match a with
    | ⟨0, _⟩ => exact Subsingleton.elim (α := Fin 1) _ _
    | ⟨1, _⟩ => rfl
    | ⟨2, _⟩ => rfl
  show out0_A_7 (F := Ideal) c _ _ _ _ _ _ _ _ _ _ _ _ _ _ _ _ _ _ _ _ _ _ _ _ _ _ _ _ (ix3 0 r k) = G m c (((cfg0.win 7).blk t).view.emb (ix3 0 r k))
  rw [emb7, out_apply (row := r) (hd := ⟨k.val / 128, by omega⟩) (d := ⟨k.val % 128, by omega⟩) (hk := by simp; omega)]
  exact outv_eq m c t _ r _ _ (by simp [th]; omega)

/-- Every index of the result is in some point's block. -/
theorem covered (i : S16x2048x512.Idx) : ∃ t : Fin cfg0.N, (cfg0.win 7).flush t = true ∧ i ∈ ((cfg0.win 7).blk t).view.set := by
  have h0 : (i 0).val < 16 := (i 0).isLt
  have h2 : (i 2).val < 512 := (i 2).isLt
  refine ⟨⟨2 * (i 0).val + (i 2).val / 256, by rw [N_eq]; omega⟩, flush0_7 _, ?_⟩
  generalize ht : (⟨2 * (i 0).val + (i 2).val / 256, _⟩ : Fin cfg0.N) = t
  have hv : t.val = 2 * (i 0).val + (i 2).val / 256 := by rw [← ht]
  have h := ((cfg0.win 7).blk t).view.emb_mem_set (ix3 0 (⟨(i 1).val, (i 1).isLt⟩ : Fin 2048) (⟨(i 2).val % 256, by omega⟩ : Fin 256))
  rw [emb7] at h
  have e : i = ix3 (tb t) (⟨(i 1).val, (i 1).isLt⟩ : Fin 2048) (⟨256 * (t.val % 2) + (i 2).val % 256, by omega⟩ : Fin 512) := by
    funext a
    apply Fin.ext
    match a with
    | ⟨0, _⟩ => show (i 0).val = t.val / 2; omega
    | ⟨1, _⟩ => rfl
    | ⟨2, _⟩ => show (i 2).val = 256 * (t.val % 2) + (i 2).val % 256; omega
  rw [e]
  exact h

/-- The result array after the run. -/
theorem final : (dats m 0 c).arrAt 7 cfg0.N = G m c :=
  (dats m 0 c).arrAt_eq_of_cover 7 (G m c) (fun t _ => flushed_eq m c t) covered

end Cert.KernelIdeal.Arr
-- ==== Proof.Post.lean ====
/- What follows the mixers, one row of 1024 over the extended reals. -/
module

public import Idealize.ShloMosaic.PureOps.Ideal.Laws

@[expose] public section

noncomputable section

namespace Cert.Post

open Idealize.ShloMosaic

/-- The short convolution: the row before, the row and the row after, each with its tap, times the gating row. -/
def conv (cb p u n w0 w1 w2 : Fin 512 → EReal) (j : Fin 512) : EReal :=
  cb j * (p j * w0 j + u j * w1 j + n j * w2 j)

/-- The three branches, each projected and gated. -/
def merged (ga gb gc : Fin 1024 → EReal) (ya yb yc : Fin 512 → EReal) (wa wb wc : Fin 512 → Fin 1024 → EReal) (d : Fin 1024) : EReal :=
  ga d * (∑ j, ya j * wa j d) + gb d * (∑ j, yb j * wb j d) + gc d * (∑ j, yc j * wc j d)

/-- A row, plus a product with `w` gated by `g`. -/
def resid {n : ℕ} (x g : Fin 1024 → EReal) (a : Fin n → EReal) (w : Fin n → Fin 1024 → EReal) (d : Fin 1024) : EReal :=
  x d + g d * (∑ k, a k * w k d)

/-- The norm of a row, with its gain. -/
def rms (v g : Fin 1024 → EReal) (d : Fin 1024) : EReal :=
  v d * Ideal.rsqrt (Ideal.div (∑ e, v e * v e) (Ideal.ofBits .f32 0x44800000#32) + Ideal.ofBits .f32 0x358637BD#32) * g d

/-- A normed row, scaled and shifted. -/
def modul (y sc sh : Fin 1024 → EReal) (d : Fin 1024) : EReal := y d * (Ideal.ofBits .f32 0x3F800000#32 + sc d) + sh d

/-- One hidden column before the gate. -/
def hid (h : Fin 1024 → EReal) (w : Fin 1024 → Fin 5632 → EReal) (f : Fin 5632) : EReal := ∑ k, h k * w k f

/-- One gated hidden column. -/
def act (h : Fin 1024 → EReal) (w : Fin 1024 → Fin 5632 → EReal) (f : Fin 2816) : EReal :=
  hid h w ⟨f.val, by omega⟩ * Ideal.logistic (hid h w ⟨f.val, by omega⟩) * hid h w ⟨2816 + f.val, by omega⟩

/-- The row after the mixers, through the feed-forward part. -/
def ffn (v n2 m3 m4 m5 : Fin 1024 → EReal) (wgu : Fin 1024 → Fin 5632 → EReal) (wd : Fin 2816 → Fin 1024 → EReal) (d : Fin 1024) : EReal :=
  resid v m5 (act (modul (rms v n2) m4 m3) wgu) wd d

/-- The same, and then the last norm. -/
def tail (v n2 m3 m4 m5 : Fin 1024 → EReal) (wgu : Fin 1024 → Fin 5632 → EReal) (wd : Fin 2816 → Fin 1024 → EReal) (gf : Fin 1024 → EReal)
    (d : Fin 1024) : EReal :=
  rms (resid v m5 (act (modul (rms v n2) m4 m3) wgu) wd) gf d

/-! ## The same of equal rows -/

theorem merged_congr {ga gb gc ga' gb' gc' : Fin 1024 → EReal} {ya yb yc ya' yb' yc' : Fin 512 → EReal} {wa wb wc wa' wb' wc' : Fin 512 → Fin 1024 → EReal}
    (h1 : ∀ d, ga d = ga' d) (h2 : ∀ d, gb d = gb' d) (h3 : ∀ d, gc d = gc' d) (h4 : ∀ j, ya j = ya' j) (h5 : ∀ j, yb j = yb' j) (h6 : ∀ j, yc j = yc' j)
    (h7 : ∀ j d, wa j d = wa' j d) (h8 : ∀ j d, wb j d = wb' j d) (h9 : ∀ j d, wc j d = wc' j d) (d : Fin 1024) :
    merged ga gb gc ya yb yc wa wb wc d = merged ga' gb' gc' ya' yb' yc' wa' wb' wc' d := by
  rw [funext h1, funext h2, funext h3, funext h4, funext h5, funext h6, funext fun j => funext (h7 j), funext fun j => funext (h8 j), funext fun j => funext (h9 j)]

theorem conv_congr {cb p u n w0 w1 w2 cb' p' u' n' w0' w1' w2' : Fin 512 → EReal} (h1 : ∀ j, cb j = cb' j) (h2 : ∀ j, p j = p' j) (h3 : ∀ j, u j = u' j)
    (h4 : ∀ j, n j = n' j) (h5 : ∀ j, w0 j = w0' j) (h6 : ∀ j, w1 j = w1' j) (h7 : ∀ j, w2 j = w2' j) (j : Fin 512) :
    conv cb p u n w0 w1 w2 j = conv cb' p' u' n' w0' w1' w2' j := by
  rw [funext h1, funext h2, funext h3, funext h4, funext h5, funext h6, funext h7]

theorem resid_congr {n : ℕ} {x g x' g' : Fin 1024 → EReal} {a a' : Fin n → EReal} {w w' : Fin n → Fin 1024 → EReal} (h1 : ∀ d, x d = x' d)
    (h2 : ∀ d, g d = g' d) (h3 : ∀ k, a k = a' k) (h4 : ∀ k d, w k d = w' k d) (d : Fin 1024) : resid x g a w d = resid x' g' a' w' d := by
  rw [funext h1, funext h2, funext h3, funext fun k => funext (h4 k)]

theorem rms_congr {v g v' g' : Fin 1024 → EReal} (h1 : ∀ d, v d = v' d) (h2 : ∀ d, g d = g' d) (d : Fin 1024) : rms v g d = rms v' g' d := by
  rw [funext h1, funext h2]

theorem modul_congr {y sc sh y' sc' sh' : Fin 1024 → EReal} (h1 : ∀ d, y d = y' d) (h2 : ∀ d, sc d = sc' d) (h3 : ∀ d, sh d = sh' d) (d : Fin 1024) :
    modul y sc sh d = modul y' sc' sh' d := by
  rw [funext h1, funext h2, funext h3]

theorem hid_congr {h h' : Fin 1024 → EReal} {w w' : Fin 1024 → Fin 5632 → EReal} (h1 : ∀ d, h d = h' d) (h2 : ∀ k f, w k f = w' k f) (f : Fin 5632) :
    hid h w f = hid h' w' f := by
  rw [funext h1, funext fun k => funext (h2 k)]

theorem act_congr {h h' : Fin 1024 → EReal} {w w' : Fin 1024 → Fin 5632 → EReal} (h1 : ∀ d, h d = h' d) (h2 : ∀ k f, w k f = w' k f) (f : Fin 2816) :
    act h w f = act h' w' f := by
  rw [funext h1, funext fun k => funext (h2 k)]

theorem ffn_congr {v n2 m3 m4 m5 v' n2' m3' m4' m5' : Fin 1024 → EReal} {wgu wgu' : Fin 1024 → Fin 5632 → EReal} {wd wd' : Fin 2816 → Fin 1024 → EReal}
    (h1 : ∀ d, v d = v' d) (h2 : ∀ d, n2 d = n2' d) (h3 : ∀ d, m3 d = m3' d) (h4 : ∀ d, m4 d = m4' d) (h5 : ∀ d, m5 d = m5' d)
    (h6 : ∀ k f, wgu k f = wgu' k f) (h7 : ∀ f d, wd f d = wd' f d) (d : Fin 1024) :
    ffn v n2 m3 m4 m5 wgu wd d = ffn v' n2' m3' m4' m5' wgu' wd' d := by
  rw [funext h1, funext h2, funext h3, funext h4, funext h5, funext fun k => funext (h6 k), funext fun f => funext (h7 f)]

theorem tail_congr {v n2 m3 m4 m5 gf v' n2' m3' m4' m5' gf' : Fin 1024 → EReal} {wgu wgu' : Fin 1024 → Fin 5632 → EReal} {wd wd' : Fin 2816 → Fin 1024 → EReal}
    (h1 : ∀ d, v d = v' d) (h2 : ∀ d, n2 d = n2' d) (h3 : ∀ d, m3 d = m3' d) (h4 : ∀ d, m4 d = m4' d) (h5 : ∀ d, m5 d = m5' d)
    (h6 : ∀ k f, wgu k f = wgu' k f) (h7 : ∀ f d, wd f d = wd' f d) (h8 : ∀ d, gf d = gf' d) (d : Fin 1024) :
    tail v n2 m3 m4 m5 wgu wd gf d = tail v' n2' m3' m4' m5' wgu' wd' gf' d := by
  rw [funext h1, funext h2, funext h3, funext h4, funext h5, funext fun k => funext (h6 k), funext fun f => funext (h7 f), funext h8]

end Cert.Post
-- ==== Proof.PostPay.lean ====
/- The stored values of the call after the mixers, at an index. -/
module

public import proofs.«01_k».proof.Proof.Gen.Kernel2Ideal.Skeleton
public import proofs.«01_k».proof.Proof.Post
public import Idealize.ShloMosaic.Lib.Pointwise

@[expose] public section

noncomputable section

namespace Cert.Kernel2Ideal.Pay

open Cert.Kernel2Ideal Cert.Kernel2Ideal.Gen Idealize.ShloMosaic Idealize.SL.Sem Cert.Post

abbrev VI (s : Shape) (e : EltTy) := Vec Ideal s e

theorem pay14_apply (a : VI S256x1024 .bf16) (x : VI S1x256x1024 .f32) (g : VI S1x1x1024 .f32) (w : VI S1x1024x1024 .bf16)
    (r : Fin 256) (d : Fin 1024) : k0_pay14 a x g w (ix2 r d)
      = resid (fun d => x (ix3 0 r d)) (fun d => g (ix3 0 0 d)) (fun k => a (ix2 r k)) (fun k d => w (ix3 0 k d)) d := by
  unfold k0_pay14 resid
  pointwise
  try rfl

theorem pay15_apply (a : VI S256x1024 .bf16) (x : VI S1x256x1024 .f32) (g : VI S1x1x1024 .f32) (w : VI S1x1024x1024 .bf16)
    (r : Fin 256) (d : Fin 1024) : k0_pay15 a x g w (ix2 r d)
      = resid (fun d => x (ix3 0 r d)) (fun d => g (ix3 0 0 d)) (fun k => a (ix2 r k)) (fun k d => w (ix3 0 k d)) d := by
  unfold k0_pay15 resid
  pointwise
  try rfl

theorem pay16_apply (a : VI S256x1024 .bf16) (x : VI S1x256x1024 .f32) (g : VI S1x1x1024 .f32) (w : VI S1x1024x1024 .bf16) (n2 : VI S1x1024 .f32)
    (r : Fin 256) (d : Fin 1024) : k0_pay16 a x g w n2 (ix2 r d)
      = rms (resid (fun d => x (ix3 0 r d)) (fun d => g (ix3 0 0 d)) (fun k => a (ix2 r k)) (fun k d => w (ix3 0 k d))) (fun d => n2 (ix2 0 d)) d := by
  have h := pay14_apply a x g w r
  unfold k0_pay16 rms
  generalize k0_pay14 a x g w = v at h
  simp only [← h]
  pointwise
  try rfl

theorem pay17_apply (v : VI S256x1024 .f32) (n2 : VI S1x1024 .f32) (m4 m3 : VI S1x1x1024 .f32) (r : Fin 256) (d : Fin 1024) :
    k0_pay17 v n2 m4 m3 (ix2 r d)
      = modul (rms (fun d => v (ix2 r d)) (fun d => n2 (ix2 0 d))) (fun d => m4 (ix3 0 0 d)) (fun d => m3 (ix3 0 0 d)) d := by
  unfold k0_pay17 modul rms
  pointwise
  try rfl

theorem pay18_apply (y : VI S256x1024 .f32) (m4 m3 : VI S1x1x1024 .f32) (w : VI S1x1024x5632 .bf16) (r : Fin 256) (f : Fin 5632) :
    k0_pay18 y m4 m3 w (ix2 r f)
      = hid (modul (fun d => y (ix2 r d)) (fun d => m4 (ix3 0 0 d)) (fun d => m3 (ix3 0 0 d))) (fun k f => w (ix3 0 k f)) f := by
  unfold k0_pay18 hid modul
  pointwise
  try rfl

theorem pay21_apply (h : VI S256x1024 .bf16) (w : VI S1x1024x5632 .bf16) (r : Fin 256) (f : Fin 2816) :
    k0_pay21 h w (ix2 r f) = act (fun d => h (ix2 r d)) (fun k f => w (ix3 0 k f)) f := by
  unfold k0_pay21 act hid
  pointwise
  try rfl

theorem pay22_apply (v : VI S256x1024 .f32) (u : VI S256x5632 .f32) (s l : VI S256x2816 .f32) (m5 : VI S1x1x1024 .f32) (wd : VI S1x2816x1024 .bf16)
    (gf : VI S1x1024 .f32) (r : Fin 256) (d : Fin 1024) : k0_pay22 v u s l m5 wd gf (ix3 0 r d)
      = rms (resid (fun d => v (ix2 r d)) (fun d => m5 (ix3 0 0 d)) (fun f : Fin 2816 => s (ix2 r f) * l (ix2 r f) * u (ix2 r ⟨2816 + f.val, by omega⟩))
          (fun f d => wd (ix3 0 f d))) (fun d => gf (ix2 0 d)) d := by
  unfold k0_pay22 rms resid
  pointwise
  try rfl

theorem pay1_apply (v : VI S256x1024 .f32) (a : VI S256x2816 .bf16) (m5 : VI S1x1x1024 .f32) (wd : VI S1x2816x1024 .bf16)
    (gf : VI S1x1024 .f32) (r : Fin 256) (d : Fin 1024) : k0_pay1 v a m5 wd gf (ix3 0 r d)
      = rms (resid (fun d => v (ix2 r d)) (fun d => m5 (ix3 0 0 d)) (fun f : Fin 2816 => a (ix2 r f)) (fun f d => wd (ix3 0 f d))) (fun d => gf (ix2 0 d)) d := by
  unfold k0_pay1 rms resid
  pointwise
  try rfl

theorem pay19_apply (y : VI S256x1024 .f32) (m4 m3 : VI S1x1x1024 .f32) (w : VI S1x1024x5632 .bf16) (r : Fin 256) (f : Fin 2816) :
    k0_pay19 y m4 m3 w (ix2 r f) = k0_pay18 y m4 m3 w (ix2 r ⟨f.val, by omega⟩) := by
  unfold k0_pay19
  generalize k0_pay18 y m4 m3 w = u
  pointwise
  try rfl

theorem pay20_apply (y : VI S256x1024 .f32) (m4 m3 : VI S1x1x1024 .f32) (w : VI S1x1024x5632 .bf16) (r : Fin 256) (f : Fin 2816) :
    k0_pay20 y m4 m3 w (ix2 r f) = Ideal.logistic (k0_pay18 y m4 m3 w (ix2 r ⟨f.val, by omega⟩)) := by
  unfold k0_pay20
  rw [← pay19_apply]
  rfl

/-- The merged branches of the first 256 rows of a tile, from the convolution's result there. -/
theorem pay12_apply (ga gb gc : VI S1x256x1024 .f32) (ya yb : VI S1x256x512 .bf16) (yc : VI S256x512 .bf16) (wa wb wc : VI S1x512x1024 .bf16)
    (r : Fin 256) (d : Fin 1024) :
    k0_pay12 (k0_pay8 ga ya wa gb yb wb) (k0_pay9 gc) yc (k0_pay11 wc) (constant S256x1024 .f32 0x00000000#32) (ix2 r d)
      = merged (fun d => ga (ix3 0 r d)) (fun d => gb (ix3 0 r d)) (fun d => gc (ix3 0 r d)) (fun j => ya (ix3 0 r j)) (fun j => yb (ix3 0 r j))
          (fun j => yc (ix2 r j)) (fun j d => wa (ix3 0 j d)) (fun j d => wb (ix3 0 j d)) (fun j d => wc (ix3 0 j d)) d := by
  unfold k0_pay12 k0_pay8 k0_pay9 k0_pay11 merged
  pointwise
  try rfl

/-- … and of the last 256. -/
theorem pay13_apply (ga gb gc : VI S1x256x1024 .f32) (ya yb : VI S1x256x512 .bf16) (yc : VI S512x512 .bf16) (wa wb wc : VI S1x512x1024 .bf16)
    (r : Fin 256) (d : Fin 1024) :
    k0_pay13 yc ga ya wa gb yb wb gc wc (ix2 r d)
      = merged (fun d => ga (ix3 0 r d)) (fun d => gb (ix3 0 r d)) (fun d => gc (ix3 0 r d)) (fun j => ya (ix3 0 r j)) (fun j => yb (ix3 0 r j))
          (fun j => yc (ix2 ⟨256 + r.val, by omega⟩ j)) (fun j d => wa (ix3 0 j d)) (fun j d => wb (ix3 0 j d)) (fun j d => wc (ix3 0 j d)) d := by
  unfold k0_pay13 merged
  pointwise
  try rfl

theorem pay10_apply (a b c e f : VI S512x512 .f32) (g : VI S1x512 .f32) (r : Fin 256) (j : Fin 512) :
    k0_pay10 a b c e f g (ix2 r j) = k0_pay7 a b c e f g (ix2 ⟨r.val, by omega⟩ j) := by
  unfold k0_pay10
  generalize k0_pay7 a b c e f g = u
  pointwise
  try rfl

theorem pay2_apply (u : VI S1x512x512 .f32) (r j : Fin 512) : k0_pay2 u (ix2 r j) = u (ix3 0 r j) := by
  unfold k0_pay2
  pointwise
  try rfl

theorem sel_eq {a b : ℕ} (ha : a < 2 ^ 32) (hb : b < 2 ^ 32) (x y : EReal) :
    Scalar.select (IntOp.cmpi CmpIPredicate.eq (BitVec.ofNat 32 a) (BitVec.ofNat 32 b)) x y = if a = b then x else y := by
  have h : IntOp.cmpi CmpIPredicate.eq (BitVec.ofNat 32 a) (BitVec.ofNat 32 b) = if a = b then 1#1 else 0#1 := by
    by_cases h : a = b
    · subst h; simp [IntOp.cmpi]
    · have : BitVec.ofNat 32 a ≠ BitVec.ofNat 32 b := fun e => h (by
        have := congrArg BitVec.toNat e
        simp only [BitVec.toNat_ofNat] at this
        rwa [Nat.mod_eq_of_lt ha, Nat.mod_eq_of_lt hb] at this)
      simp [IntOp.cmpi, h, beq_eq_false_iff_ne.mpr this]
  rw [h]
  by_cases h : a = b
  · rw [if_pos h, if_pos h]; rfl
  · rw [if_neg h, if_neg h]; rfl

theorem sel_pos (i : Fin 4) (x y : EReal) :
    Scalar.select (Scalar.cmpi CmpIPredicate.sgt (BitVec.ofNat 32 i.val) 0#32) x y = if 0 < i.val then x else y := by
  fin_cases i <;> rfl

theorem sel_lt (i : Fin 4) (x y : EReal) :
    Scalar.select (Scalar.cmpi CmpIPredicate.slt (BitVec.ofNat 32 i.val) 3#32) x y = if i.val < 3 then x else y := by
  fin_cases i <;> rfl

/-- The convolution's result in one tile. -/
theorem pay7_apply (i : grid0.Coords) (u : VI S1x512x512 .f32) (p n : VI S1x1x512 .f32) (cb : VI S1x512x512 .f32) (w0 w1 w2 : VI S1x512 .f32)
    (r : Fin 512) (j : Fin 512) :
    k0_pay7 (k0_pay2 u) (k0_pay3 i u n) (k0_pay4 cb) (k0_pay5 i u p w0) (k0_pay6 w1) w2 (ix2 r j)
      = conv (fun j => cb (ix3 0 r j)) (fun j => if r.val = 0 then (if 0 < (i 1).val then p (ix3 0 0 j) else 0) else u (ix3 0 ⟨r.val - 1, by omega⟩ j))
          (fun j => u (ix3 0 r j))
          (fun j => if h : r.val < 511 then u (ix3 0 ⟨r.val + 1, by omega⟩ j) else (if (i 1).val < 3 then n (ix3 0 0 j) else 0))
          (fun j => w0 (ix2 0 j)) (fun j => w1 (ix2 0 j)) (fun j => w2 (ix2 0 j)) j := by
  unfold k0_pay7 k0_pay2 k0_pay3 k0_pay4 k0_pay5 k0_pay6 conv
  pointwise
  rw [pay2_apply, pay2_apply, sel_eq (by omega) (by omega), sel_eq (b := 511) (by omega) (by omega), sel_pos (i 1), sel_lt (i 1)]
  have e1 : (if r.val = 0 then (if 0 < (i 1).val then p (ix3 0 0 j) else 0) else u (ix3 0 ⟨(r.val + 512 - 1) % 512, by omega⟩ j))
      = if r.val = 0 then (if 0 < (i 1).val then p (ix3 0 0 j) else 0) else u (ix3 0 ⟨r.val - 1, by omega⟩ j) := by
    by_cases h : r.val = 0
    · rw [if_pos h, if_pos h]
    · rw [if_neg h, if_neg h]
      congr 2
      apply Fin.ext
      show (r.val + 512 - 1) % 512 = r.val - 1
      omega
  have e2 : (if r.val = 511 then (if (i 1).val < 3 then n (ix3 0 0 j) else 0) else u (ix3 0 ⟨(r.val + 512 - 511) % 512, by omega⟩ j))
      = if h : r.val < 511 then u (ix3 0 ⟨r.val + 1, by omega⟩ j) else (if (i 1).val < 3 then n (ix3 0 0 j) else 0) := by
    by_cases h : r.val < 511
    · rw [if_neg (by omega), dif_pos h]
      congr 2
      apply Fin.ext
      show (r.val + 512 - 511) % 512 = r.val + 1
      omega
    · rw [if_pos (by omega), dif_neg h]
  rw [e1, e2]

end Cert.Kernel2Ideal.Pay
-- ==== Proof.PostOut.lean ====
/- What one grid point of the call after the mixers leaves in the output block, at an index. -/
module

public import proofs.«01_k».proof.Proof.PostPay
public import proofs.«01_k».proof.Proof.Gen.Kernel2Ideal.Frame

@[expose] public section

noncomputable section

namespace Cert.Kernel2Ideal.Pay

open Cert.Kernel2Ideal Cert.Kernel2Ideal.Gen Idealize.ShloMosaic Idealize.SL.Sem Cert.Post

/-! ## Loads -/

theorem ld3 {e : EltTy} {n0 n1 n2 m0 m1 m2 : ℕ} (x : VI ⟨3, ![n0, n1, n2]⟩ e) (o0 o1 o2 : ℕ)
    (i : ∀ a : Fin 3, (![o0, o1, o2] : Fin 3 → ℕ) a + (![m0, m1, m2] : Fin 3 → ℕ) a ≤ (⟨3, ![n0, n1, n2]⟩ : Shape).size a)
    (a : Fin m0) (b : Fin m1) (d : Fin m2) (a' : Fin n0) (b' : Fin n1) (d' : Fin n2) (ha : a'.val = o0 + a.val) (hb : b'.val = o1 + b.val)
    (hd : d'.val = o2 + d.val) :
    View.ld x (Rect.unit (s := ⟨3, ![n0, n1, n2]⟩) ![o0, o1, o2] ![m0, m1, m2] i) (ix3 a b d) = x (ix3 a' b' d') := by
  unfold View.ld
  congr 1
  refine funext fun y => Fin.ext ?_
  match y with
  | ⟨0, _⟩ => show o0 + 1 * a.val = a'.val; omega
  | ⟨1, _⟩ => show o1 + 1 * b.val = b'.val; omega
  | ⟨2, _⟩ => show o2 + 1 * d.val = d'.val; omega

theorem ld2 {e : EltTy} {n0 n1 m0 m1 : ℕ} (x : VI ⟨2, ![n0, n1]⟩ e) (o0 o1 : ℕ)
    (i : ∀ a : Fin 2, (![o0, o1] : Fin 2 → ℕ) a + (![m0, m1] : Fin 2 → ℕ) a ≤ (⟨2, ![n0, n1]⟩ : Shape).size a)
    (a : Fin m0) (b : Fin m1) (a' : Fin n0) (b' : Fin n1) (ha : a'.val = o0 + a.val) (hb : b'.val = o1 + b.val) :
    View.ld x (Rect.unit (s := ⟨2, ![n0, n1]⟩) ![o0, o1] ![m0, m1] i) (ix2 a b) = x (ix2 a' b') := by
  unfold View.ld
  congr 1
  refine funext fun y => Fin.ext ?_
  match y with
  | ⟨0, _⟩ => show o0 + 1 * a.val = a'.val; omega
  | ⟨1, _⟩ => show o1 + 1 * b.val = b'.val; omega

section
variable (x0 : VI S1x512x1024 .f32) (x1 x2 : VI S1x512x512 .bf16) (x3 x4 : VI S1x512x512 .f32) (x5 x6 : VI S1x8x512 .f32) (x7 : VI S1x512x3072 .f32)
  (x8 : VI S1x6x1024 .f32) (x9 : VI S1x1024 .f32) (x10 : VI S3x512 .f32) (x11 x12 x13 : VI S1x512x1024 .bf16) (x14 : VI S1x1024x1024 .bf16)
  (x15 : VI S1x1024x5632 .bf16) (x16 : VI S1x2816x1024 .bf16) (x17 : VI S1x1024 .f32)

theorem ld_r0 (r j : Fin 512) : View.ld x4 r0_0 (ix3 (0 : Fin 1) r j : S1x512x512.Idx) = x4 (ix3 0 r j) := ld3 x4 0 0 0 _ 0 r j 0 r j (by simp) (by simp) (by simp)
theorem ld_r1 (j : Fin 512) : View.ld x5 r0_1 (ix3 (0 : Fin 1) (0 : Fin 1) j : S1x1x512.Idx) = x5 (ix3 0 7 j) := ld3 x5 0 7 0 _ 0 0 j 0 7 j (by simp) (by simp) (by simp)
theorem ld_r2 (j : Fin 512) : View.ld x6 r0_2 (ix3 (0 : Fin 1) (0 : Fin 1) j : S1x1x512.Idx) = x6 (ix3 0 0 j) := ld3 x6 0 0 0 _ 0 0 j 0 0 j (by simp) (by simp) (by simp)
theorem ld_r3 (j : Fin 512) : View.ld x10 r0_3 (ix2 (0 : Fin 1) j : S1x512.Idx) = x10 (ix2 0 j) := ld2 x10 0 0 _ 0 j 0 j (by simp) (by simp)
theorem ld_r4 (j : Fin 512) : View.ld x10 r0_4 (ix2 (0 : Fin 1) j : S1x512.Idx) = x10 (ix2 1 j) := ld2 x10 1 0 _ 0 j 1 j (by simp) (by simp)
theorem ld_r5 (j : Fin 512) : View.ld x10 r0_5 (ix2 (0 : Fin 1) j : S1x512.Idx) = x10 (ix2 2 j) := ld2 x10 2 0 _ 0 j 2 j (by simp) (by simp)
theorem ld_r6 (r : Fin 256) (d : Fin 1024) : View.ld x7 r0_6 (ix3 (0 : Fin 1) r d : S1x256x1024.Idx) = x7 (ix3 0 ⟨r.val, by omega⟩ ⟨d.val, by omega⟩) :=
  ld3 x7 0 0 0 _ 0 r d 0 _ _ (by simp) (by simp) (by simp)
theorem ld_r9 (r : Fin 256) (d : Fin 1024) : View.ld x7 r0_9 (ix3 (0 : Fin 1) r d : S1x256x1024.Idx) = x7 (ix3 0 ⟨r.val, by omega⟩ ⟨1024 + d.val, by omega⟩) :=
  ld3 x7 0 0 1024 _ 0 r d 0 _ _ (by simp) (by simp) (by simp)
theorem ld_r10 (r : Fin 256) (d : Fin 1024) : View.ld x7 r0_10 (ix3 (0 : Fin 1) r d : S1x256x1024.Idx) = x7 (ix3 0 ⟨r.val, by omega⟩ ⟨2048 + d.val, by omega⟩) :=
  ld3 x7 0 0 2048 _ 0 r d 0 _ _ (by simp) (by simp) (by simp)
theorem ld_r11 (r : Fin 256) (d : Fin 1024) : View.ld x7 r0_11 (ix3 (0 : Fin 1) r d : S1x256x1024.Idx) = x7 (ix3 0 ⟨256 + r.val, by omega⟩ ⟨d.val, by omega⟩) :=
  ld3 x7 0 256 0 _ 0 r d 0 _ _ (by simp) (by simp) (by simp)
theorem ld_r13 (r : Fin 256) (d : Fin 1024) : View.ld x7 r0_13 (ix3 (0 : Fin 1) r d : S1x256x1024.Idx) = x7 (ix3 0 ⟨256 + r.val, by omega⟩ ⟨1024 + d.val, by omega⟩) :=
  ld3 x7 0 256 1024 _ 0 r d 0 _ _ (by simp) (by simp) (by simp)
theorem ld_r14 (r : Fin 256) (d : Fin 1024) : View.ld x7 r0_14 (ix3 (0 : Fin 1) r d : S1x256x1024.Idx) = x7 (ix3 0 ⟨256 + r.val, by omega⟩ ⟨2048 + d.val, by omega⟩) :=
  ld3 x7 0 256 2048 _ 0 r d 0 _ _ (by simp) (by simp) (by simp)
theorem ld_r7 (r : Fin 256) (j : Fin 512) : View.ld x1 r0_7 (ix3 (0 : Fin 1) r j : S1x256x512.Idx) = x1 (ix3 0 ⟨r.val, by omega⟩ j) :=
  ld3 x1 0 0 0 _ 0 r j 0 _ j (by simp) (by simp) (by simp)
theorem ld_r12 (r : Fin 256) (j : Fin 512) : View.ld x1 r0_12 (ix3 (0 : Fin 1) r j : S1x256x512.Idx) = x1 (ix3 0 ⟨256 + r.val, by omega⟩ j) :=
  ld3 x1 0 256 0 _ 0 r j 0 _ j (by simp) (by simp) (by simp)
theorem ld_r8 (j : Fin 512) (d : Fin 1024) : View.ld x11 r0_8 (ix3 (0 : Fin 1) j d : S1x512x1024.Idx) = x11 (ix3 0 j d) := ld3 x11 0 0 0 _ 0 j d 0 j d (by simp) (by simp) (by simp)
theorem ld_r15 (r : Fin 256) (d : Fin 1024) : View.ld x0 r0_15 (ix3 (0 : Fin 1) r d : S1x256x1024.Idx) = x0 (ix3 0 ⟨r.val, by omega⟩ d) :=
  ld3 x0 0 0 0 _ 0 r d 0 _ d (by simp) (by simp) (by simp)
theorem ld_r18 (r : Fin 256) (d : Fin 1024) : View.ld x0 r0_18 (ix3 (0 : Fin 1) r d : S1x256x1024.Idx) = x0 (ix3 0 ⟨256 + r.val, by omega⟩ d) :=
  ld3 x0 0 256 0 _ 0 r d 0 _ d (by simp) (by simp) (by simp)
theorem ld_r16 (d : Fin 1024) : View.ld x8 r0_16 (ix3 (0 : Fin 1) (0 : Fin 1) d : S1x1x1024.Idx) = x8 (ix3 0 2 d) := ld3 x8 0 2 0 _ 0 0 d 0 2 d (by simp) (by simp) (by simp)
theorem ld_r20 (d : Fin 1024) : View.ld x8 r0_20 (ix3 (0 : Fin 1) (0 : Fin 1) d : S1x1x1024.Idx) = x8 (ix3 0 4 d) := ld3 x8 0 4 0 _ 0 0 d 0 4 d (by simp) (by simp) (by simp)
theorem ld_r21 (d : Fin 1024) : View.ld x8 r0_21 (ix3 (0 : Fin 1) (0 : Fin 1) d : S1x1x1024.Idx) = x8 (ix3 0 3 d) := ld3 x8 0 3 0 _ 0 0 d 0 3 d (by simp) (by simp) (by simp)
theorem ld_r23 (d : Fin 1024) : View.ld x8 r0_23 (ix3 (0 : Fin 1) (0 : Fin 1) d : S1x1x1024.Idx) = x8 (ix3 0 5 d) := ld3 x8 0 5 0 _ 0 0 d 0 5 d (by simp) (by simp) (by simp)
theorem ld_r17 (k d : Fin 1024) : View.ld x14 r0_17 (ix3 (0 : Fin 1) k d : S1x1024x1024.Idx) = x14 (ix3 0 k d) := ld3 x14 0 0 0 _ 0 k d 0 k d (by simp) (by simp) (by simp)
theorem ld_r19 (d : Fin 1024) : View.ld x9 r0_19 (ix2 (0 : Fin 1) d : S1x1024.Idx) = x9 (ix2 0 d) := ld2 x9 0 0 _ 0 d 0 d (by simp) (by simp)
theorem ld_r22 (k : Fin 1024) (f : Fin 5632) : View.ld x15 r0_22 (ix3 (0 : Fin 1) k f : S1x1024x5632.Idx) = x15 (ix3 0 k f) := ld3 x15 0 0 0 _ 0 k f 0 k f (by simp) (by simp) (by simp)
theorem ld_r24 (f : Fin 2816) (d : Fin 1024) : View.ld x16 r0_24 (ix3 (0 : Fin 1) f d : S1x2816x1024.Idx) = x16 (ix3 0 f d) := ld3 x16 0 0 0 _ 0 f d 0 f d (by simp) (by simp) (by simp)

/-! ## One row of the block -/

variable (i : grid0.Coords)

/-- The convolution of one row of the tile. -/
def yc (r : Fin 512) : Fin 512 → EReal :=
  conv (fun j => x3 (ix3 0 r j)) (fun j => if r.val = 0 then (if 0 < (i 1).val then x5 (ix3 0 7 j) else 0) else x4 (ix3 0 ⟨r.val - 1, by omega⟩ j))
    (fun j => x4 (ix3 0 r j))
    (fun j => if h : r.val < 511 then x4 (ix3 0 ⟨r.val + 1, by omega⟩ j) else (if (i 1).val < 3 then x6 (ix3 0 0 j) else 0))
    (fun j => x10 (ix2 0 j)) (fun j => x10 (ix2 1 j)) (fun j => x10 (ix2 2 j))

/-- The merged branches of one row. -/
def mg (r : Fin 512) : Fin 1024 → EReal :=
  merged (fun d => x7 (ix3 0 r ⟨d.val, by omega⟩)) (fun d => x7 (ix3 0 r ⟨1024 + d.val, by omega⟩)) (fun d => x7 (ix3 0 r ⟨2048 + d.val, by omega⟩))
    (fun j => x1 (ix3 0 r j)) (fun j => x2 (ix3 0 r j)) (yc x3 x4 x5 x6 x10 i r)
    (fun j d => x11 (ix3 0 j d)) (fun j d => x12 (ix3 0 j d)) (fun j d => x13 (ix3 0 j d))

/-- The row after the mixers. -/
def mid (r : Fin 512) : Fin 1024 → EReal :=
  resid (fun d => x0 (ix3 0 r d)) (fun d => x8 (ix3 0 2 d)) (mg x1 x2 x3 x4 x5 x6 x7 x10 x11 x12 x13 i r) (fun k d => x14 (ix3 0 k d))

/-- The row of the result. -/
def outv (r : Fin 512) : Fin 1024 → EReal :=
  tail (mid x0 x1 x2 x3 x4 x5 x6 x7 x8 x10 x11 x12 x13 x14 i r) (fun d => x9 (ix2 0 d)) (fun d => x8 (ix3 0 3 d)) (fun d => x8 (ix3 0 4 d))
    (fun d => x8 (ix3 0 5 d)) (fun k f => x15 (ix3 0 k f)) (fun f d => x16 (ix3 0 f d)) (fun d => x17 (ix2 0 d))

theorem conv_apply (r j : Fin 512) :
    k0_pay7 (k0_pay2 (View.ld x4 r0_0)) (k0_pay3 i (View.ld x4 r0_0) (View.ld x6 r0_2)) (k0_pay4 (View.ld x3 r0_0))
        (k0_pay5 i (View.ld x4 r0_0) (View.ld x5 r0_1) (View.ld x10 r0_3)) (k0_pay6 (View.ld x10 r0_4)) (View.ld x10 r0_5) (ix2 r j)
      = yc x3 x4 x5 x6 x10 i r j := by
  rw [pay7_apply]
  exact conv_congr (ld_r0 x3 r)
    (fun j => by rw [show View.ld x5 r0_1 (ix3 (0 : Fin 1) (0 : Fin 1) j : S1x1x512.Idx) = _ from ld_r1 x5 j, show View.ld x4 r0_0 (ix3 (0 : Fin 1) (⟨r.val - 1, by omega⟩ : Fin 512) j : S1x512x512.Idx) = _ from ld_r0 x4 _ j])
    (ld_r0 x4 r)
    (fun j => by
      by_cases h : r.val < 511
      · rw [dif_pos h, dif_pos h]; exact ld_r0 x4 _ j
      · rw [dif_neg h, dif_neg h, show View.ld x6 r0_2 (ix3 (0 : Fin 1) (0 : Fin 1) j : S1x1x512.Idx) = _ from ld_r2 x6 j])
    (ld_r3 x10) (ld_r4 x10) (ld_r5 x10) j

theorem pay28_apply (r : Fin 256) (d : Fin 1024) :
    k0_pay28 i x0 x1 x2 x3 x4 x5 x6 x7 x8 x9 x10 x11 x12 x13 x14 x15 x16 x17 (ix2 r d)
      = mg x1 x2 x3 x4 x5 x6 x7 x10 x11 x12 x13 i ⟨r.val, by omega⟩ d := by
  unfold k0_pay28 k0_pay27 k0_pay26 k0_pay25 k0_pay24 k0_pay23
  rw [pay12_apply]
  exact merged_congr (ld_r6 x7 r) (ld_r9 x7 r) (ld_r10 x7 r) (ld_r7 x1 r) (ld_r7 x2 r)
    (fun j => (pay10_apply _ _ _ _ _ _ r j).trans (conv_apply x3 x4 x5 x6 x10 i _ j)) (ld_r8 x11) (ld_r8 x12) (ld_r8 x13) d

theorem mid_lo (r : Fin 256) (d : Fin 1024) :
    k0_pay14 (k0_pay28 i x0 x1 x2 x3 x4 x5 x6 x7 x8 x9 x10 x11 x12 x13 x14 x15 x16 x17) (View.ld x0 r0_15) (View.ld x8 r0_16) (View.ld x14 r0_17) (ix2 r d)
      = mid x0 x1 x2 x3 x4 x5 x6 x7 x8 x10 x11 x12 x13 x14 i ⟨r.val, by omega⟩ d :=
  (pay14_apply _ _ _ _ r d).trans (resid_congr (ld_r15 x0 r) (ld_r16 x8) (pay28_apply x0 x1 x2 x3 x4 x5 x6 x7 x8 x9 x10 x11 x12 x13 x14 x15 x16 x17 i r)
    (ld_r17 x14) d)

theorem pay29_apply (r : Fin 256) (d : Fin 1024) :
    k0_pay29 i x0 x1 x2 x3 x4 x5 x6 x7 x8 x9 x10 x11 x12 x13 x14 x15 x16 x17 (ix2 r d)
      = mid x0 x1 x2 x3 x4 x5 x6 x7 x8 x10 x11 x12 x13 x14 i ⟨256 + r.val, by omega⟩ d := by
  unfold k0_pay29 k0_pay27 k0_pay26 k0_pay25 k0_pay24 k0_pay23
  rw [pay15_apply]
  exact resid_congr (ld_r18 x0 r) (ld_r16 x8) (fun k => (pay13_apply _ _ _ _ _ _ _ _ _ r k).trans
    (merged_congr (ld_r11 x7 r) (ld_r13 x7 r) (ld_r14 x7 r) (ld_r12 x1 r) (ld_r12 x2 r) (conv_apply x3 x4 x5 x6 x10 i _) (ld_r8 x11) (ld_r8 x12) (ld_r8 x13) k))
    (ld_r17 x14) d

theorem pay30_apply (r : Fin 256) (d : Fin 1024) :
    k0_pay30 i x0 x1 x2 x3 x4 x5 x6 x7 x8 x9 x10 x11 x12 x13 x14 x15 x16 x17 (ix2 r d)
      = rms (mid x0 x1 x2 x3 x4 x5 x6 x7 x8 x10 x11 x12 x13 x14 i ⟨r.val, by omega⟩) (fun d => x9 (ix2 0 d)) d := by
  unfold k0_pay30
  rw [pay16_apply]
  exact rms_congr (fun d => resid_congr (ld_r15 x0 r) (ld_r16 x8) (pay28_apply x0 x1 x2 x3 x4 x5 x6 x7 x8 x9 x10 x11 x12 x13 x14 x15 x16 x17 i r)
    (ld_r17 x14) d) (ld_r19 x9) d

theorem hid_lo (r : Fin 256) (f : Fin 5632) :
    k0_pay18 (k0_pay30 i x0 x1 x2 x3 x4 x5 x6 x7 x8 x9 x10 x11 x12 x13 x14 x15 x16 x17) (View.ld x8 r0_20) (View.ld x8 r0_21) (View.ld x15 r0_22) (ix2 r f)
      = hid (modul (rms (mid x0 x1 x2 x3 x4 x5 x6 x7 x8 x10 x11 x12 x13 x14 i ⟨r.val, by omega⟩) (fun d => x9 (ix2 0 d))) (fun d => x8 (ix3 0 4 d))
          (fun d => x8 (ix3 0 3 d))) (fun k f => x15 (ix3 0 k f)) f :=
  (pay18_apply _ _ _ _ r f).trans (hid_congr (fun d => modul_congr (pay30_apply x0 x1 x2 x3 x4 x5 x6 x7 x8 x9 x10 x11 x12 x13 x14 x15 x16 x17 i r)
    (ld_r20 x8) (ld_r21 x8) d) (ld_r22 x15) f)

/-- A store of 256 rows from row `o`. -/
abbrev hpiece (o : ℕ) (i : ∀ a : Fin 3, (![0, o, 0] : Fin 3 → ℕ) a + (![1, 256, 1024] : Fin 3 → ℕ) a ≤ S1x512x1024.size a)
    (w : VI S1x256x1024 .f32) : View.Piece (Elt Ideal) S1x512x1024 .f32 :=
  ⟨Rect.unit (s := S1x512x1024) ![0, o, 0] ![1, 256, 1024] i, w⟩

theorem canon_hpiece (o : ℕ) (i w L) (r : Fin 256) (d : Fin 1024) (q : Fin 512) (h : q.val = o + r.val) :
    View.canon (hpiece o i w :: L) (ix3 0 q d) = w (ix3 0 r d) := by
  have e : (ix3 (0 : Fin 1) q d : S1x512x1024.Idx) = (Rect.unit (s := S1x512x1024) ![0, o, 0] ![1, 256, 1024] i).emb (ix3 0 r d) := by
    refine funext fun b => Fin.ext ?_
    show ((ix3 (0 : Fin 1) q d : S1x512x1024.Idx) b).val = (![0, o, 0] : Fin 3 → ℕ) b + 1 * ((ix3 (0 : Fin 1) r d : S1x256x1024.Idx) b).val
    fin_cases b <;> simp [ix3, h]
  rw [e]; exact View.canon_cons_emb _ _ _ _

theorem canon_hpiece_lo (o : ℕ) (i w L) (d : Fin 1024) (q : Fin 512) (h : q.val < o) :
    View.canon (hpiece o i w :: L) (ix3 0 q d) = View.canon L (ix3 0 q d) := by
  refine View.canon_cons_of_not_mem _ _ fun hm => ?_
  have := (Rect.mem_set_unit.mp (show _ ∈ (Rect.unit (s := S1x512x1024) ![0, o, 0] ![1, 256, 1024] i).set from hm)) 1
  have h2 : o ≤ q.val := this.1
  omega

theorem out_apply (q : Fin 512) (d : Fin 1024) :
    out0_18 i x0 x1 x2 x3 x4 x5 x6 x7 x8 x9 x10 x11 x12 x13 x14 x15 x16 x17 (ix3 0 q d)
      = outv x0 x1 x2 x3 x4 x5 x6 x7 x8 x9 x10 x11 x12 x13 x14 x15 x16 x17 i q d := by
  unfold out0_18
  by_cases h : q.val < 256
  · refine (canon_hpiece_lo 256 _ _ _ d q h).trans ((canon_hpiece 0 _ _ _ ⟨q.val, h⟩ d q (by simp)).trans ?_)
    rw [pay22_apply]
    refine rms_congr (fun d => resid_congr (mid_lo x0 x1 x2 x3 x4 x5 x6 x7 x8 x9 x10 x11 x12 x13 x14 x15 x16 x17 i ⟨q.val, h⟩) (ld_r23 x8) (fun f => ?_) (ld_r24 x16) d)
      (ld_r19 x17) d
    rw [pay20_apply, pay19_apply, hid_lo, hid_lo]
    rfl
  · have e : ∀ r : Fin 256, q.val = 256 + r.val → (⟨256 + r.val, by omega⟩ : Fin 512) = q := fun r hr => Fin.ext hr.symm
    obtain ⟨r, hr⟩ : ∃ r : Fin 256, q.val = 256 + r.val := ⟨⟨q.val - 256, by omega⟩, by simp; omega⟩
    refine (canon_hpiece 256 _ _ _ r d q hr).trans ?_
    rw [pay1_apply]
    have hm := pay29_apply x0 x1 x2 x3 x4 x5 x6 x7 x8 x9 x10 x11 x12 x13 x14 x15 x16 x17 i r
    rw [e r hr] at hm
    exact rms_congr (fun d => resid_congr hm (ld_r23 x8) (fun f => (pay21_apply _ _ r f).trans (act_congr (fun d => (pay17_apply _ _ _ _ r d).trans
      (modul_congr (fun d => rms_congr hm (ld_r19 x9) d) (ld_r20 x8) (ld_r21 x8) d)) (ld_r22 x15) f)) (ld_r24 x16) d) (ld_r19 x17) d

end

end Cert.Kernel2Ideal.Pay
-- ==== Proof.PostIn.lean ====
/- The blocks that a grid point of the call after the mixers stages, as entries of the argument arrays. -/
module

public import proofs.«01_k».proof.Proof.Gen.Kernel2Ideal.Value
public import Idealize.ShloMosaic.Lib.Claim
public import Idealize.ShloMosaic.Lib.StableHlo.RunRead
public import Idealize.ShloMosaic.Lib.Pointwise

@[expose] public section

noncomputable section

namespace Cert.Kernel2Ideal.In

open Cert.Kernel2Ideal Cert.Kernel2Ideal.Gen Idealize.ShloMosaic Idealize.ShloMosaic.TcCoe Idealize.SL.Sem

variable (m : (ℓ : Loc nD τ sig) → Buf (Elt Ideal) ℓ)

theorem N_eq : cfg0.N = 64 := N_0

/-- Grid point `t` works on batch `t / 4` … -/
def tb (t : Fin cfg0.N) : Fin 16 := ⟨t.val / 4, by have := lt_of_lt_of_eq t.isLt N_eq; omega⟩
/-- … and on the 512 rows of tile `t % 4`. -/
def tr (t : Fin cfg0.N) (r : Fin 512) : Fin 2048 := ⟨512 * (t.val % 4) + r.val, by omega⟩

theorem coord1 : ∀ t : Fin cfg0.N, (grid0.coords t 1).val = t.val % 4 := (by decide +kernel : ∀ t : Fin grid0.N, _)

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
theorem idx4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)
theorem idx7 : ∀ t : Fin cfg0.N, win0_7.index t (0 : Fin 3) = t.val / 4 ∧ win0_7.index t (1 : Fin 3) = t.val % 4 ∧ win0_7.index t (2 : Fin 3) = 0 :=
  (by decide +kernel : ∀ t : Fin grid0.N, _)
theorem idx8 : ∀ t : Fin cfg0.N, win0_8.index t (0 : Fin 3) = t.val / 4 ∧ win0_8.index t (1 : Fin 3) = 0 ∧ win0_8.index t (2 : Fin 3) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 3) = 1 ∧ win0_11.index t (1 : Fin 3) = 0 ∧ win0_11.index t (2 : Fin 3) = 0 :=
  (by decide +kernel : ∀ t : Fin grid0.N, _)
theorem idx12 : ∀ t : Fin cfg0.N, win0_12.index t (0 : Fin 3) = 1 ∧ win0_12.index t (1 : Fin 3) = 0 ∧ win0_12.index t (2 : Fin 3) = 0 :=
  (by decide +kernel : ∀ t : Fin grid0.N, _)
theorem idx13 : ∀ t : Fin cfg0.N, win0_13.index t (0 : Fin 3) = 1 ∧ win0_13.index t (1 : Fin 3) = 0 ∧ win0_13.index t (2 : Fin 3) = 0 :=
  (by decide +kernel : ∀ t : Fin grid0.N, _)
theorem idx14 : ∀ t : Fin cfg0.N, win0_14.index t (0 : Fin 3) = 1 ∧ win0_14.index t (1 : Fin 3) = 0 ∧ win0_14.index t (2 : Fin 3) = 0 :=
  (by decide +kernel : ∀ t : Fin grid0.N, _)
theorem idx15 : ∀ t : Fin cfg0.N, win0_15.index t (0 : Fin 3) = 1 ∧ win0_15.index t (1 : Fin 3) = 0 ∧ win0_15.index t (2 : Fin 3) = 0 :=
  (by decide +kernel : ∀ t : Fin grid0.N, _)
theorem idx16 : ∀ t : Fin cfg0.N, win0_16.index t (0 : Fin 3) = 1 ∧ win0_16.index t (1 : Fin 3) = 0 ∧ win0_16.index t (2 : Fin 3) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 3) = t.val / 4 ∧ win0_18.index t (1 : Fin 3) = t.val % 4 ∧ win0_18.index t (2 : Fin 3) = 0 :=
  (by decide +kernel : ∀ t : Fin grid0.N, _)
theorem idx5 : ∀ t : Fin cfg0.N, win0_5.index t (0 : Fin 3) = t.val / 4 ∧ (0 < t.val % 4 → win0_5.index t (1 : Fin 3) = 64 * (t.val % 4) - 1) ∧ win0_5.index t (2 : Fin 3) = 0 :=
  (by decide +kernel : ∀ t : Fin grid0.N, _)
theorem idx6 : ∀ t : Fin cfg0.N, win0_6.index t (0 : Fin 3) = t.val / 4 ∧ (t.val % 4 < 3 → win0_6.index t (1 : Fin 3) = 64 * (t.val % 4 + 1)) ∧ win0_6.index t (2 : Fin 3) = 0 :=
  (by decide +kernel : ∀ t : Fin grid0.N, _)

theorem emb0 (t : Fin cfg0.N) (r : Fin 512) (d : Fin 1024) : ((cfg0.win 0).blk t).view.emb (ix3 0 r d) = ix3 (tb t) (tr t r) d := by
  obtain ⟨e0, e1, e2⟩ := idx0 t
  funext x; apply Fin.ext
  match x with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 1024 + 1 * d.val = d.val; omega

theorem emb1 (t : Fin cfg0.N) (r : Fin 512) (d : Fin 512) : ((cfg0.win 1).blk t).view.emb (ix3 0 r d) = ix3 (tb t) (tr t r) d := by
  obtain ⟨e0, e1, e2⟩ := idx1 t
  funext x; apply Fin.ext
  match x with
  | ⟨0, _⟩ => show win0_1.index t (0 : Fin 3) * 1 + 1 * 0 = t.val / 4; omega
  | ⟨1, _⟩ => show win0_1.index t (1 : Fin 3) * 512 + 1 * r.val = 512 * (t.val % 4) + r.val; omega
  | ⟨2, _⟩ => show win0_1.index t (2 : Fin 3) * 512 + 1 * d.val = d.val; omega

theorem emb2 (t : Fin cfg0.N) (r : Fin 512) (d : Fin 512) : ((cfg0.win 2).blk t).view.emb (ix3 0 r d) = ix3 (tb t) (tr t r) d := by
  obtain ⟨e0, e1, e2⟩ := idx2 t
  funext x; apply Fin.ext
  match x with
  | ⟨0, _⟩ => show win0_2.index t (0 : Fin 3) * 1 + 1 * 0 = t.val / 4; omega
  | ⟨1, _⟩ => show win0_2.index t (1 : Fin 3) * 512 + 1 * r.val = 512 * (t.val % 4) + r.val; omega
  | ⟨2, _⟩ => show win0_2.index t (2 : Fin 3) * 512 + 1 * d.val = d.val; omega

theorem emb3 (t : Fin cfg0.N) (r : Fin 512) (d : Fin 512) : ((cfg0.win 3).blk t).view.emb (ix3 0 r d) = ix3 (tb t) (tr t r) d := by
  obtain ⟨e0, e1, e2⟩ := idx3 t
  funext x; apply Fin.ext
  match x with
  | ⟨0, _⟩ => show win0_3.index t (0 : Fin 3) * 1 + 1 * 0 = t.val / 4; omega
  | ⟨1, _⟩ => show win0_3.index t (1 : Fin 3) * 512 + 1 * r.val = 512 * (t.val % 4) + r.val; omega
  | ⟨2, _⟩ => show win0_3.index t (2 : Fin 3) * 512 + 1 * d.val = d.val; omega

theorem emb4 (t : Fin cfg0.N) (r : Fin 512) (d : Fin 512) : ((cfg0.win 4).blk t).view.emb (ix3 0 r d) = ix3 (tb t) (tr t r) d := by
  obtain ⟨e0, e1, e2⟩ := idx4 t
  funext x; apply Fin.ext
  match x with
  | ⟨0, _⟩ => show win0_4.index t (0 : Fin 3) * 1 + 1 * 0 = t.val / 4; omega
  | ⟨1, _⟩ => show win0_4.index t (1 : Fin 3) * 512 + 1 * r.val = 512 * (t.val % 4) + r.val; omega
  | ⟨2, _⟩ => show win0_4.index t (2 : Fin 3) * 512 + 1 * d.val = d.val; omega

theorem emb7 (t : Fin cfg0.N) (r : Fin 512) (d : Fin 3072) : ((cfg0.win 7).blk t).view.emb (ix3 0 r d) = ix3 (tb t) (tr t r) d := by
  obtain ⟨e0, e1, e2⟩ := idx7 t
  funext x; apply Fin.ext
  match x with
  | ⟨0, _⟩ => show win0_7.index t (0 : Fin 3) * 1 + 1 * 0 = t.val / 4; omega
  | ⟨1, _⟩ => show win0_7.index t (1 : Fin 3) * 512 + 1 * r.val = 512 * (t.val % 4) + r.val; omega
  | ⟨2, _⟩ => show win0_7.index t (2 : Fin 3) * 3072 + 1 * d.val = d.val; omega

theorem emb8 (t : Fin cfg0.N) (r : Fin 6) (d : Fin 1024) : ((cfg0.win 8).blk t).view.emb (ix3 0 r d) = ix3 (⟨t.val / 4, by have := (tb t).isLt; show t.val / 4 < 24; have : t.val / 4 < 16 := (tb t).isLt; omega⟩ : Fin 24) r d := by
  obtain ⟨e0, e1, e2⟩ := idx8 t
  funext x; apply Fin.ext
  match x with
  | ⟨0, _⟩ => show win0_8.index t (0 : Fin 3) * 1 + 1 * 0 = t.val / 4; omega
  | ⟨1, _⟩ => show win0_8.index t (1 : Fin 3) * 6 + 1 * r.val = r.val; omega
  | ⟨2, _⟩ => show win0_8.index t (2 : Fin 3) * 1024 + 1 * d.val = d.val; omega

theorem emb9 (t : Fin cfg0.N) (r : Fin 1) (d : Fin 1024) : ((cfg0.win 9).blk t).view.emb (ix2 r d) = ix2 r d := by
  obtain ⟨e0, e1⟩ := idx9 t
  funext x; apply Fin.ext
  match x with
  | ⟨0, _⟩ => show win0_9.index t (0 : Fin 2) * 1 + 1 * r.val = r.val; omega
  | ⟨1, _⟩ => show win0_9.index t (1 : Fin 2) * 1024 + 1 * d.val = d.val; omega

theorem emb10 (t : Fin cfg0.N) (r : Fin 3) (d : Fin 512) : ((cfg0.win 10).blk t).view.emb (ix2 r d) = ix2 r d := by
  obtain ⟨e0, e1⟩ := idx10 t
  funext x; apply Fin.ext
  match x with
  | ⟨0, _⟩ => show win0_10.index t (0 : Fin 2) * 3 + 1 * r.val = r.val; omega
  | ⟨1, _⟩ => show win0_10.index t (1 : Fin 2) * 512 + 1 * d.val = d.val; omega

theorem emb11 (t : Fin cfg0.N) (r : Fin 512) (d : Fin 1024) : ((cfg0.win 11).blk t).view.emb (ix3 0 r d) = ix3 1 r d := by
  obtain ⟨e0, e1, e2⟩ := idx11 t
  funext x; apply Fin.ext
  match x with
  | ⟨0, _⟩ => show win0_11.index t (0 : Fin 3) * 1 + 1 * 0 = 1; omega
  | ⟨1, _⟩ => show win0_11.index t (1 : Fin 3) * 512 + 1 * r.val = r.val; omega
  | ⟨2, _⟩ => show win0_11.index t (2 : Fin 3) * 1024 + 1 * d.val = d.val; omega

theorem emb12 (t : Fin cfg0.N) (r : Fin 512) (d : Fin 1024) : ((cfg0.win 12).blk t).view.emb (ix3 0 r d) = ix3 1 r d := by
  obtain ⟨e0, e1, e2⟩ := idx12 t
  funext x; apply Fin.ext
  match x with
  | ⟨0, _⟩ => show win0_12.index t (0 : Fin 3) * 1 + 1 * 0 = 1; omega
  | ⟨1, _⟩ => show win0_12.index t (1 : Fin 3) * 512 + 1 * r.val = r.val; omega
  | ⟨2, _⟩ => show win0_12.index t (2 : Fin 3) * 1024 + 1 * d.val = d.val; omega

theorem emb13 (t : Fin cfg0.N) (r : Fin 512) (d : Fin 1024) : ((cfg0.win 13).blk t).view.emb (ix3 0 r d) = ix3 1 r d := by
  obtain ⟨e0, e1, e2⟩ := idx13 t
  funext x; apply Fin.ext
  match x with
  | ⟨0, _⟩ => show win0_13.index t (0 : Fin 3) * 1 + 1 * 0 = 1; omega
  | ⟨1, _⟩ => show win0_13.index t (1 : Fin 3) * 512 + 1 * r.val = r.val; omega
  | ⟨2, _⟩ => show win0_13.index t (2 : Fin 3) * 1024 + 1 * d.val = d.val; omega

theorem emb14 (t : Fin cfg0.N) (r : Fin 1024) (d : Fin 1024) : ((cfg0.win 14).blk t).view.emb (ix3 0 r d) = ix3 1 r d := by
  obtain ⟨e0, e1, e2⟩ := idx14 t
  funext x; apply Fin.ext
  match x with
  | ⟨0, _⟩ => show win0_14.index t (0 : Fin 3) * 1 + 1 * 0 = 1; omega
  | ⟨1, _⟩ => show win0_14.index t (1 : Fin 3) * 1024 + 1 * r.val = r.val; omega
  | ⟨2, _⟩ => show win0_14.index t (2 : Fin 3) * 1024 + 1 * d.val = d.val; omega

theorem emb15 (t : Fin cfg0.N) (r : Fin 1024) (d : Fin 5632) : ((cfg0.win 15).blk t).view.emb (ix3 0 r d) = ix3 1 r d := by
  obtain ⟨e0, e1, e2⟩ := idx15 t
  funext x; apply Fin.ext
  match x with
  | ⟨0, _⟩ => show win0_15.index t (0 : Fin 3) * 1 + 1 * 0 = 1; omega
  | ⟨1, _⟩ => show win0_15.index t (1 : Fin 3) * 1024 + 1 * r.val = r.val; omega
  | ⟨2, _⟩ => show win0_15.index t (2 : Fin 3) * 5632 + 1 * d.val = d.val; omega

theorem emb16 (t : Fin cfg0.N) (r : Fin 2816) (d : Fin 1024) : ((cfg0.win 16).blk t).view.emb (ix3 0 r d) = ix3 1 r d := by
  obtain ⟨e0, e1, e2⟩ := idx16 t
  funext x; apply Fin.ext
  match x with
  | ⟨0, _⟩ => show win0_16.index t (0 : Fin 3) * 1 + 1 * 0 = 1; omega
  | ⟨1, _⟩ => show win0_16.index t (1 : Fin 3) * 2816 + 1 * r.val = r.val; omega
  | ⟨2, _⟩ => show win0_16.index t (2 : Fin 3) * 1024 + 1 * d.val = d.val; omega

theorem emb17 (t : Fin cfg0.N) (r : Fin 1) (d : Fin 1024) : ((cfg0.win 17).blk t).view.emb (ix2 r d) = ix2 r d := by
  obtain ⟨e0, e1⟩ := idx17 t
  funext x; apply Fin.ext
  match x with
  | ⟨0, _⟩ => show win0_17.index t (0 : Fin 2) * 1 + 1 * r.val = r.val; omega
  | ⟨1, _⟩ => show win0_17.index t (1 : Fin 2) * 1024 + 1 * d.val = d.val; omega

theorem emb18 (t : Fin cfg0.N) (r : Fin 512) (d : Fin 1024) : ((cfg0.win 18).blk t).view.emb (ix3 0 r d) = ix3 (tb t) (tr t r) d := by
  obtain ⟨e0, e1, e2⟩ := idx18 t
  funext x; apply Fin.ext
  match x with
  | ⟨0, _⟩ => show win0_18.index t (0 : Fin 3) * 1 + 1 * 0 = t.val / 4; omega
  | ⟨1, _⟩ => show win0_18.index t (1 : Fin 3) * 512 + 1 * r.val = 512 * (t.val % 4) + r.val; omega
  | ⟨2, _⟩ => show win0_18.index t (2 : Fin 3) * 1024 + 1 * d.val = d.val; omega

theorem emb5 (t : Fin cfg0.N) (h : 0 < t.val % 4) (d : Fin 512) :
    ((cfg0.win 5).blk t).view.emb (ix3 0 7 d) = ix3 (tb t) (⟨512 * (t.val % 4) - 1, by omega⟩ : Fin 2048) d := by
  obtain ⟨e0, e1, e2⟩ := idx5 t
  have e1 := e1 h
  funext x; apply Fin.ext
  match x with
  | ⟨0, _⟩ => show win0_5.index t (0 : Fin 3) * 1 + 1 * 0 = t.val / 4; omega
  | ⟨1, _⟩ => show win0_5.index t (1 : Fin 3) * 8 + 1 * 7 = 512 * (t.val % 4) - 1; omega
  | ⟨2, _⟩ => show win0_5.index t (2 : Fin 3) * 512 + 1 * d.val = d.val; omega

theorem emb6 (t : Fin cfg0.N) (h : t.val % 4 < 3) (d : Fin 512) :
    ((cfg0.win 6).blk t).view.emb (ix3 0 0 d) = ix3 (tb t) (⟨512 * (t.val % 4 + 1), by omega⟩ : Fin 2048) d := by
  obtain ⟨e0, e1, e2⟩ := idx6 t
  have e1 := e1 h
  funext x; apply Fin.ext
  match x with
  | ⟨0, _⟩ => show win0_6.index t (0 : Fin 3) * 1 + 1 * 0 = t.val / 4; omega
  | ⟨1, _⟩ => show win0_6.index t (1 : Fin 3) * 8 + 1 * 0 = 512 * (t.val % 4 + 1); omega
  | ⟨2, _⟩ => show win0_6.index t (2 : Fin 3) * 512 + 1 * d.val = d.val; omega

variable (c : Dev nD) (t : Fin cfg0.N)

theorem blk0 (r : Fin 512) (d : Fin 1024) : iblk m c 0 t (ix3 0 r d) = m ((c : Thread nD τ).loc main_arg0) (ix3 (tb t) (tr t r) d) := by
  show V m c main_arg0 (((cfg0.win 0).blk t).view.emb (ix3 0 r d)) = _
  rw [emb0]
  entry_read
  try rfl

theorem blk1 (r : Fin 512) (d : Fin 512) : iblk m c 1 t (ix3 0 r d) = m ((c : Thread nD τ).loc main_arg1) (ix3 (tb t) (tr t r) d) := by
  show V m c main_v6 (((cfg0.win 1).blk t).view.emb (ix3 0 r d)) = _
  rw [emb1]
  entry_read
  try rfl

theorem blk2 (r : Fin 512) (d : Fin 512) : iblk m c 2 t (ix3 0 r d) = m ((c : Thread nD τ).loc main_arg2) (ix3 (tb t) (tr t r) d) := by
  show V m c main_v7 (((cfg0.win 2).blk t).view.emb (ix3 0 r d)) = _
  rw [emb2]
  entry_read
  try rfl

theorem blk3 (r : Fin 512) (d : Fin 512) : iblk m c 3 t (ix3 0 r d) = m ((c : Thread nD τ).loc main_arg3) (ix3 (tb t) (tr t r) d) := by
  show V m c main_arg3 (((cfg0.win 3).blk t).view.emb (ix3 0 r d)) = _
  rw [emb3]
  entry_read
  try rfl

theorem blk4 (r : Fin 512) (d : Fin 512) : iblk m c 4 t (ix3 0 r d) = m ((c : Thread nD τ).loc main_arg4) (ix3 (tb t) (tr t r) d) := by
  show V m c main_arg4 (((cfg0.win 4).blk t).view.emb (ix3 0 r d)) = _
  rw [emb4]
  entry_read
  try rfl

theorem blk7 (r : Fin 512) (d : Fin 3072) : iblk m c 7 t (ix3 0 r d) = m ((c : Thread nD τ).loc main_arg5) (ix3 (tb t) (tr t r) d) := by
  show V m c main_arg5 (((cfg0.win 7).blk t).view.emb (ix3 0 r d)) = _
  rw [emb7]
  entry_read
  try rfl

theorem blk5 (h : 0 < t.val % 4) (d : Fin 512) : iblk m c 5 t (ix3 0 7 d) = m ((c : Thread nD τ).loc main_arg4) (ix3 (tb t) (⟨512 * (t.val % 4) - 1, by omega⟩ : Fin 2048) d) := by
  show V m c main_arg4 (((cfg0.win 5).blk t).view.emb (ix3 0 7 d)) = _
  rw [emb5 t h]
  entry_read
  try rfl

theorem blk6 (h : t.val % 4 < 3) (d : Fin 512) : iblk m c 6 t (ix3 0 0 d) = m ((c : Thread nD τ).loc main_arg4) (ix3 (tb t) (⟨512 * (t.val % 4 + 1), by omega⟩ : Fin 2048) d) := by
  show V m c main_arg4 (((cfg0.win 6).blk t).view.emb (ix3 0 0 d)) = _
  rw [emb6 t h]
  entry_read
  try rfl

theorem blk11 (r : Fin 512) (d : Fin 1024) : iblk m c 11 t (ix3 0 r d) = m ((c : Thread nD τ).loc main_arg9) (ix3 1 r d) := by
  show V m c main_v0 (((cfg0.win 11).blk t).view.emb (ix3 0 r d)) = _
  rw [emb11]
  entry_read
  try rfl

theorem blk12 (r : Fin 512) (d : Fin 1024) : iblk m c 12 t (ix3 0 r d) = m ((c : Thread nD τ).loc main_arg10) (ix3 1 r d) := by
  show V m c main_v1 (((cfg0.win 12).blk t).view.emb (ix3 0 r d)) = _
  rw [emb12]
  entry_read
  try rfl

theorem blk13 (r : Fin 512) (d : Fin 1024) : iblk m c 13 t (ix3 0 r d) = m ((c : Thread nD τ).loc main_arg11) (ix3 1 r d) := by
  show V m c main_v2 (((cfg0.win 13).blk t).view.emb (ix3 0 r d)) = _
  rw [emb13]
  entry_read
  try rfl

theorem blk14 (r : Fin 1024) (d : Fin 1024) : iblk m c 14 t (ix3 0 r d) = m ((c : Thread nD τ).loc main_arg12) (ix3 1 r d) := by
  show V m c main_v3 (((cfg0.win 14).blk t).view.emb (ix3 0 r d)) = _
  rw [emb14]
  entry_read
  try rfl

theorem blk15 (r : Fin 1024) (d : Fin 5632) : iblk m c 15 t (ix3 0 r d) = m ((c : Thread nD τ).loc main_arg13) (ix3 1 r d) := by
  show V m c main_v4 (((cfg0.win 15).blk t).view.emb (ix3 0 r d)) = _
  rw [emb15]
  entry_read
  try rfl

theorem blk16 (r : Fin 2816) (d : Fin 1024) : iblk m c 16 t (ix3 0 r d) = m ((c : Thread nD τ).loc main_arg14) (ix3 1 r d) := by
  show V m c main_v5 (((cfg0.win 16).blk t).view.emb (ix3 0 r d)) = _
  rw [emb16]
  entry_read
  try rfl

theorem resh8 (x : Vec Ideal S24x6144 .f32) (b : Fin 24) (q : Fin 6) (d : Fin 1024) :
    shapeCast S24x6x1024 x shapeCasts_S24x6144_S24x6x1024 (ix3 b q d) = x (ix2 b ⟨1024 * q.val + d.val, by omega⟩) := by
  pointwise
  refine congrArg x (funext fun a => Fin.ext ?_)
  fin_cases a <;> simp [ix2] <;> omega

theorem blk8 (r : Fin 6) (d : Fin 1024) : iblk m c 8 t (ix3 0 r d) = m ((c : Thread nD τ).loc main_arg6) (ix2 ⟨(tb t).val, by omega⟩ ⟨1024 * r.val + d.val, by omega⟩) := by
  show V m c main_v8 (((cfg0.win 8).blk t).view.emb (ix3 0 r d)) = _
  rw [emb8]
  entry_read
  exact resh8 _ _ r d

theorem row9 (x : Vec Ideal S2x1024 .f32) (d : Fin 1024) :
    shapeCast S1x1024 (shapeCast S1024 (extractStridedSlice S1x1024 ![1, 0] x slices_S2x1024_S1x1024_1_0) shapeCasts_S1x1024_S1024) shapeCasts_S1024_S1x1024
      (ix2 0 d) = x (ix2 1 d) := by
  pointwise
  try rfl

theorem row10 (x : Vec Ideal S2x3x512 .f32) (r : Fin 3) (d : Fin 512) :
    shapeCast S3x512 (extractStridedSlice S1x3x512 ![1, 0, 0] x slices_S2x3x512_S1x3x512_1_0_0) shapeCasts_S1x3x512_S3x512 (ix2 r d) = x (ix3 1 r d) := by
  pointwise
  try rfl

theorem row17 (x : Vec Ideal S1024 .f32) (d : Fin 1024) : shapeCast S1x1024 x shapeCasts_S1024_S1x1024 (ix2 0 d) = x (ix1 d) := by
  pointwise
  try rfl

theorem blk9 (d : Fin 1024) : iblk m c 9 t (ix2 0 d) = m ((c : Thread nD τ).loc main_arg7) (ix2 1 d) := by
  show V m c main_v11 (((cfg0.win 9).blk t).view.emb (ix2 0 d)) = _
  rw [emb9]
  entry_read
  exact row9 _ d

theorem blk10 (r : Fin 3) (d : Fin 512) : iblk m c 10 t (ix2 r d) = m ((c : Thread nD τ).loc main_arg8) (ix3 1 r d) := by
  show V m c main_v13 (((cfg0.win 10).blk t).view.emb (ix2 r d)) = _
  rw [emb10]
  entry_read
  exact row10 _ r d

theorem blk17 (d : Fin 1024) : iblk m c 17 t (ix2 0 d) = m ((c : Thread nD τ).loc main_arg15) (ix1 d) := by
  show V m c main_v14 (((cfg0.win 17).blk t).view.emb (ix2 0 d)) = _
  rw [emb17]
  entry_read
  exact row17 _ d

end Cert.Kernel2Ideal.In
-- ==== Proof.PostRef.lean ====
/- What the reference of the call after the mixers computes, at an index. -/
module

public import proofs.«01_k».proof.Proof.Gen.Reference2Ideal.Read
public import Idealize.ShloMosaic.Lib.Pointwise
public import proofs.«01_k».proof.Proof.Post

@[expose] public section

noncomputable section

namespace Cert.Reference2Ideal.Ref

open Cert.Reference2Ideal Cert.Reference2Ideal.Gen Cert.Reference2Ideal.Read Idealize.ShloMosaic Idealize.SL.Sem
open Cert.Post

abbrev VI (s : Shape) (e : EltTy) := Vec Ideal s e

section
variable (x0 : VI S16x2048x1024 .f32) (x1 x2 x3 x4 : VI S16x2048x512 .f32) (x5 : VI S16x2048x3072 .f32) (x6 : VI S24x6144 .f32) (x7 : VI S2x1024 .f32)
  (x8 : VI S2x3x512 .f32) (x9 x10 x11 : VI S2x512x1024 .f32) (x12 : VI S2x1024x1024 .f32) (x13 : VI S2x1024x5632 .f32) (x14 : VI S2x2816x1024 .f32)
  (x15 : VI S1024 .f32) (b : Fin 16) (s : Fin 2048)

/-- One of the six modulation vectors of a batch. -/
def md (q : Fin 6) (d : Fin 1024) : EReal := x6 (ix2 ⟨b.val, by omega⟩ ⟨1024 * q.val + d.val, by omega⟩)

theorem md2_apply (d : Fin 1024) : val_main_v42 (F := Ideal) x6 (ix3 b s d) = md x6 b 2 d := by
  rw [val_main_v42_apply, val_main_v3_apply, val_main_v0_apply]
  refine congrArg x6 (funext fun a => Fin.ext ?_)
  fin_cases a <;> simp [ix3, ix2] <;> omega

theorem md3_apply (d : Fin 1024) : val_main_v64 (F := Ideal) x6 (ix3 b s d) = md x6 b 3 d := by
  rw [val_main_v64_apply, val_main_v4_apply, val_main_v0_apply]
  refine congrArg x6 (funext fun a => Fin.ext ?_)
  fin_cases a <;> simp [ix3, ix2] <;> omega

theorem md4_apply (d : Fin 1024) : val_main_v62 (F := Ideal) x6 (ix3 b s d) = @HAdd.hAdd EReal EReal EReal _ (Ideal.ofBits .f32 0x3F800000#32) (md x6 b 4 d) := by
  rw [val_main_v62_apply, val_main_v61_apply, val_main_v60_apply, val_main_cst_3_apply, val_main_v5_apply, val_main_v0_apply]
  refine congrArg (fun z : EReal => Ideal.ofBits .f32 0x3F800000#32 + z) (congrArg x6 (funext fun a => Fin.ext ?_))
  fin_cases a <;> simp [ix3, ix2] <;> omega

theorem md5_apply (d : Fin 1024) : val_main_v76 (F := Ideal) x6 (ix3 b s d) = md x6 b 5 d := by
  rw [val_main_v76_apply, val_main_v6_apply, val_main_v0_apply]
  refine congrArg x6 (funext fun a => Fin.ext ?_)
  fin_cases a <;> simp [ix3, ix2] <;> omega

theorem tap0_apply (j : Fin 512) : val_main_v12 (F := Ideal) x8 (ix3 b s j) = x8 (ix3 1 0 j) := by
  rw [val_main_v12_apply, val_main_v8_apply]
  refine congrArg x8 (funext fun a => Fin.ext ?_)
  fin_cases a <;> simp [ix3] <;> omega

theorem tap1_apply (j : Fin 512) : val_main_v14 (F := Ideal) x8 (ix3 b s j) = x8 (ix3 1 1 j) := by
  rw [val_main_v14_apply, val_main_v9_apply]
  refine congrArg x8 (funext fun a => Fin.ext ?_)
  fin_cases a <;> simp [ix3] <;> omega

theorem tap2_apply (j : Fin 512) : val_main_v18 (F := Ideal) x8 (ix3 b s j) = x8 (ix3 1 2 j) := by
  rw [val_main_v18_apply, val_main_v10_apply]
  refine congrArg x8 (funext fun a => Fin.ext ?_)
  fin_cases a <;> simp [ix3] <;> omega

theorem ofBits_zero : Ideal.ofBits .f32 0x00000000#32 = (0 : EReal) := by
  simp [Ideal.ofBits, Ideal.ieee]

theorem pad_apply (r : Fin 2050) (j : Fin 512) :
    val_main_v7 (F := Ideal) x4 (ix3 b r j) = if h : 1 ≤ r.val ∧ r.val < 2049 then x4 (ix3 b ⟨r.val - 1, by omega⟩ j) else 0 := by
  unfold val_main_v7
  pointwise
  have e : val_main_cst (F := Ideal) (Shape.Idx.first h_S_) = (0 : EReal) := by
    rw [val_main_cst_apply]
    exact ofBits_zero
  rw [e]
  by_cases h : 1 ≤ r.val ∧ r.val < 2049
  · rw [dif_pos h, dif_pos ⟨h.1, by omega⟩]
  · rw [dif_neg h, dif_neg fun h' => h ⟨h'.1, by omega⟩]

/-- The row before (nothing before the first). -/
def prev (j : Fin 512) : EReal := if h : 0 < s.val then x4 (ix3 b ⟨s.val - 1, by omega⟩ j) else 0
/-- The row after (nothing after the last). -/
def next (j : Fin 512) : EReal := if h : s.val < 2047 then x4 (ix3 b ⟨s.val + 1, by omega⟩ j) else 0

theorem row0_apply (j : Fin 512) : val_main_v11 (F := Ideal) x4 (ix3 b s j) = prev x4 b s j := by
  rw [val_main_v11_apply, show idx_main_v11 (ix3 b s j) = ix3 b (⟨s.val, by omega⟩ : Fin 2050) j from funext fun a => by fin_cases a <;> rfl, pad_apply]
  unfold prev
  by_cases h : 0 < s.val
  · rw [dif_pos h, dif_pos ⟨h, by show s.val < 2049; omega⟩]
  · rw [dif_neg h, dif_neg fun h' => h h'.1]

theorem row2_apply (j : Fin 512) : val_main_v17 (F := Ideal) x4 (ix3 b s j) = next x4 b s j := by
  rw [val_main_v17_apply, show idx_main_v17 (ix3 b s j) = ix3 b (⟨2 + s.val, by omega⟩ : Fin 2050) j from funext fun a => by fin_cases a <;> rfl, pad_apply]
  unfold next
  by_cases h : s.val < 2047
  · rw [dif_pos h, dif_pos ⟨by show 1 ≤ 2 + s.val; omega, by show 2 + s.val < 2049; omega⟩]
    exact congrArg (fun q => x4 (ix3 b q j)) (Fin.ext (by simp; omega))
  · rw [dif_neg h, dif_neg fun h' => h (by have : 2 + s.val < 2049 := h'.2; omega)]

/-- The convolution of one row. -/
def yc : Fin 512 → EReal :=
  conv (fun j => x3 (ix3 b s j)) (prev x4 b s) (fun j => x4 (ix3 b s j)) (next x4 b s) (fun j => x8 (ix3 1 0 j)) (fun j => x8 (ix3 1 1 j)) (fun j => x8 (ix3 1 2 j))

theorem yc_apply (j : Fin 512) : val_main_v21 (F := Ideal) x3 x4 x8 (ix3 b s j) = yc x3 x4 x8 b s j := by
  rw [val_main_v21_apply, val_main_v20_apply, val_main_v16_apply, val_main_v13_apply, val_main_v15_apply, val_main_v19_apply,
    tap0_apply, tap1_apply, tap2_apply, row0_apply, row2_apply]
  rfl

theorem wa_apply (j : Fin 512) (d : Fin 1024) : val_main_v26 (F := Ideal) x9 (ix2 j d) = x9 (ix3 1 j d) := by
  rw [val_main_v26_apply, val_main_v25_apply]
  refine congrArg x9 (funext fun a => Fin.ext ?_)
  fin_cases a <;> simp [ix3, ix2] <;> omega

theorem wb_apply (j : Fin 512) (d : Fin 1024) : val_main_v30 (F := Ideal) x10 (ix2 j d) = x10 (ix3 1 j d) := by
  rw [val_main_v30_apply, val_main_v29_apply]
  refine congrArg x10 (funext fun a => Fin.ext ?_)
  fin_cases a <;> simp [ix3, ix2] <;> omega

theorem wc_apply (j : Fin 512) (d : Fin 1024) : val_main_v35 (F := Ideal) x11 (ix2 j d) = x11 (ix3 1 j d) := by
  rw [val_main_v35_apply, val_main_v34_apply]
  refine congrArg x11 (funext fun a => Fin.ext ?_)
  fin_cases a <;> simp [ix3, ix2] <;> omega

theorem wo_apply (k d : Fin 1024) : val_main_v40 (F := Ideal) x12 (ix2 k d) = x12 (ix3 1 k d) := by
  rw [val_main_v40_apply, val_main_v39_apply]
  refine congrArg x12 (funext fun a => Fin.ext ?_)
  fin_cases a <;> simp [ix3, ix2] <;> omega

theorem wgu_apply (k : Fin 1024) (f : Fin 5632) : val_main_v67 (F := Ideal) x13 (ix2 k f) = x13 (ix3 1 k f) := by
  rw [val_main_v67_apply, val_main_v66_apply]
  refine congrArg x13 (funext fun a => Fin.ext ?_)
  fin_cases a <;> simp [ix3, ix2] <;> omega

theorem wd_apply (f : Fin 2816) (d : Fin 1024) : val_main_v74 (F := Ideal) x14 (ix2 f d) = x14 (ix3 1 f d) := by
  rw [val_main_v74_apply, val_main_v73_apply]
  refine congrArg x14 (funext fun a => Fin.ext ?_)
  fin_cases a <;> simp [ix3, ix2] <;> omega

theorem g2_apply (d : Fin 1024) : val_main_v58 (F := Ideal) x7 (ix3 b s d) = x7 (ix2 1 d) := by
  rw [val_main_v58_apply, val_main_v57_apply, val_main_v46_apply, val_main_v45_apply]
  refine congrArg x7 (funext fun a => Fin.ext ?_)
  fin_cases a <;> simp [ix3, ix2] <;> omega

theorem gf_apply (d : Fin 1024) : val_main_v90 (F := Ideal) x15 (ix3 b s d) = x15 (ix1 d) := by
  rw [val_main_v90_apply, val_main_v89_apply]
  refine congrArg x15 (funext fun a => Fin.ext ?_)
  fin_cases a <;> simp [ix3, ix1] <;> omega

/-- The merged branches of one row. -/
def mg : Fin 1024 → EReal :=
  merged (fun d => x5 (ix3 b s ⟨d.val, by omega⟩)) (fun d => x5 (ix3 b s ⟨1024 + d.val, by omega⟩)) (fun d => x5 (ix3 b s ⟨2048 + d.val, by omega⟩))
    (fun j => x1 (ix3 b s j)) (fun j => x2 (ix3 b s j)) (yc x3 x4 x8 b s) (fun j d => x9 (ix3 1 j d)) (fun j d => x10 (ix3 1 j d)) (fun j d => x11 (ix3 1 j d))

theorem mg_apply (d : Fin 1024) : val_main_v38 (F := Ideal) x1 x2 x3 x4 x5 x8 x9 x10 x11 (ix3 b s d) = mg x1 x2 x3 x4 x5 x8 x9 x10 x11 b s d := by
  rw [val_main_v38_apply, val_main_v33_apply, val_main_v28_apply, val_main_v32_apply, val_main_v37_apply, val_main_v27_apply, val_main_v31_apply, val_main_v36_apply,
    val_main_v22_apply, val_main_v23_apply, val_main_v24_apply]
  have e0 : idx_main_v22 (ix3 b s d) = ix3 b s (⟨d.val, by omega⟩ : Fin 3072) := funext fun a => by fin_cases a <;> rfl
  have e1 : idx_main_v23 (ix3 b s d) = ix3 b s (⟨1024 + d.val, by omega⟩ : Fin 3072) := funext fun a => by fin_cases a <;> rfl
  have e2 : idx_main_v24 (ix3 b s d) = ix3 b s (⟨2048 + d.val, by omega⟩ : Fin 3072) := funext fun a => by fin_cases a <;> rfl
  have la : ∀ j, lidx_main_v27 (ix3 b s d) j = ix3 b s j := fun j => funext fun a => by fin_cases a <;> rfl
  have lb : ∀ j, lidx_main_v31 (ix3 b s d) j = ix3 b s j := fun j => funext fun a => by fin_cases a <;> rfl
  have lc : ∀ j, lidx_main_v36 (ix3 b s d) j = ix3 b s j := fun j => funext fun a => by fin_cases a <;> rfl
  have ra : ∀ j, ridx_main_v27 (ix3 b s d) j = ix2 j d := fun j => funext fun a => by fin_cases a <;> rfl
  have rb : ∀ j, ridx_main_v31 (ix3 b s d) j = ix2 j d := fun j => funext fun a => by fin_cases a <;> rfl
  have rc : ∀ j, ridx_main_v36 (ix3 b s d) j = ix2 j d := fun j => funext fun a => by fin_cases a <;> rfl
  rw [e0, e1, e2]
  simp only [la, lb, lc, ra, rb, rc, wa_apply, wb_apply, wc_apply, yc_apply]
  rfl

/-- The row after the mixers. -/
def mid : Fin 1024 → EReal :=
  resid (fun d => x0 (ix3 b s d)) (md x6 b 2) (mg x1 x2 x3 x4 x5 x8 x9 x10 x11 b s) (fun k d => x12 (ix3 1 k d))

theorem mid_apply (d : Fin 1024) : val_main_v44 (F := Ideal) x0 x1 x2 x3 x4 x5 x6 x8 x9 x10 x11 x12 (ix3 b s d)
    = mid x0 x1 x2 x3 x4 x5 x6 x8 x9 x10 x11 x12 b s d := by
  rw [val_main_v44_apply, val_main_v43_apply, md2_apply, val_main_v41_apply]
  have la : ∀ j, lidx_main_v41 (ix3 b s d) j = ix3 b s j := fun j => funext fun a => by fin_cases a <;> rfl
  have ra : ∀ j, ridx_main_v41 (ix3 b s d) j = ix2 j d := fun j => funext fun a => by fin_cases a <;> rfl
  simp only [la, ra, wo_apply, mg_apply]
  rfl

theorem ofBits_one : Ideal.ofBits .f32 0x3F800000#32 = (1 : EReal) := by
  simp [Ideal.ofBits, Ideal.ieee, -EReal.coe_mul]
  norm_num

/-- The row before the feed-forward part. -/
def pre : Fin 1024 → EReal :=
  modul (rms (mid x0 x1 x2 x3 x4 x5 x6 x8 x9 x10 x11 x12 b s) (fun d => x7 (ix2 1 d))) (md x6 b 4) (md x6 b 3)

theorem pre_apply (d : Fin 1024) : val_main_v65 (F := Ideal) x0 x1 x2 x3 x4 x5 x6 x7 x8 x9 x10 x11 x12 (ix3 b s d)
    = pre x0 x1 x2 x3 x4 x5 x6 x7 x8 x9 x10 x11 x12 b s d := by
  rw [val_main_v65_apply, val_main_v63_apply, md3_apply, md4_apply, val_main_v59_apply, g2_apply, val_main_v56_apply, val_main_v55_apply, val_main_v54_apply,
    val_main_v53_apply, val_main_v52_apply, val_main_cst_2_apply, val_main_v51_apply, val_main_v50_apply, val_main_cst_1_apply, val_main_v49_apply, val_main_v48_apply,
    val_main_cst_0_apply]
  have e : ∀ k, idx_main_v48 (idx_main_v49 (idx_main_v55 (ix3 b s d))) k = ix3 b s k := fun k => funext fun a => by fin_cases a <;> rfl
  simp only [e, val_main_v47_apply, mid_apply]
  rw [show (FloatOps.ofBits (F := Ideal) .f32 0x00000000#32) = (0 : EReal) from ofBits_zero, zero_add]
  rfl

theorem hid_apply (f : Fin 5632) : val_main_v68 (F := Ideal) x0 x1 x2 x3 x4 x5 x6 x7 x8 x9 x10 x11 x12 x13 (ix3 b s f)
    = hid (pre x0 x1 x2 x3 x4 x5 x6 x7 x8 x9 x10 x11 x12 b s) (fun k f => x13 (ix3 1 k f)) f := by
  rw [val_main_v68_apply]
  have la : ∀ j, lidx_main_v68 (ix3 b s f) j = ix3 b s j := fun j => funext fun a => by fin_cases a <;> rfl
  have ra : ∀ j, ridx_main_v68 (ix3 b s f) j = ix2 j f := fun j => funext fun a => by fin_cases a <;> rfl
  simp only [la, ra, wgu_apply, pre_apply]
  rfl

theorem act_apply (f : Fin 2816) : val_main_v72 (F := Ideal) x0 x1 x2 x3 x4 x5 x6 x7 x8 x9 x10 x11 x12 x13 (ix3 b s f)
    = act (pre x0 x1 x2 x3 x4 x5 x6 x7 x8 x9 x10 x11 x12 b s) (fun k f => x13 (ix3 1 k f)) f := by
  rw [val_main_v72_apply, val_main_v71_apply, val_main_call0_v5_apply, val_main_call0_v4_apply, val_main_call0_v3_apply, val_main_call0_v2_apply,
    val_main_call0_v1_apply, val_main_call0_v0_apply, val_main_call0_cst_apply, val_main_call0_cst_0_apply, val_main_v69_apply, val_main_v70_apply]
  have e0 : idx_main_v69 (ix3 b s f) = ix3 b s (⟨f.val, by omega⟩ : Fin 5632) := funext fun a => by fin_cases a <;> rfl
  have e1 : idx_main_v70 (ix3 b s f) = ix3 b s (⟨2816 + f.val, by omega⟩ : Fin 5632) := funext fun a => by fin_cases a <;> rfl
  rw [e0, e1, hid_apply, hid_apply, show (FloatOps.ofBits (F := Ideal) .f32 0x3F800000#32) = (1 : EReal) from ofBits_one]
  rfl

/-- The reference's result, one row. -/
theorem out_apply (d : Fin 1024) : val_main_v91 (F := Ideal) x0 x1 x2 x3 x4 x5 x6 x7 x8 x9 x10 x11 x12 x13 x14 x15 (ix3 b s d)
    = tail (mid x0 x1 x2 x3 x4 x5 x6 x8 x9 x10 x11 x12 b s) (fun d => x7 (ix2 1 d)) (md x6 b 3) (md x6 b 4) (md x6 b 5)
        (fun k f => x13 (ix3 1 k f)) (fun f d => x14 (ix3 1 f d)) (fun d => x15 (ix1 d)) d := by
  have hx : ∀ d, val_main_v78 (F := Ideal) x0 x1 x2 x3 x4 x5 x6 x7 x8 x9 x10 x11 x12 x13 x14 (ix3 b s d)
      = resid (mid x0 x1 x2 x3 x4 x5 x6 x8 x9 x10 x11 x12 b s) (md x6 b 5)
          (act (pre x0 x1 x2 x3 x4 x5 x6 x7 x8 x9 x10 x11 x12 b s) (fun k f => x13 (ix3 1 k f))) (fun f d => x14 (ix3 1 f d)) d := by
    intro d
    rw [val_main_v78_apply, val_main_v77_apply, md5_apply, val_main_v75_apply, mid_apply]
    have la : ∀ j, lidx_main_v75 (ix3 b s d) j = ix3 b s j := fun j => funext fun a => by fin_cases a <;> rfl
    have ra : ∀ j, ridx_main_v75 (ix3 b s d) j = ix2 j d := fun j => funext fun a => by fin_cases a <;> rfl
    simp only [la, ra, wd_apply, act_apply]
    rfl
  rw [val_main_v91_apply, gf_apply, val_main_v88_apply, val_main_v87_apply, val_main_v86_apply,
    val_main_v85_apply, val_main_v84_apply, val_main_cst_6_apply, val_main_v83_apply, val_main_v82_apply, val_main_cst_5_apply, val_main_v81_apply, val_main_v80_apply,
    val_main_cst_4_apply]
  have e : ∀ k, idx_main_v80 (idx_main_v81 (idx_main_v87 (ix3 b s d))) k = ix3 b s k := fun k => funext fun a => by fin_cases a <;> rfl
  simp only [e, val_main_v79_apply, hx]
  rw [show (FloatOps.ofBits (F := Ideal) .f32 0x00000000#32) = (0 : EReal) from ofBits_zero, zero_add]
  rfl

end

end Cert.Reference2Ideal.Ref
-- ==== Proof.PostArr.lean ====
/- The result array of the call after the mixers is the reference's. -/
module

public import proofs.«01_k».proof.Proof.PostOut
public import proofs.«01_k».proof.Proof.PostIn
public import proofs.«01_k».proof.Proof.PostRef

@[expose] public section

noncomputable section

namespace Cert.Kernel2Ideal.Arr

open Cert.Kernel2Ideal Cert.Kernel2Ideal.Gen Cert.Kernel2Ideal.Value Cert.Kernel2Ideal.Pay Cert.Kernel2Ideal.In
open Idealize.ShloMosaic Idealize.ShloMosaic.TcCoe Idealize.SL.Sem Cert.Post

variable (m : (ℓ : Loc nD τ sig) → Buf (Elt Ideal) ℓ) (c : Dev nD)

abbrev A0 : VI S16x2048x1024 .f32 := m ((c : Thread nD τ).loc main_arg0)
abbrev A1 : VI S16x2048x512 .f32 := m ((c : Thread nD τ).loc main_arg1)
abbrev A2 : VI S16x2048x512 .f32 := m ((c : Thread nD τ).loc main_arg2)
abbrev A3 : VI S16x2048x512 .f32 := m ((c : Thread nD τ).loc main_arg3)
abbrev A4 : VI S16x2048x512 .f32 := m ((c : Thread nD τ).loc main_arg4)
abbrev A5 : VI S16x2048x3072 .f32 := m ((c : Thread nD τ).loc main_arg5)
abbrev A6 : VI S24x6144 .f32 := m ((c : Thread nD τ).loc main_arg6)
abbrev A7 : VI S2x1024 .f32 := m ((c : Thread nD τ).loc main_arg7)
abbrev A8 : VI S2x3x512 .f32 := m ((c : Thread nD τ).loc main_arg8)
abbrev A9 : VI S2x512x1024 .f32 := m ((c : Thread nD τ).loc main_arg9)
abbrev A10 : VI S2x512x1024 .f32 := m ((c : Thread nD τ).loc main_arg10)
abbrev A11 : VI S2x512x1024 .f32 := m ((c : Thread nD τ).loc main_arg11)
abbrev A12 : VI S2x1024x1024 .f32 := m ((c : Thread nD τ).loc main_arg12)
abbrev A13 : VI S2x1024x5632 .f32 := m ((c : Thread nD τ).loc main_arg13)
abbrev A14 : VI S2x2816x1024 .f32 := m ((c : Thread nD τ).loc main_arg14)
abbrev A15 : VI S1024 .f32 := m ((c : Thread nD τ).loc main_arg15)

/-- The reference's function of the argument arrays. -/
def G : VI S16x2048x1024 .f32 :=
  Cert.Reference2Ideal.Read.val_main_v91 (F := Ideal) (A0 m c) (A1 m c) (A2 m c) (A3 m c) (A4 m c) (A5 m c) (A6 m c) (A7 m c) (A8 m c) (A9 m c) (A10 m c)
    (A11 m c) (A12 m c) (A13 m c) (A14 m c) (A15 m c)

variable (t : Fin cfg0.N)

/-- The convolution of one row: the row before the tile's first is the last of the tile before, and so at the end. -/
theorem yc_eq (r : Fin 512) (j : Fin 512) :
    yc (iblk m c 3 t) (iblk m c 4 t) (iblk m c 5 t) (iblk m c 6 t) (iblk m c 10 t) (grid0.coords t) r j
      = Cert.Reference2Ideal.Ref.yc (A3 m c) (A4 m c) (A8 m c) (tb t) (tr t r) j := by
  refine conv_congr (fun j => blk3 m c t r j) (fun j => ?_) (fun j => blk4 m c t r j) (fun j => ?_) (fun j => blk10 m c t 0 j) (fun j => blk10 m c t 1 j)
    (fun j => blk10 m c t 2 j) j
  · rw [coord1]
    unfold Cert.Reference2Ideal.Ref.prev
    by_cases h0 : r.val = 0
    · rw [if_pos h0]
      by_cases ht : 0 < t.val % 4
      · rw [if_pos ht, dif_pos (by show 0 < 512 * (t.val % 4) + r.val; omega)]
        refine (blk5 m c t ht j).trans (congrArg (fun q => A4 m c (ix3 (tb t) q j)) (Fin.ext ?_))
        show 512 * (t.val % 4) - 1 = 512 * (t.val % 4) + r.val - 1
        omega
      · rw [if_neg ht, dif_neg (by show ¬ 0 < 512 * (t.val % 4) + r.val; omega)]
    · rw [if_neg h0, dif_pos (by show 0 < 512 * (t.val % 4) + r.val; omega)]
      refine (blk4 m c t _ j).trans (congrArg (fun q => A4 m c (ix3 (tb t) q j)) (Fin.ext ?_))
      show 512 * (t.val % 4) + (r.val - 1) = 512 * (t.val % 4) + r.val - 1
      omega
  · rw [coord1]
    unfold Cert.Reference2Ideal.Ref.next
    by_cases h0 : r.val < 511
    · rw [dif_pos h0, dif_pos (by show 512 * (t.val % 4) + r.val < 2047; omega)]
      refine (blk4 m c t _ j).trans (congrArg (fun q => A4 m c (ix3 (tb t) q j)) (Fin.ext ?_))
      show 512 * (t.val % 4) + (r.val + 1) = 512 * (t.val % 4) + r.val + 1
      omega
    · rw [dif_neg h0]
      by_cases ht : t.val % 4 < 3
      · rw [if_pos ht, dif_pos (by show 512 * (t.val % 4) + r.val < 2047; omega)]
        refine (blk6 m c t ht j).trans (congrArg (fun q => A4 m c (ix3 (tb t) q j)) (Fin.ext ?_))
        show 512 * (t.val % 4 + 1) = 512 * (t.val % 4) + r.val + 1
        omega
      · rw [if_neg ht, dif_neg (by show ¬ 512 * (t.val % 4) + r.val < 2047; omega)]

theorem mid_eq (r : Fin 512) (d : Fin 1024) :
    mid (iblk m c 0 t) (iblk m c 1 t) (iblk m c 2 t) (iblk m c 3 t) (iblk m c 4 t) (iblk m c 5 t) (iblk m c 6 t) (iblk m c 7 t) (iblk m c 8 t) (iblk m c 10 t)
        (iblk m c 11 t) (iblk m c 12 t) (iblk m c 13 t) (iblk m c 14 t) (grid0.coords t) r d
      = Cert.Reference2Ideal.Ref.mid (A0 m c) (A1 m c) (A2 m c) (A3 m c) (A4 m c) (A5 m c) (A6 m c) (A8 m c) (A9 m c) (A10 m c) (A11 m c) (A12 m c)
          (tb t) (tr t r) d :=
  resid_congr (fun d => blk0 m c t r d) (fun d => blk8 m c t 2 d)
    (fun k => merged_congr (fun d => blk7 m c t r _) (fun d => blk7 m c t r _) (fun d => blk7 m c t r _) (fun j => blk1 m c t r j) (fun j => blk2 m c t r j)
      (fun j => yc_eq m c t r j) (fun j d => blk11 m c t j d) (fun j d => blk12 m c t j d) (fun j d => blk13 m c t j d) k)
    (fun k d => blk14 m c t k d) d

theorem outv_eq (r : Fin 512) (d : Fin 1024) :
    outv (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (iblk m c 15 t) (iblk m c 16 t) (iblk m c 17 t) (grid0.coords t) r d
      = G m c (ix3 (tb t) (tr t r) d) := by
  unfold G
  rw [Cert.Reference2Ideal.Ref.out_apply]
  exact tail_congr (fun d => mid_eq m c t r d) (fun d => blk9 m c t d) (fun d => blk8 m c t 3 d) (fun d => blk8 m c t 4 d) (fun d => blk8 m c t 5 d)
    (fun k f => blk15 m c t k f) (fun f d => blk16 m c t f d) (fun d => blk17 m c t d) d

/-- What a grid point writes back is its block of the reference's array. -/
theorem flushed_eq : (dats m 0 c).flushed 18 t = ((cfg0.win 18).blk t).view.read (Elt Ideal) (G m c) := by
  rw [flushed18]
  funext j
  obtain ⟨r, k, rfl⟩ : ∃ (r : Fin 512) (k : Fin 1024), j = ix3 0 r k := by
    refine ⟨j 1, j 2, funext fun a => ?_⟩
    match a with
    | ⟨0, _⟩ => exact Subsingleton.elim (α := Fin 1) _ _
    | ⟨1, _⟩ => rfl
    | ⟨2, _⟩ => rfl
  show out0_18 (F := Ideal) (grid0.coords t) _ _ _ _ _ _ _ _ _ _ _ _ _ _ _ _ _ _ (ix3 0 r k) = G m c (((cfg0.win 18).blk t).view.emb (ix3 0 r k))
  rw [emb18, out_apply]
  exact outv_eq m c t r k

/-- Every index of the result is in some point's block. -/
theorem covered (i : S16x2048x1024.Idx) : ∃ t : Fin cfg0.N, (cfg0.win 18).flush t = true ∧ i ∈ ((cfg0.win 18).blk t).view.set := by
  have h0 : (i 0).val < 16 := (i 0).isLt
  have h1 : (i 1).val < 2048 := (i 1).isLt
  refine ⟨⟨4 * (i 0).val + (i 1).val / 512, by rw [N_eq]; omega⟩, flush0_18 _, ?_⟩
  generalize ht : (⟨4 * (i 0).val + (i 1).val / 512, _⟩ : Fin cfg0.N) = t
  have hv : t.val = 4 * (i 0).val + (i 1).val / 512 := by rw [← ht]
  have h := ((cfg0.win 18).blk t).view.emb_mem_set (ix3 0 (⟨(i 1).val % 512, by omega⟩ : Fin 512) (⟨(i 2).val, (i 2).isLt⟩ : Fin 1024))
  rw [emb18] at h
  have e : i = ix3 (tb t) (tr t ⟨(i 1).val % 512, by omega⟩) (⟨(i 2).val, (i 2).isLt⟩ : Fin 1024) := by
    funext a
    apply Fin.ext
    match a with
    | ⟨0, _⟩ => show (i 0).val = t.val / 4; omega
    | ⟨1, _⟩ => show (i 1).val = 512 * (t.val % 4) + (i 1).val % 512; omega
    | ⟨2, _⟩ => rfl
  rw [e]
  exact h

/-- The result array after the run. -/
theorem final : (dats m 0 c).arrAt 18 cfg0.N = G m c :=
  (dats m 0 c).arrAt_eq_of_cover 18 (G m c) (fun t _ => flushed_eq m c t) covered

end Cert.Kernel2Ideal.Arr
-- ==== Proof.FirstPay.lean ====
/- The stored values of the first layer's call after the mixers, at an index. -/
module

public import proofs.«01_k».proof.Proof.Gen.Kernel3Ideal.Skeleton
public import proofs.«01_k».proof.Proof.Post
public import Idealize.ShloMosaic.Lib.Pointwise

@[expose] public section

noncomputable section

namespace Cert.Kernel3Ideal.Pay

open Cert.Kernel3Ideal Cert.Kernel3Ideal.Gen Idealize.ShloMosaic Idealize.SL.Sem Cert.Post

abbrev VI (s : Shape) (e : EltTy) := Vec Ideal s e

theorem pay13_apply (a : VI S256x1024 .bf16) (x : VI S1x256x1024 .f32) (g : VI S1x1x1024 .f32) (w : VI S1x1024x1024 .bf16)
    (r : Fin 256) (d : Fin 1024) : k0_pay13 a x g w (ix2 r d)
      = resid (fun d => x (ix3 0 r d)) (fun d => g (ix3 0 0 d)) (fun k => a (ix2 r k)) (fun k d => w (ix3 0 k d)) d := by
  unfold k0_pay13 resid
  pointwise
  try rfl

theorem pay14_apply (a : VI S256x1024 .bf16) (x : VI S1x256x1024 .f32) (g : VI S1x1x1024 .f32) (w : VI S1x1024x1024 .bf16)
    (r : Fin 256) (d : Fin 1024) : k0_pay14 a x g w (ix2 r d)
      = resid (fun d => x (ix3 0 r d)) (fun d => g (ix3 0 0 d)) (fun k => a (ix2 r k)) (fun k d => w (ix3 0 k d)) d := by
  unfold k0_pay14 resid
  pointwise
  try rfl

theorem pay15_apply (a : VI S256x1024 .bf16) (x : VI S1x256x1024 .f32) (g : VI S1x1x1024 .f32) (w : VI S1x1024x1024 .bf16) (n2 : VI S1x1024 .f32)
    (r : Fin 256) (d : Fin 1024) : k0_pay15 a x g w n2 (ix2 r d)
      = rms (resid (fun d => x (ix3 0 r d)) (fun d => g (ix3 0 0 d)) (fun k => a (ix2 r k)) (fun k d => w (ix3 0 k d))) (fun d => n2 (ix2 0 d)) d := by
  have h := pay13_apply a x g w r
  unfold k0_pay15 rms
  generalize k0_pay13 a x g w = v at h
  simp only [← h]
  pointwise
  try rfl

theorem pay16_apply (v : VI S256x1024 .f32) (n2 : VI S1x1024 .f32) (m4 m3 : VI S1x1x1024 .f32) (r : Fin 256) (d : Fin 1024) :
    k0_pay16 v n2 m4 m3 (ix2 r d)
      = modul (rms (fun d => v (ix2 r d)) (fun d => n2 (ix2 0 d))) (fun d => m4 (ix3 0 0 d)) (fun d => m3 (ix3 0 0 d)) d := by
  unfold k0_pay16 modul rms
  pointwise
  try rfl

theorem pay17_apply (y : VI S256x1024 .f32) (m4 m3 : VI S1x1x1024 .f32) (w : VI S1x1024x5632 .bf16) (r : Fin 256) (f : Fin 5632) :
    k0_pay17 y m4 m3 w (ix2 r f)
      = hid (modul (fun d => y (ix2 r d)) (fun d => m4 (ix3 0 0 d)) (fun d => m3 (ix3 0 0 d))) (fun k f => w (ix3 0 k f)) f := by
  unfold k0_pay17 hid modul
  pointwise
  try rfl

theorem pay20_apply (v : VI S256x1024 .f32) (u : VI S256x5632 .f32) (s l : VI S256x2816 .f32) (m5 : VI S1x1x1024 .f32) (wd : VI S1x2816x1024 .bf16)
    (r : Fin 256) (d : Fin 1024) : k0_pay20 v u s l m5 wd (ix3 0 r d)
      = resid (fun d => v (ix2 r d)) (fun d => m5 (ix3 0 0 d)) (fun f : Fin 2816 => s (ix2 r f) * l (ix2 r f) * u (ix2 r ⟨2816 + f.val, by omega⟩))
          (fun f d => wd (ix3 0 f d)) d := by
  unfold k0_pay20 resid
  pointwise
  try rfl

theorem pay21_apply (v : VI S256x1024 .f32) (h : VI S256x1024 .bf16) (w : VI S1x1024x5632 .bf16) (m5 : VI S1x1x1024 .f32) (wd : VI S1x2816x1024 .bf16)
    (r : Fin 256) (d : Fin 1024) : k0_pay21 v h w m5 wd (ix3 0 r d)
      = resid (fun d => v (ix2 r d)) (fun d => m5 (ix3 0 0 d)) (act (fun d => h (ix2 r d)) (fun k f => w (ix3 0 k f))) (fun f d => wd (ix3 0 f d)) d := by
  unfold k0_pay21 resid act hid
  pointwise
  try rfl

theorem pay18_apply (y : VI S256x1024 .f32) (m4 m3 : VI S1x1x1024 .f32) (w : VI S1x1024x5632 .bf16) (r : Fin 256) (f : Fin 2816) :
    k0_pay18 y m4 m3 w (ix2 r f) = k0_pay17 y m4 m3 w (ix2 r ⟨f.val, by omega⟩) := by
  unfold k0_pay18
  generalize k0_pay17 y m4 m3 w = u
  pointwise
  try rfl

theorem pay19_apply (y : VI S256x1024 .f32) (m4 m3 : VI S1x1x1024 .f32) (w : VI S1x1024x5632 .bf16) (r : Fin 256) (f : Fin 2816) :
    k0_pay19 y m4 m3 w (ix2 r f) = Ideal.logistic (k0_pay17 y m4 m3 w (ix2 r ⟨f.val, by omega⟩)) := by
  unfold k0_pay19
  rw [← pay18_apply]
  rfl

/-- The merged branches of the first 256 rows of a tile, from the convolution's result there. -/
theorem pay11_apply (ga gb gc : VI S1x256x1024 .f32) (ya yb : VI S1x256x512 .bf16) (yc : VI S256x512 .bf16) (wa wb wc : VI S1x512x1024 .bf16)
    (r : Fin 256) (d : Fin 1024) :
    k0_pay11 (k0_pay7 ga ya wa gb yb wb) (k0_pay8 gc) yc (k0_pay10 wc) (constant S256x1024 .f32 0x00000000#32) (ix2 r d)
      = merged (fun d => ga (ix3 0 r d)) (fun d => gb (ix3 0 r d)) (fun d => gc (ix3 0 r d)) (fun j => ya (ix3 0 r j)) (fun j => yb (ix3 0 r j))
          (fun j => yc (ix2 r j)) (fun j d => wa (ix3 0 j d)) (fun j d => wb (ix3 0 j d)) (fun j d => wc (ix3 0 j d)) d := by
  unfold k0_pay11 k0_pay7 k0_pay8 k0_pay10 merged
  pointwise
  try rfl

/-- … and of the last 256. -/
theorem pay12_apply (ga gb gc : VI S1x256x1024 .f32) (ya yb : VI S1x256x512 .bf16) (yc : VI S512x512 .bf16) (wa wb wc : VI S1x512x1024 .bf16)
    (r : Fin 256) (d : Fin 1024) :
    k0_pay12 yc ga ya wa gb yb wb gc wc (ix2 r d)
      = merged (fun d => ga (ix3 0 r d)) (fun d => gb (ix3 0 r d)) (fun d => gc (ix3 0 r d)) (fun j => ya (ix3 0 r j)) (fun j => yb (ix3 0 r j))
          (fun j => yc (ix2 ⟨256 + r.val, by omega⟩ j)) (fun j d => wa (ix3 0 j d)) (fun j d => wb (ix3 0 j d)) (fun j d => wc (ix3 0 j d)) d := by
  unfold k0_pay12 merged
  pointwise
  try rfl

theorem pay9_apply (a b c e f : VI S512x512 .f32) (g : VI S1x512 .f32) (r : Fin 256) (j : Fin 512) :
    k0_pay9 a b c e f g (ix2 r j) = k0_pay6 a b c e f g (ix2 ⟨r.val, by omega⟩ j) := by
  unfold k0_pay9
  generalize k0_pay6 a b c e f g = u
  pointwise
  try rfl

theorem pay1_apply (u : VI S1x512x512 .f32) (r j : Fin 512) : k0_pay1 u (ix2 r j) = u (ix3 0 r j) := by
  unfold k0_pay1
  pointwise
  try rfl

theorem sel_eq {a b : ℕ} (ha : a < 2 ^ 32) (hb : b < 2 ^ 32) (x y : EReal) :
    Scalar.select (IntOp.cmpi CmpIPredicate.eq (BitVec.ofNat 32 a) (BitVec.ofNat 32 b)) x y = if a = b then x else y := by
  have h : IntOp.cmpi CmpIPredicate.eq (BitVec.ofNat 32 a) (BitVec.ofNat 32 b) = if a = b then 1#1 else 0#1 := by
    by_cases h : a = b
    · subst h; simp [IntOp.cmpi]
    · have : BitVec.ofNat 32 a ≠ BitVec.ofNat 32 b := fun e => h (by
        have := congrArg BitVec.toNat e
        simp only [BitVec.toNat_ofNat] at this
        rwa [Nat.mod_eq_of_lt ha, Nat.mod_eq_of_lt hb] at this)
      simp [IntOp.cmpi, h, beq_eq_false_iff_ne.mpr this]
  rw [h]
  by_cases h : a = b
  · rw [if_pos h, if_pos h]; rfl
  · rw [if_neg h, if_neg h]; rfl

theorem sel_pos (i : Fin 4) (x y : EReal) :
    Scalar.select (Scalar.cmpi CmpIPredicate.sgt (BitVec.ofNat 32 i.val) 0#32) x y = if 0 < i.val then x else y := by
  fin_cases i <;> rfl

theorem sel_lt (i : Fin 4) (x y : EReal) :
    Scalar.select (Scalar.cmpi CmpIPredicate.slt (BitVec.ofNat 32 i.val) 3#32) x y = if i.val < 3 then x else y := by
  fin_cases i <;> rfl

/-- The convolution's result in one tile. -/
theorem pay6_apply (i : grid0.Coords) (u : VI S1x512x512 .f32) (p n : VI S1x1x512 .f32) (cb : VI S1x512x512 .f32) (w0 w1 w2 : VI S1x512 .f32)
    (r : Fin 512) (j : Fin 512) :
    k0_pay6 (k0_pay1 u) (k0_pay2 i u n) (k0_pay3 cb) (k0_pay4 i u p w0) (k0_pay5 w1) w2 (ix2 r j)
      = conv (fun j => cb (ix3 0 r j)) (fun j => if r.val = 0 then (if 0 < (i 1).val then p (ix3 0 0 j) else 0) else u (ix3 0 ⟨r.val - 1, by omega⟩ j))
          (fun j => u (ix3 0 r j))
          (fun j => if h : r.val < 511 then u (ix3 0 ⟨r.val + 1, by omega⟩ j) else (if (i 1).val < 3 then n (ix3 0 0 j) else 0))
          (fun j => w0 (ix2 0 j)) (fun j => w1 (ix2 0 j)) (fun j => w2 (ix2 0 j)) j := by
  unfold k0_pay6 k0_pay1 k0_pay2 k0_pay3 k0_pay4 k0_pay5 conv
  pointwise
  rw [pay1_apply, pay1_apply, sel_eq (by omega) (by omega), sel_eq (b := 511) (by omega) (by omega), sel_pos (i 1), sel_lt (i 1)]
  have e1 : (if r.val = 0 then (if 0 < (i 1).val then p (ix3 0 0 j) else 0) else u (ix3 0 ⟨(r.val + 512 - 1) % 512, by omega⟩ j))
      = if r.val = 0 then (if 0 < (i 1).val then p (ix3 0 0 j) else 0) else u (ix3 0 ⟨r.val - 1, by omega⟩ j) := by
    by_cases h : r.val = 0
    · rw [if_pos h, if_pos h]
    · rw [if_neg h, if_neg h]
      congr 2
      apply Fin.ext
      show (r.val + 512 - 1) % 512 = r.val - 1
      omega
  have e2 : (if r.val = 511 then (if (i 1).val < 3 then n (ix3 0 0 j) else 0) else u (ix3 0 ⟨(r.val + 512 - 511) % 512, by omega⟩ j))
      = if h : r.val < 511 then u (ix3 0 ⟨r.val + 1, by omega⟩ j) else (if (i 1).val < 3 then n (ix3 0 0 j) else 0) := by
    by_cases h : r.val < 511
    · rw [if_neg (by omega), dif_pos h]
      congr 2
      apply Fin.ext
      show (r.val + 512 - 511) % 512 = r.val + 1
      omega
    · rw [if_pos (by omega), dif_neg h]
  rw [e1, e2]

end Cert.Kernel3Ideal.Pay
-- ==== Proof.FirstOut.lean ====
/- What one grid point of the first layer's call after the mixers leaves in the output block, at an index. -/
module

public import proofs.«01_k».proof.Proof.FirstPay
public import proofs.«01_k».proof.Proof.Gen.Kernel3Ideal.Frame

@[expose] public section

noncomputable section

namespace Cert.Kernel3Ideal.Pay

open Cert.Kernel3Ideal Cert.Kernel3Ideal.Gen Idealize.ShloMosaic Idealize.SL.Sem Cert.Post

/-! ## Loads -/

theorem ld3 {e : EltTy} {n0 n1 n2 m0 m1 m2 : ℕ} (x : VI ⟨3, ![n0, n1, n2]⟩ e) (o0 o1 o2 : ℕ)
    (i : ∀ a : Fin 3, (![o0, o1, o2] : Fin 3 → ℕ) a + (![m0, m1, m2] : Fin 3 → ℕ) a ≤ (⟨3, ![n0, n1, n2]⟩ : Shape).size a)
    (a : Fin m0) (b : Fin m1) (d : Fin m2) (a' : Fin n0) (b' : Fin n1) (d' : Fin n2) (ha : a'.val = o0 + a.val) (hb : b'.val = o1 + b.val)
    (hd : d'.val = o2 + d.val) :
    View.ld x (Rect.unit (s := ⟨3, ![n0, n1, n2]⟩) ![o0, o1, o2] ![m0, m1, m2] i) (ix3 a b d) = x (ix3 a' b' d') := by
  unfold View.ld
  congr 1
  refine funext fun y => Fin.ext ?_
  match y with
  | ⟨0, _⟩ => show o0 + 1 * a.val = a'.val; omega
  | ⟨1, _⟩ => show o1 + 1 * b.val = b'.val; omega
  | ⟨2, _⟩ => show o2 + 1 * d.val = d'.val; omega

theorem ld2 {e : EltTy} {n0 n1 m0 m1 : ℕ} (x : VI ⟨2, ![n0, n1]⟩ e) (o0 o1 : ℕ)
    (i : ∀ a : Fin 2, (![o0, o1] : Fin 2 → ℕ) a + (![m0, m1] : Fin 2 → ℕ) a ≤ (⟨2, ![n0, n1]⟩ : Shape).size a)
    (a : Fin m0) (b : Fin m1) (a' : Fin n0) (b' : Fin n1) (ha : a'.val = o0 + a.val) (hb : b'.val = o1 + b.val) :
    View.ld x (Rect.unit (s := ⟨2, ![n0, n1]⟩) ![o0, o1] ![m0, m1] i) (ix2 a b) = x (ix2 a' b') := by
  unfold View.ld
  congr 1
  refine funext fun y => Fin.ext ?_
  match y with
  | ⟨0, _⟩ => show o0 + 1 * a.val = a'.val; omega
  | ⟨1, _⟩ => show o1 + 1 * b.val = b'.val; omega

section
variable (x0 : VI S1x512x1024 .f32) (x1 x2 : VI S1x512x512 .bf16) (x3 x4 : VI S1x512x512 .f32) (x5 x6 : VI S1x8x512 .f32) (x7 : VI S1x512x3072 .f32)
  (x8 : VI S1x6x1024 .f32) (x9 : VI S1x1024 .f32) (x10 : VI S3x512 .f32) (x11 x12 x13 : VI S1x512x1024 .bf16) (x14 : VI S1x1024x1024 .bf16)
  (x15 : VI S1x1024x5632 .bf16) (x16 : VI S1x2816x1024 .bf16)

theorem ld_r0 (r j : Fin 512) : View.ld x4 r0_0 (ix3 (0 : Fin 1) r j : S1x512x512.Idx) = x4 (ix3 0 r j) := ld3 x4 0 0 0 _ 0 r j 0 r j (by simp) (by simp) (by simp)
theorem ld_r1 (j : Fin 512) : View.ld x5 r0_1 (ix3 (0 : Fin 1) (0 : Fin 1) j : S1x1x512.Idx) = x5 (ix3 0 7 j) := ld3 x5 0 7 0 _ 0 0 j 0 7 j (by simp) (by simp) (by simp)
theorem ld_r2 (j : Fin 512) : View.ld x6 r0_2 (ix3 (0 : Fin 1) (0 : Fin 1) j : S1x1x512.Idx) = x6 (ix3 0 0 j) := ld3 x6 0 0 0 _ 0 0 j 0 0 j (by simp) (by simp) (by simp)
theorem ld_r3 (j : Fin 512) : View.ld x10 r0_3 (ix2 (0 : Fin 1) j : S1x512.Idx) = x10 (ix2 0 j) := ld2 x10 0 0 _ 0 j 0 j (by simp) (by simp)
theorem ld_r4 (j : Fin 512) : View.ld x10 r0_4 (ix2 (0 : Fin 1) j : S1x512.Idx) = x10 (ix2 1 j) := ld2 x10 1 0 _ 0 j 1 j (by simp) (by simp)
theorem ld_r5 (j : Fin 512) : View.ld x10 r0_5 (ix2 (0 : Fin 1) j : S1x512.Idx) = x10 (ix2 2 j) := ld2 x10 2 0 _ 0 j 2 j (by simp) (by simp)
theorem ld_r6 (r : Fin 256) (d : Fin 1024) : View.ld x7 r0_6 (ix3 (0 : Fin 1) r d : S1x256x1024.Idx) = x7 (ix3 0 ⟨r.val, by omega⟩ ⟨d.val, by omega⟩) :=
  ld3 x7 0 0 0 _ 0 r d 0 _ _ (by simp) (by simp) (by simp)
theorem ld_r9 (r : Fin 256) (d : Fin 1024) : View.ld x7 r0_9 (ix3 (0 : Fin 1) r d : S1x256x1024.Idx) = x7 (ix3 0 ⟨r.val, by omega⟩ ⟨1024 + d.val, by omega⟩) :=
  ld3 x7 0 0 1024 _ 0 r d 0 _ _ (by simp) (by simp) (by simp)
theorem ld_r10 (r : Fin 256) (d : Fin 1024) : View.ld x7 r0_10 (ix3 (0 : Fin 1) r d : S1x256x1024.Idx) = x7 (ix3 0 ⟨r.val, by omega⟩ ⟨2048 + d.val, by omega⟩) :=
  ld3 x7 0 0 2048 _ 0 r d 0 _ _ (by simp) (by simp) (by simp)
theorem ld_r11 (r : Fin 256) (d : Fin 1024) : View.ld x7 r0_11 (ix3 (0 : Fin 1) r d : S1x256x1024.Idx) = x7 (ix3 0 ⟨256 + r.val, by omega⟩ ⟨d.val, by omega⟩) :=
  ld3 x7 0 256 0 _ 0 r d 0 _ _ (by simp) (by simp) (by simp)
theorem ld_r13 (r : Fin 256) (d : Fin 1024) : View.ld x7 r0_13 (ix3 (0 : Fin 1) r d : S1x256x1024.Idx) = x7 (ix3 0 ⟨256 + r.val, by omega⟩ ⟨1024 + d.val, by omega⟩) :=
  ld3 x7 0 256 1024 _ 0 r d 0 _ _ (by simp) (by simp) (by simp)
theorem ld_r14 (r : Fin 256) (d : Fin 1024) : View.ld x7 r0_14 (ix3 (0 : Fin 1) r d : S1x256x1024.Idx) = x7 (ix3 0 ⟨256 + r.val, by omega⟩ ⟨2048 + d.val, by omega⟩) :=
  ld3 x7 0 256 2048 _ 0 r d 0 _ _ (by simp) (by simp) (by simp)
theorem ld_r7 (r : Fin 256) (j : Fin 512) : View.ld x1 r0_7 (ix3 (0 : Fin 1) r j : S1x256x512.Idx) = x1 (ix3 0 ⟨r.val, by omega⟩ j) :=
  ld3 x1 0 0 0 _ 0 r j 0 _ j (by simp) (by simp) (by simp)
theorem ld_r12 (r : Fin 256) (j : Fin 512) : View.ld x1 r0_12 (ix3 (0 : Fin 1) r j : S1x256x512.Idx) = x1 (ix3 0 ⟨256 + r.val, by omega⟩ j) :=
  ld3 x1 0 256 0 _ 0 r j 0 _ j (by simp) (by simp) (by simp)
theorem ld_r8 (j : Fin 512) (d : Fin 1024) : View.ld x11 r0_8 (ix3 (0 : Fin 1) j d : S1x512x1024.Idx) = x11 (ix3 0 j d) := ld3 x11 0 0 0 _ 0 j d 0 j d (by simp) (by simp) (by simp)
theorem ld_r15 (r : Fin 256) (d : Fin 1024) : View.ld x0 r0_15 (ix3 (0 : Fin 1) r d : S1x256x1024.Idx) = x0 (ix3 0 ⟨r.val, by omega⟩ d) :=
  ld3 x0 0 0 0 _ 0 r d 0 _ d (by simp) (by simp) (by simp)
theorem ld_r18 (r : Fin 256) (d : Fin 1024) : View.ld x0 r0_18 (ix3 (0 : Fin 1) r d : S1x256x1024.Idx) = x0 (ix3 0 ⟨256 + r.val, by omega⟩ d) :=
  ld3 x0 0 256 0 _ 0 r d 0 _ d (by simp) (by simp) (by simp)
theorem ld_r16 (d : Fin 1024) : View.ld x8 r0_16 (ix3 (0 : Fin 1) (0 : Fin 1) d : S1x1x1024.Idx) = x8 (ix3 0 2 d) := ld3 x8 0 2 0 _ 0 0 d 0 2 d (by simp) (by simp) (by simp)
theorem ld_r20 (d : Fin 1024) : View.ld x8 r0_20 (ix3 (0 : Fin 1) (0 : Fin 1) d : S1x1x1024.Idx) = x8 (ix3 0 4 d) := ld3 x8 0 4 0 _ 0 0 d 0 4 d (by simp) (by simp) (by simp)
theorem ld_r21 (d : Fin 1024) : View.ld x8 r0_21 (ix3 (0 : Fin 1) (0 : Fin 1) d : S1x1x1024.Idx) = x8 (ix3 0 3 d) := ld3 x8 0 3 0 _ 0 0 d 0 3 d (by simp) (by simp) (by simp)
theorem ld_r23 (d : Fin 1024) : View.ld x8 r0_23 (ix3 (0 : Fin 1) (0 : Fin 1) d : S1x1x1024.Idx) = x8 (ix3 0 5 d) := ld3 x8 0 5 0 _ 0 0 d 0 5 d (by simp) (by simp) (by simp)
theorem ld_r17 (k d : Fin 1024) : View.ld x14 r0_17 (ix3 (0 : Fin 1) k d : S1x1024x1024.Idx) = x14 (ix3 0 k d) := ld3 x14 0 0 0 _ 0 k d 0 k d (by simp) (by simp) (by simp)
theorem ld_r19 (d : Fin 1024) : View.ld x9 r0_19 (ix2 (0 : Fin 1) d : S1x1024.Idx) = x9 (ix2 0 d) := ld2 x9 0 0 _ 0 d 0 d (by simp) (by simp)
theorem ld_r22 (k : Fin 1024) (f : Fin 5632) : View.ld x15 r0_22 (ix3 (0 : Fin 1) k f : S1x1024x5632.Idx) = x15 (ix3 0 k f) := ld3 x15 0 0 0 _ 0 k f 0 k f (by simp) (by simp) (by simp)
theorem ld_r24 (f : Fin 2816) (d : Fin 1024) : View.ld x16 r0_24 (ix3 (0 : Fin 1) f d : S1x2816x1024.Idx) = x16 (ix3 0 f d) := ld3 x16 0 0 0 _ 0 f d 0 f d (by simp) (by simp) (by simp)

/-! ## One row of the block -/

variable (i : grid0.Coords)

/-- The convolution of one row of the tile. -/
def yc (r : Fin 512) : Fin 512 → EReal :=
  conv (fun j => x3 (ix3 0 r j)) (fun j => if r.val = 0 then (if 0 < (i 1).val then x5 (ix3 0 7 j) else 0) else x4 (ix3 0 ⟨r.val - 1, by omega⟩ j))
    (fun j => x4 (ix3 0 r j))
    (fun j => if h : r.val < 511 then x4 (ix3 0 ⟨r.val + 1, by omega⟩ j) else (if (i 1).val < 3 then x6 (ix3 0 0 j) else 0))
    (fun j => x10 (ix2 0 j)) (fun j => x10 (ix2 1 j)) (fun j => x10 (ix2 2 j))

/-- The merged branches of one row. -/
def mg (r : Fin 512) : Fin 1024 → EReal :=
  merged (fun d => x7 (ix3 0 r ⟨d.val, by omega⟩)) (fun d => x7 (ix3 0 r ⟨1024 + d.val, by omega⟩)) (fun d => x7 (ix3 0 r ⟨2048 + d.val, by omega⟩))
    (fun j => x1 (ix3 0 r j)) (fun j => x2 (ix3 0 r j)) (yc x3 x4 x5 x6 x10 i r)
    (fun j d => x11 (ix3 0 j d)) (fun j d => x12 (ix3 0 j d)) (fun j d => x13 (ix3 0 j d))

/-- The row after the mixers. -/
def mid (r : Fin 512) : Fin 1024 → EReal :=
  resid (fun d => x0 (ix3 0 r d)) (fun d => x8 (ix3 0 2 d)) (mg x1 x2 x3 x4 x5 x6 x7 x10 x11 x12 x13 i r) (fun k d => x14 (ix3 0 k d))

/-- The row of the result. -/
def outv (r : Fin 512) : Fin 1024 → EReal :=
  ffn (mid x0 x1 x2 x3 x4 x5 x6 x7 x8 x10 x11 x12 x13 x14 i r) (fun d => x9 (ix2 0 d)) (fun d => x8 (ix3 0 3 d)) (fun d => x8 (ix3 0 4 d))
    (fun d => x8 (ix3 0 5 d)) (fun k f => x15 (ix3 0 k f)) (fun f d => x16 (ix3 0 f d))

theorem conv_apply (r j : Fin 512) :
    k0_pay6 (k0_pay1 (View.ld x4 r0_0)) (k0_pay2 i (View.ld x4 r0_0) (View.ld x6 r0_2)) (k0_pay3 (View.ld x3 r0_0))
        (k0_pay4 i (View.ld x4 r0_0) (View.ld x5 r0_1) (View.ld x10 r0_3)) (k0_pay5 (View.ld x10 r0_4)) (View.ld x10 r0_5) (ix2 r j)
      = yc x3 x4 x5 x6 x10 i r j := by
  rw [pay6_apply]
  exact conv_congr (ld_r0 x3 r)
    (fun j => by rw [show View.ld x5 r0_1 (ix3 (0 : Fin 1) (0 : Fin 1) j : S1x1x512.Idx) = _ from ld_r1 x5 j, show View.ld x4 r0_0 (ix3 (0 : Fin 1) (⟨r.val - 1, by omega⟩ : Fin 512) j : S1x512x512.Idx) = _ from ld_r0 x4 _ j])
    (ld_r0 x4 r)
    (fun j => by
      by_cases h : r.val < 511
      · rw [dif_pos h, dif_pos h]; exact ld_r0 x4 _ j
      · rw [dif_neg h, dif_neg h, show View.ld x6 r0_2 (ix3 (0 : Fin 1) (0 : Fin 1) j : S1x1x512.Idx) = _ from ld_r2 x6 j])
    (ld_r3 x10) (ld_r4 x10) (ld_r5 x10) j

theorem pay27_apply (r : Fin 256) (d : Fin 1024) :
    k0_pay27 i x0 x1 x2 x3 x4 x5 x6 x7 x8 x9 x10 x11 x12 x13 x14 x15 x16 (ix2 r d)
      = mg x1 x2 x3 x4 x5 x6 x7 x10 x11 x12 x13 i ⟨r.val, by omega⟩ d := by
  unfold k0_pay27 k0_pay26 k0_pay25 k0_pay24 k0_pay23 k0_pay22
  rw [pay11_apply]
  exact merged_congr (ld_r6 x7 r) (ld_r9 x7 r) (ld_r10 x7 r) (ld_r7 x1 r) (ld_r7 x2 r)
    (fun j => (pay9_apply _ _ _ _ _ _ r j).trans (conv_apply x3 x4 x5 x6 x10 i _ j)) (ld_r8 x11) (ld_r8 x12) (ld_r8 x13) d

theorem mid_lo (r : Fin 256) (d : Fin 1024) :
    k0_pay13 (k0_pay27 i x0 x1 x2 x3 x4 x5 x6 x7 x8 x9 x10 x11 x12 x13 x14 x15 x16) (View.ld x0 r0_15) (View.ld x8 r0_16) (View.ld x14 r0_17) (ix2 r d)
      = mid x0 x1 x2 x3 x4 x5 x6 x7 x8 x10 x11 x12 x13 x14 i ⟨r.val, by omega⟩ d :=
  (pay13_apply _ _ _ _ r d).trans (resid_congr (ld_r15 x0 r) (ld_r16 x8) (pay27_apply x0 x1 x2 x3 x4 x5 x6 x7 x8 x9 x10 x11 x12 x13 x14 x15 x16 i r)
    (ld_r17 x14) d)

theorem pay28_apply (r : Fin 256) (d : Fin 1024) :
    k0_pay28 i x0 x1 x2 x3 x4 x5 x6 x7 x8 x9 x10 x11 x12 x13 x14 x15 x16 (ix2 r d)
      = mid x0 x1 x2 x3 x4 x5 x6 x7 x8 x10 x11 x12 x13 x14 i ⟨256 + r.val, by omega⟩ d := by
  unfold k0_pay28 k0_pay26 k0_pay25 k0_pay24 k0_pay23 k0_pay22
  rw [pay14_apply]
  exact resid_congr (ld_r18 x0 r) (ld_r16 x8) (fun k => (pay12_apply _ _ _ _ _ _ _ _ _ r k).trans
    (merged_congr (ld_r11 x7 r) (ld_r13 x7 r) (ld_r14 x7 r) (ld_r12 x1 r) (ld_r12 x2 r) (conv_apply x3 x4 x5 x6 x10 i _) (ld_r8 x11) (ld_r8 x12) (ld_r8 x13) k))
    (ld_r17 x14) d

theorem pay29_apply (r : Fin 256) (d : Fin 1024) :
    k0_pay29 i x0 x1 x2 x3 x4 x5 x6 x7 x8 x9 x10 x11 x12 x13 x14 x15 x16 (ix2 r d)
      = rms (mid x0 x1 x2 x3 x4 x5 x6 x7 x8 x10 x11 x12 x13 x14 i ⟨r.val, by omega⟩) (fun d => x9 (ix2 0 d)) d := by
  unfold k0_pay29
  rw [pay15_apply]
  exact rms_congr (fun d => resid_congr (ld_r15 x0 r) (ld_r16 x8) (pay27_apply x0 x1 x2 x3 x4 x5 x6 x7 x8 x9 x10 x11 x12 x13 x14 x15 x16 i r)
    (ld_r17 x14) d) (ld_r19 x9) d

theorem hid_lo (r : Fin 256) (f : Fin 5632) :
    k0_pay17 (k0_pay29 i x0 x1 x2 x3 x4 x5 x6 x7 x8 x9 x10 x11 x12 x13 x14 x15 x16) (View.ld x8 r0_20) (View.ld x8 r0_21) (View.ld x15 r0_22) (ix2 r f)
      = hid (modul (rms (mid x0 x1 x2 x3 x4 x5 x6 x7 x8 x10 x11 x12 x13 x14 i ⟨r.val, by omega⟩) (fun d => x9 (ix2 0 d))) (fun d => x8 (ix3 0 4 d))
          (fun d => x8 (ix3 0 3 d))) (fun k f => x15 (ix3 0 k f)) f :=
  (pay17_apply _ _ _ _ r f).trans (hid_congr (fun d => modul_congr (pay29_apply x0 x1 x2 x3 x4 x5 x6 x7 x8 x9 x10 x11 x12 x13 x14 x15 x16 i r)
    (ld_r20 x8) (ld_r21 x8) d) (ld_r22 x15) f)

/-- A store of 256 rows from row `o`. -/
abbrev hpiece (o : ℕ) (i : ∀ a : Fin 3, (![0, o, 0] : Fin 3 → ℕ) a + (![1, 256, 1024] : Fin 3 → ℕ) a ≤ S1x512x1024.size a)
    (w : VI S1x256x1024 .f32) : View.Piece (Elt Ideal) S1x512x1024 .f32 :=
  ⟨Rect.unit (s := S1x512x1024) ![0, o, 0] ![1, 256, 1024] i, w⟩

theorem canon_hpiece (o : ℕ) (i w L) (r : Fin 256) (d : Fin 1024) (q : Fin 512) (h : q.val = o + r.val) :
    View.canon (hpiece o i w :: L) (ix3 0 q d) = w (ix3 0 r d) := by
  have e : (ix3 (0 : Fin 1) q d : S1x512x1024.Idx) = (Rect.unit (s := S1x512x1024) ![0, o, 0] ![1, 256, 1024] i).emb (ix3 0 r d) := by
    refine funext fun b => Fin.ext ?_
    show ((ix3 (0 : Fin 1) q d : S1x512x1024.Idx) b).val = (![0, o, 0] : Fin 3 → ℕ) b + 1 * ((ix3 (0 : Fin 1) r d : S1x256x1024.Idx) b).val
    fin_cases b <;> simp [ix3, h]
  rw [e]; exact View.canon_cons_emb _ _ _ _

theorem canon_hpiece_lo (o : ℕ) (i w L) (d : Fin 1024) (q : Fin 512) (h : q.val < o) :
    View.canon (hpiece o i w :: L) (ix3 0 q d) = View.canon L (ix3 0 q d) := by
  refine View.canon_cons_of_not_mem _ _ fun hm => ?_
  have := (Rect.mem_set_unit.mp (show _ ∈ (Rect.unit (s := S1x512x1024) ![0, o, 0] ![1, 256, 1024] i).set from hm)) 1
  have h2 : o ≤ q.val := this.1
  omega

theorem out_apply (q : Fin 512) (d : Fin 1024) :
    out0_17 i x0 x1 x2 x3 x4 x5 x6 x7 x8 x9 x10 x11 x12 x13 x14 x15 x16 (ix3 0 q d)
      = outv x0 x1 x2 x3 x4 x5 x6 x7 x8 x9 x10 x11 x12 x13 x14 x15 x16 i q d := by
  unfold out0_17
  by_cases h : q.val < 256
  · refine (canon_hpiece_lo 256 _ _ _ d q h).trans ((canon_hpiece 0 _ _ _ ⟨q.val, h⟩ d q (by simp)).trans ?_)
    rw [pay20_apply]
    refine resid_congr (mid_lo x0 x1 x2 x3 x4 x5 x6 x7 x8 x9 x10 x11 x12 x13 x14 x15 x16 i ⟨q.val, h⟩) (ld_r23 x8) (fun f => ?_) (ld_r24 x16) d
    rw [pay19_apply, pay18_apply, hid_lo, hid_lo]
    rfl
  · have e : ∀ r : Fin 256, q.val = 256 + r.val → (⟨256 + r.val, by omega⟩ : Fin 512) = q := fun r hr => Fin.ext hr.symm
    obtain ⟨r, hr⟩ : ∃ r : Fin 256, q.val = 256 + r.val := ⟨⟨q.val - 256, by omega⟩, by simp; omega⟩
    refine (canon_hpiece 256 _ _ _ r d q hr).trans ?_
    rw [pay21_apply]
    have hm := pay28_apply x0 x1 x2 x3 x4 x5 x6 x7 x8 x9 x10 x11 x12 x13 x14 x15 x16 i r
    rw [e r hr] at hm
    exact resid_congr hm (ld_r23 x8) (fun f => act_congr (fun d => (pay16_apply _ _ _ _ r d).trans
      (modul_congr (fun d => rms_congr hm (ld_r19 x9) d) (ld_r20 x8) (ld_r21 x8) d)) (ld_r22 x15) f) (ld_r24 x16) d

end

end Cert.Kernel3Ideal.Pay
-- ==== Proof.FirstIn.lean ====
/- The blocks that a grid point of the first layer's call after the mixers stages, as entries of the argument arrays. -/
module

public import proofs.«01_k».proof.Proof.Gen.Kernel3Ideal.Value
public import Idealize.ShloMosaic.Lib.Claim
public import Idealize.ShloMosaic.Lib.StableHlo.RunRead
public import Idealize.ShloMosaic.Lib.Pointwise

@[expose] public section

noncomputable section

namespace Cert.Kernel3Ideal.In

open Cert.Kernel3Ideal Cert.Kernel3Ideal.Gen Idealize.ShloMosaic Idealize.ShloMosaic.TcCoe Idealize.SL.Sem

variable (m : (ℓ : Loc nD τ sig) → Buf (Elt Ideal) ℓ)

theorem N_eq : cfg0.N = 64 := N_0

/-- Grid point `t` works on batch `t / 4` … -/
def tb (t : Fin cfg0.N) : Fin 16 := ⟨t.val / 4, by have := lt_of_lt_of_eq t.isLt N_eq; omega⟩
/-- … and on the 512 rows of tile `t % 4`. -/
def tr (t : Fin cfg0.N) (r : Fin 512) : Fin 2048 := ⟨512 * (t.val % 4) + r.val, by omega⟩

theorem coord1 : ∀ t : Fin cfg0.N, (grid0.coords t 1).val = t.val % 4 := (by decide +kernel : ∀ t : Fin grid0.N, _)

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
theorem idx4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)
theorem idx7 : ∀ t : Fin cfg0.N, win0_7.index t (0 : Fin 3) = t.val / 4 ∧ win0_7.index t (1 : Fin 3) = t.val % 4 ∧ win0_7.index t (2 : Fin 3) = 0 :=
  (by decide +kernel : ∀ t : Fin grid0.N, _)
theorem idx8 : ∀ t : Fin cfg0.N, win0_8.index t (0 : Fin 3) = t.val / 4 ∧ win0_8.index t (1 : Fin 3) = 0 ∧ win0_8.index t (2 : Fin 3) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 3) = 0 ∧ win0_11.index t (1 : Fin 3) = 0 ∧ win0_11.index t (2 : Fin 3) = 0 :=
  (by decide +kernel : ∀ t : Fin grid0.N, _)
theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)
theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)
theorem idx14 : ∀ t : Fin cfg0.N, win0_14.index t (0 : Fin 3) = 0 ∧ win0_14.index t (1 : Fin 3) = 0 ∧ win0_14.index t (2 : Fin 3) = 0 :=
  (by decide +kernel : ∀ t : Fin grid0.N, _)
theorem idx15 : ∀ t : Fin cfg0.N, win0_15.index t (0 : Fin 3) = 0 ∧ win0_15.index t (1 : Fin 3) = 0 ∧ win0_15.index t (2 : Fin 3) = 0 :=
  (by decide +kernel : ∀ t : Fin grid0.N, _)
theorem idx16 : ∀ t : Fin cfg0.N, win0_16.index t (0 : Fin 3) = 0 ∧ win0_16.index t (1 : Fin 3) = 0 ∧ win0_16.index t (2 : Fin 3) = 0 :=
  (by decide +kernel : ∀ t : Fin grid0.N, _)
theorem idx17 : ∀ t : Fin cfg0.N, win0_17.index t (0 : Fin 3) = t.val / 4 ∧ win0_17.index t (1 : Fin 3) = t.val % 4 ∧ win0_17.index t (2 : Fin 3) = 0 :=
  (by decide +kernel : ∀ t : Fin grid0.N, _)
theorem idx5 : ∀ t : Fin cfg0.N, win0_5.index t (0 : Fin 3) = t.val / 4 ∧ (0 < t.val % 4 → win0_5.index t (1 : Fin 3) = 64 * (t.val % 4) - 1) ∧ win0_5.index t (2 : Fin 3) = 0 :=
  (by decide +kernel : ∀ t : Fin grid0.N, _)
theorem idx6 : ∀ t : Fin cfg0.N, win0_6.index t (0 : Fin 3) = t.val / 4 ∧ (t.val % 4 < 3 → win0_6.index t (1 : Fin 3) = 64 * (t.val % 4 + 1)) ∧ win0_6.index t (2 : Fin 3) = 0 :=
  (by decide +kernel : ∀ t : Fin grid0.N, _)

theorem emb0 (t : Fin cfg0.N) (r : Fin 512) (d : Fin 1024) : ((cfg0.win 0).blk t).view.emb (ix3 0 r d) = ix3 (tb t) (tr t r) d := by
  obtain ⟨e0, e1, e2⟩ := idx0 t
  funext x; apply Fin.ext
  match x with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 1024 + 1 * d.val = d.val; omega

theorem emb1 (t : Fin cfg0.N) (r : Fin 512) (d : Fin 512) : ((cfg0.win 1).blk t).view.emb (ix3 0 r d) = ix3 (tb t) (tr t r) d := by
  obtain ⟨e0, e1, e2⟩ := idx1 t
  funext x; apply Fin.ext
  match x with
  | ⟨0, _⟩ => show win0_1.index t (0 : Fin 3) * 1 + 1 * 0 = t.val / 4; omega
  | ⟨1, _⟩ => show win0_1.index t (1 : Fin 3) * 512 + 1 * r.val = 512 * (t.val % 4) + r.val; omega
  | ⟨2, _⟩ => show win0_1.index t (2 : Fin 3) * 512 + 1 * d.val = d.val; omega

theorem emb2 (t : Fin cfg0.N) (r : Fin 512) (d : Fin 512) : ((cfg0.win 2).blk t).view.emb (ix3 0 r d) = ix3 (tb t) (tr t r) d := by
  obtain ⟨e0, e1, e2⟩ := idx2 t
  funext x; apply Fin.ext
  match x with
  | ⟨0, _⟩ => show win0_2.index t (0 : Fin 3) * 1 + 1 * 0 = t.val / 4; omega
  | ⟨1, _⟩ => show win0_2.index t (1 : Fin 3) * 512 + 1 * r.val = 512 * (t.val % 4) + r.val; omega
  | ⟨2, _⟩ => show win0_2.index t (2 : Fin 3) * 512 + 1 * d.val = d.val; omega

theorem emb3 (t : Fin cfg0.N) (r : Fin 512) (d : Fin 512) : ((cfg0.win 3).blk t).view.emb (ix3 0 r d) = ix3 (tb t) (tr t r) d := by
  obtain ⟨e0, e1, e2⟩ := idx3 t
  funext x; apply Fin.ext
  match x with
  | ⟨0, _⟩ => show win0_3.index t (0 : Fin 3) * 1 + 1 * 0 = t.val / 4; omega
  | ⟨1, _⟩ => show win0_3.index t (1 : Fin 3) * 512 + 1 * r.val = 512 * (t.val % 4) + r.val; omega
  | ⟨2, _⟩ => show win0_3.index t (2 : Fin 3) * 512 + 1 * d.val = d.val; omega

theorem emb4 (t : Fin cfg0.N) (r : Fin 512) (d : Fin 512) : ((cfg0.win 4).blk t).view.emb (ix3 0 r d) = ix3 (tb t) (tr t r) d := by
  obtain ⟨e0, e1, e2⟩ := idx4 t
  funext x; apply Fin.ext
  match x with
  | ⟨0, _⟩ => show win0_4.index t (0 : Fin 3) * 1 + 1 * 0 = t.val / 4; omega
  | ⟨1, _⟩ => show win0_4.index t (1 : Fin 3) * 512 + 1 * r.val = 512 * (t.val % 4) + r.val; omega
  | ⟨2, _⟩ => show win0_4.index t (2 : Fin 3) * 512 + 1 * d.val = d.val; omega

theorem emb7 (t : Fin cfg0.N) (r : Fin 512) (d : Fin 3072) : ((cfg0.win 7).blk t).view.emb (ix3 0 r d) = ix3 (tb t) (tr t r) d := by
  obtain ⟨e0, e1, e2⟩ := idx7 t
  funext x; apply Fin.ext
  match x with
  | ⟨0, _⟩ => show win0_7.index t (0 : Fin 3) * 1 + 1 * 0 = t.val / 4; omega
  | ⟨1, _⟩ => show win0_7.index t (1 : Fin 3) * 512 + 1 * r.val = 512 * (t.val % 4) + r.val; omega
  | ⟨2, _⟩ => show win0_7.index t (2 : Fin 3) * 3072 + 1 * d.val = d.val; omega

theorem emb8 (t : Fin cfg0.N) (r : Fin 6) (d : Fin 1024) : ((cfg0.win 8).blk t).view.emb (ix3 0 r d) = ix3 (⟨t.val / 4, by have := (tb t).isLt; show t.val / 4 < 24; have : t.val / 4 < 16 := (tb t).isLt; omega⟩ : Fin 24) r d := by
  obtain ⟨e0, e1, e2⟩ := idx8 t
  funext x; apply Fin.ext
  match x with
  | ⟨0, _⟩ => show win0_8.index t (0 : Fin 3) * 1 + 1 * 0 = t.val / 4; omega
  | ⟨1, _⟩ => show win0_8.index t (1 : Fin 3) * 6 + 1 * r.val = r.val; omega
  | ⟨2, _⟩ => show win0_8.index t (2 : Fin 3) * 1024 + 1 * d.val = d.val; omega

theorem emb9 (t : Fin cfg0.N) (r : Fin 1) (d : Fin 1024) : ((cfg0.win 9).blk t).view.emb (ix2 r d) = ix2 r d := by
  obtain ⟨e0, e1⟩ := idx9 t
  funext x; apply Fin.ext
  match x with
  | ⟨0, _⟩ => show win0_9.index t (0 : Fin 2) * 1 + 1 * r.val = r.val; omega
  | ⟨1, _⟩ => show win0_9.index t (1 : Fin 2) * 1024 + 1 * d.val = d.val; omega

theorem emb10 (t : Fin cfg0.N) (r : Fin 3) (d : Fin 512) : ((cfg0.win 10).blk t).view.emb (ix2 r d) = ix2 r d := by
  obtain ⟨e0, e1⟩ := idx10 t
  funext x; apply Fin.ext
  match x with
  | ⟨0, _⟩ => show win0_10.index t (0 : Fin 2) * 3 + 1 * r.val = r.val; omega
  | ⟨1, _⟩ => show win0_10.index t (1 : Fin 2) * 512 + 1 * d.val = d.val; omega

theorem emb11 (t : Fin cfg0.N) (r : Fin 512) (d : Fin 1024) : ((cfg0.win 11).blk t).view.emb (ix3 0 r d) = ix3 0 r d := by
  obtain ⟨e0, e1, e2⟩ := idx11 t
  funext x; apply Fin.ext
  match x with
  | ⟨0, _⟩ => show win0_11.index t (0 : Fin 3) * 1 + 1 * 0 = 0; omega
  | ⟨1, _⟩ => show win0_11.index t (1 : Fin 3) * 512 + 1 * r.val = r.val; omega
  | ⟨2, _⟩ => show win0_11.index t (2 : Fin 3) * 1024 + 1 * d.val = d.val; omega

theorem emb12 (t : Fin cfg0.N) (r : Fin 512) (d : Fin 1024) : ((cfg0.win 12).blk t).view.emb (ix3 0 r d) = ix3 0 r d := by
  obtain ⟨e0, e1, e2⟩ := idx12 t
  funext x; apply Fin.ext
  match x with
  | ⟨0, _⟩ => show win0_12.index t (0 : Fin 3) * 1 + 1 * 0 = 0; omega
  | ⟨1, _⟩ => show win0_12.index t (1 : Fin 3) * 512 + 1 * r.val = r.val; omega
  | ⟨2, _⟩ => show win0_12.index t (2 : Fin 3) * 1024 + 1 * d.val = d.val; omega

theorem emb13 (t : Fin cfg0.N) (r : Fin 512) (d : Fin 1024) : ((cfg0.win 13).blk t).view.emb (ix3 0 r d) = ix3 0 r d := by
  obtain ⟨e0, e1, e2⟩ := idx13 t
  funext x; apply Fin.ext
  match x with
  | ⟨0, _⟩ => show win0_13.index t (0 : Fin 3) * 1 + 1 * 0 = 0; omega
  | ⟨1, _⟩ => show win0_13.index t (1 : Fin 3) * 512 + 1 * r.val = r.val; omega
  | ⟨2, _⟩ => show win0_13.index t (2 : Fin 3) * 1024 + 1 * d.val = d.val; omega

theorem emb14 (t : Fin cfg0.N) (r : Fin 1024) (d : Fin 1024) : ((cfg0.win 14).blk t).view.emb (ix3 0 r d) = ix3 0 r d := by
  obtain ⟨e0, e1, e2⟩ := idx14 t
  funext x; apply Fin.ext
  match x with
  | ⟨0, _⟩ => show win0_14.index t (0 : Fin 3) * 1 + 1 * 0 = 0; omega
  | ⟨1, _⟩ => show win0_14.index t (1 : Fin 3) * 1024 + 1 * r.val = r.val; omega
  | ⟨2, _⟩ => show win0_14.index t (2 : Fin 3) * 1024 + 1 * d.val = d.val; omega

theorem emb15 (t : Fin cfg0.N) (r : Fin 1024) (d : Fin 5632) : ((cfg0.win 15).blk t).view.emb (ix3 0 r d) = ix3 0 r d := by
  obtain ⟨e0, e1, e2⟩ := idx15 t
  funext x; apply Fin.ext
  match x with
  | ⟨0, _⟩ => show win0_15.index t (0 : Fin 3) * 1 + 1 * 0 = 0; omega
  | ⟨1, _⟩ => show win0_15.index t (1 : Fin 3) * 1024 + 1 * r.val = r.val; omega
  | ⟨2, _⟩ => show win0_15.index t (2 : Fin 3) * 5632 + 1 * d.val = d.val; omega

theorem emb16 (t : Fin cfg0.N) (r : Fin 2816) (d : Fin 1024) : ((cfg0.win 16).blk t).view.emb (ix3 0 r d) = ix3 0 r d := by
  obtain ⟨e0, e1, e2⟩ := idx16 t
  funext x; apply Fin.ext
  match x with
  | ⟨0, _⟩ => show win0_16.index t (0 : Fin 3) * 1 + 1 * 0 = 0; omega
  | ⟨1, _⟩ => show win0_16.index t (1 : Fin 3) * 2816 + 1 * r.val = r.val; omega
  | ⟨2, _⟩ => show win0_16.index t (2 : Fin 3) * 1024 + 1 * d.val = d.val; omega

theorem emb17 (t : Fin cfg0.N) (r : Fin 512) (d : Fin 1024) : ((cfg0.win 17).blk t).view.emb (ix3 0 r d) = ix3 (tb t) (tr t r) d := by
  obtain ⟨e0, e1, e2⟩ := idx17 t
  funext x; apply Fin.ext
  match x with
  | ⟨0, _⟩ => show win0_17.index t (0 : Fin 3) * 1 + 1 * 0 = t.val / 4; omega
  | ⟨1, _⟩ => show win0_17.index t (1 : Fin 3) * 512 + 1 * r.val = 512 * (t.val % 4) + r.val; omega
  | ⟨2, _⟩ => show win0_17.index t (2 : Fin 3) * 1024 + 1 * d.val = d.val; omega

theorem emb5 (t : Fin cfg0.N) (h : 0 < t.val % 4) (d : Fin 512) :
    ((cfg0.win 5).blk t).view.emb (ix3 0 7 d) = ix3 (tb t) (⟨512 * (t.val % 4) - 1, by omega⟩ : Fin 2048) d := by
  obtain ⟨e0, e1, e2⟩ := idx5 t
  have e1 := e1 h
  funext x; apply Fin.ext
  match x with
  | ⟨0, _⟩ => show win0_5.index t (0 : Fin 3) * 1 + 1 * 0 = t.val / 4; omega
  | ⟨1, _⟩ => show win0_5.index t (1 : Fin 3) * 8 + 1 * 7 = 512 * (t.val % 4) - 1; omega
  | ⟨2, _⟩ => show win0_5.index t (2 : Fin 3) * 512 + 1 * d.val = d.val; omega

theorem emb6 (t : Fin cfg0.N) (h : t.val % 4 < 3) (d : Fin 512) :
    ((cfg0.win 6).blk t).view.emb (ix3 0 0 d) = ix3 (tb t) (⟨512 * (t.val % 4 + 1), by omega⟩ : Fin 2048) d := by
  obtain ⟨e0, e1, e2⟩ := idx6 t
  have e1 := e1 h
  funext x; apply Fin.ext
  match x with
  | ⟨0, _⟩ => show win0_6.index t (0 : Fin 3) * 1 + 1 * 0 = t.val / 4; omega
  | ⟨1, _⟩ => show win0_6.index t (1 : Fin 3) * 8 + 1 * 0 = 512 * (t.val % 4 + 1); omega
  | ⟨2, _⟩ => show win0_6.index t (2 : Fin 3) * 512 + 1 * d.val = d.val; omega

variable (c : Dev nD) (t : Fin cfg0.N)

theorem blk0 (r : Fin 512) (d : Fin 1024) : iblk m c 0 t (ix3 0 r d) = m ((c : Thread nD τ).loc main_arg0) (ix3 (tb t) (tr t r) d) := by
  show V m c main_arg0 (((cfg0.win 0).blk t).view.emb (ix3 0 r d)) = _
  rw [emb0]
  entry_read
  try rfl

theorem blk1 (r : Fin 512) (d : Fin 512) : iblk m c 1 t (ix3 0 r d) = m ((c : Thread nD τ).loc main_arg1) (ix3 (tb t) (tr t r) d) := by
  show V m c main_v6 (((cfg0.win 1).blk t).view.emb (ix3 0 r d)) = _
  rw [emb1]
  entry_read
  try rfl

theorem blk2 (r : Fin 512) (d : Fin 512) : iblk m c 2 t (ix3 0 r d) = m ((c : Thread nD τ).loc main_arg2) (ix3 (tb t) (tr t r) d) := by
  show V m c main_v7 (((cfg0.win 2).blk t).view.emb (ix3 0 r d)) = _
  rw [emb2]
  entry_read
  try rfl

theorem blk3 (r : Fin 512) (d : Fin 512) : iblk m c 3 t (ix3 0 r d) = m ((c : Thread nD τ).loc main_arg3) (ix3 (tb t) (tr t r) d) := by
  show V m c main_arg3 (((cfg0.win 3).blk t).view.emb (ix3 0 r d)) = _
  rw [emb3]
  entry_read
  try rfl

theorem blk4 (r : Fin 512) (d : Fin 512) : iblk m c 4 t (ix3 0 r d) = m ((c : Thread nD τ).loc main_arg4) (ix3 (tb t) (tr t r) d) := by
  show V m c main_arg4 (((cfg0.win 4).blk t).view.emb (ix3 0 r d)) = _
  rw [emb4]
  entry_read
  try rfl

theorem blk7 (r : Fin 512) (d : Fin 3072) : iblk m c 7 t (ix3 0 r d) = m ((c : Thread nD τ).loc main_arg5) (ix3 (tb t) (tr t r) d) := by
  show V m c main_arg5 (((cfg0.win 7).blk t).view.emb (ix3 0 r d)) = _
  rw [emb7]
  entry_read
  try rfl

theorem blk5 (h : 0 < t.val % 4) (d : Fin 512) : iblk m c 5 t (ix3 0 7 d) = m ((c : Thread nD τ).loc main_arg4) (ix3 (tb t) (⟨512 * (t.val % 4) - 1, by omega⟩ : Fin 2048) d) := by
  show V m c main_arg4 (((cfg0.win 5).blk t).view.emb (ix3 0 7 d)) = _
  rw [emb5 t h]
  entry_read
  try rfl

theorem blk6 (h : t.val % 4 < 3) (d : Fin 512) : iblk m c 6 t (ix3 0 0 d) = m ((c : Thread nD τ).loc main_arg4) (ix3 (tb t) (⟨512 * (t.val % 4 + 1), by omega⟩ : Fin 2048) d) := by
  show V m c main_arg4 (((cfg0.win 6).blk t).view.emb (ix3 0 0 d)) = _
  rw [emb6 t h]
  entry_read
  try rfl

theorem blk11 (r : Fin 512) (d : Fin 1024) : iblk m c 11 t (ix3 0 r d) = m ((c : Thread nD τ).loc main_arg9) (ix3 0 r d) := by
  show V m c main_v0 (((cfg0.win 11).blk t).view.emb (ix3 0 r d)) = _
  rw [emb11]
  entry_read
  try rfl

theorem blk12 (r : Fin 512) (d : Fin 1024) : iblk m c 12 t (ix3 0 r d) = m ((c : Thread nD τ).loc main_arg10) (ix3 0 r d) := by
  show V m c main_v1 (((cfg0.win 12).blk t).view.emb (ix3 0 r d)) = _
  rw [emb12]
  entry_read
  try rfl

theorem blk13 (r : Fin 512) (d : Fin 1024) : iblk m c 13 t (ix3 0 r d) = m ((c : Thread nD τ).loc main_arg11) (ix3 0 r d) := by
  show V m c main_v2 (((cfg0.win 13).blk t).view.emb (ix3 0 r d)) = _
  rw [emb13]
  entry_read
  try rfl

theorem blk14 (r : Fin 1024) (d : Fin 1024) : iblk m c 14 t (ix3 0 r d) = m ((c : Thread nD τ).loc main_arg12) (ix3 0 r d) := by
  show V m c main_v3 (((cfg0.win 14).blk t).view.emb (ix3 0 r d)) = _
  rw [emb14]
  entry_read
  try rfl

theorem blk15 (r : Fin 1024) (d : Fin 5632) : iblk m c 15 t (ix3 0 r d) = m ((c : Thread nD τ).loc main_arg13) (ix3 0 r d) := by
  show V m c main_v4 (((cfg0.win 15).blk t).view.emb (ix3 0 r d)) = _
  rw [emb15]
  entry_read
  try rfl

theorem blk16 (r : Fin 2816) (d : Fin 1024) : iblk m c 16 t (ix3 0 r d) = m ((c : Thread nD τ).loc main_arg14) (ix3 0 r d) := by
  show V m c main_v5 (((cfg0.win 16).blk t).view.emb (ix3 0 r d)) = _
  rw [emb16]
  entry_read
  try rfl

theorem resh8 (x : Vec Ideal S24x6144 .f32) (b : Fin 24) (q : Fin 6) (d : Fin 1024) :
    shapeCast S24x6x1024 x shapeCasts_S24x6144_S24x6x1024 (ix3 b q d) = x (ix2 b ⟨1024 * q.val + d.val, by omega⟩) := by
  pointwise
  refine congrArg x (funext fun a => Fin.ext ?_)
  fin_cases a <;> simp [ix2] <;> omega

theorem blk8 (r : Fin 6) (d : Fin 1024) : iblk m c 8 t (ix3 0 r d) = m ((c : Thread nD τ).loc main_arg6) (ix2 ⟨(tb t).val, by omega⟩ ⟨1024 * r.val + d.val, by omega⟩) := by
  show V m c main_v8 (((cfg0.win 8).blk t).view.emb (ix3 0 r d)) = _
  rw [emb8]
  entry_read
  exact resh8 _ _ r d

theorem row9 (x : Vec Ideal S2x1024 .f32) (d : Fin 1024) :
    shapeCast S1x1024 (shapeCast S1024 (extractStridedSlice S1x1024 ![0, 0] x slices_S2x1024_S1x1024_0_0) shapeCasts_S1x1024_S1024) shapeCasts_S1024_S1x1024
      (ix2 0 d) = x (ix2 0 d) := by
  pointwise
  try rfl

theorem row10 (x : Vec Ideal S2x3x512 .f32) (r : Fin 3) (d : Fin 512) :
    shapeCast S3x512 (extractStridedSlice S1x3x512 ![0, 0, 0] x slices_S2x3x512_S1x3x512_0_0_0) shapeCasts_S1x3x512_S3x512 (ix2 r d) = x (ix3 0 r d) := by
  pointwise
  try rfl

theorem blk9 (d : Fin 1024) : iblk m c 9 t (ix2 0 d) = m ((c : Thread nD τ).loc main_arg7) (ix2 0 d) := by
  show V m c main_v11 (((cfg0.win 9).blk t).view.emb (ix2 0 d)) = _
  rw [emb9]
  entry_read
  exact row9 _ d

theorem blk10 (r : Fin 3) (d : Fin 512) : iblk m c 10 t (ix2 r d) = m ((c : Thread nD τ).loc main_arg8) (ix3 0 r d) := by
  show V m c main_v13 (((cfg0.win 10).blk t).view.emb (ix2 r d)) = _
  rw [emb10]
  entry_read
  exact row10 _ r d

end Cert.Kernel3Ideal.In
-- ==== Proof.FirstRef.lean ====
/- What the reference of the first layer's call after the mixers computes, at an index. -/
module

public import proofs.«01_k».proof.Proof.Gen.Reference3Ideal.Read
public import Idealize.ShloMosaic.Lib.Pointwise
public import proofs.«01_k».proof.Proof.Post

@[expose] public section

noncomputable section

namespace Cert.Reference3Ideal.Ref

open Cert.Reference3Ideal Cert.Reference3Ideal.Gen Cert.Reference3Ideal.Read Idealize.ShloMosaic Idealize.SL.Sem
open Cert.Post

abbrev VI (s : Shape) (e : EltTy) := Vec Ideal s e

section
variable (x0 : VI S16x2048x1024 .f32) (x1 x2 x3 x4 : VI S16x2048x512 .f32) (x5 : VI S16x2048x3072 .f32) (x6 : VI S24x6144 .f32) (x7 : VI S2x1024 .f32)
  (x8 : VI S2x3x512 .f32) (x9 x10 x11 : VI S2x512x1024 .f32) (x12 : VI S2x1024x1024 .f32) (x13 : VI S2x1024x5632 .f32) (x14 : VI S2x2816x1024 .f32) (b : Fin 16) (s : Fin 2048)

/-- One of the six modulation vectors of a batch. -/
def md (q : Fin 6) (d : Fin 1024) : EReal := x6 (ix2 ⟨b.val, by omega⟩ ⟨1024 * q.val + d.val, by omega⟩)

theorem md2_apply (d : Fin 1024) : val_main_v42 (F := Ideal) x6 (ix3 b s d) = md x6 b 2 d := by
  rw [val_main_v42_apply, val_main_v3_apply, val_main_v0_apply]
  refine congrArg x6 (funext fun a => Fin.ext ?_)
  fin_cases a <;> simp [ix3, ix2] <;> omega

theorem md3_apply (d : Fin 1024) : val_main_v64 (F := Ideal) x6 (ix3 b s d) = md x6 b 3 d := by
  rw [val_main_v64_apply, val_main_v4_apply, val_main_v0_apply]
  refine congrArg x6 (funext fun a => Fin.ext ?_)
  fin_cases a <;> simp [ix3, ix2] <;> omega

theorem md4_apply (d : Fin 1024) : val_main_v62 (F := Ideal) x6 (ix3 b s d) = @HAdd.hAdd EReal EReal EReal _ (Ideal.ofBits .f32 0x3F800000#32) (md x6 b 4 d) := by
  rw [val_main_v62_apply, val_main_v61_apply, val_main_v60_apply, val_main_cst_3_apply, val_main_v5_apply, val_main_v0_apply]
  refine congrArg (fun z : EReal => Ideal.ofBits .f32 0x3F800000#32 + z) (congrArg x6 (funext fun a => Fin.ext ?_))
  fin_cases a <;> simp [ix3, ix2] <;> omega

theorem md5_apply (d : Fin 1024) : val_main_v76 (F := Ideal) x6 (ix3 b s d) = md x6 b 5 d := by
  rw [val_main_v76_apply, val_main_v6_apply, val_main_v0_apply]
  refine congrArg x6 (funext fun a => Fin.ext ?_)
  fin_cases a <;> simp [ix3, ix2] <;> omega

theorem tap0_apply (j : Fin 512) : val_main_v12 (F := Ideal) x8 (ix3 b s j) = x8 (ix3 0 0 j) := by
  rw [val_main_v12_apply, val_main_v8_apply]
  refine congrArg x8 (funext fun a => Fin.ext ?_)
  fin_cases a <;> simp [ix3] <;> omega

theorem tap1_apply (j : Fin 512) : val_main_v14 (F := Ideal) x8 (ix3 b s j) = x8 (ix3 0 1 j) := by
  rw [val_main_v14_apply, val_main_v9_apply]
  refine congrArg x8 (funext fun a => Fin.ext ?_)
  fin_cases a <;> simp [ix3] <;> omega

theorem tap2_apply (j : Fin 512) : val_main_v18 (F := Ideal) x8 (ix3 b s j) = x8 (ix3 0 2 j) := by
  rw [val_main_v18_apply, val_main_v10_apply]
  refine congrArg x8 (funext fun a => Fin.ext ?_)
  fin_cases a <;> simp [ix3] <;> omega

theorem ofBits_zero : Ideal.ofBits .f32 0x00000000#32 = (0 : EReal) := by
  simp [Ideal.ofBits, Ideal.ieee]

theorem pad_apply (r : Fin 2050) (j : Fin 512) :
    val_main_v7 (F := Ideal) x4 (ix3 b r j) = if h : 1 ≤ r.val ∧ r.val < 2049 then x4 (ix3 b ⟨r.val - 1, by omega⟩ j) else 0 := by
  unfold val_main_v7
  pointwise
  have e : val_main_cst (F := Ideal) (Shape.Idx.first h_S_) = (0 : EReal) := by
    rw [val_main_cst_apply]
    exact ofBits_zero
  rw [e]
  by_cases h : 1 ≤ r.val ∧ r.val < 2049
  · rw [dif_pos h, dif_pos ⟨h.1, by omega⟩]
  · rw [dif_neg h, dif_neg fun h' => h ⟨h'.1, by omega⟩]

/-- The row before (nothing before the first). -/
def prev (j : Fin 512) : EReal := if h : 0 < s.val then x4 (ix3 b ⟨s.val - 1, by omega⟩ j) else 0
/-- The row after (nothing after the last). -/
def next (j : Fin 512) : EReal := if h : s.val < 2047 then x4 (ix3 b ⟨s.val + 1, by omega⟩ j) else 0

theorem row0_apply (j : Fin 512) : val_main_v11 (F := Ideal) x4 (ix3 b s j) = prev x4 b s j := by
  rw [val_main_v11_apply, show idx_main_v11 (ix3 b s j) = ix3 b (⟨s.val, by omega⟩ : Fin 2050) j from funext fun a => by fin_cases a <;> rfl, pad_apply]
  unfold prev
  by_cases h : 0 < s.val
  · rw [dif_pos h, dif_pos ⟨h, by show s.val < 2049; omega⟩]
  · rw [dif_neg h, dif_neg fun h' => h h'.1]

theorem row2_apply (j : Fin 512) : val_main_v17 (F := Ideal) x4 (ix3 b s j) = next x4 b s j := by
  rw [val_main_v17_apply, show idx_main_v17 (ix3 b s j) = ix3 b (⟨2 + s.val, by omega⟩ : Fin 2050) j from funext fun a => by fin_cases a <;> rfl, pad_apply]
  unfold next
  by_cases h : s.val < 2047
  · rw [dif_pos h, dif_pos ⟨by show 1 ≤ 2 + s.val; omega, by show 2 + s.val < 2049; omega⟩]
    exact congrArg (fun q => x4 (ix3 b q j)) (Fin.ext (by simp; omega))
  · rw [dif_neg h, dif_neg fun h' => h (by have : 2 + s.val < 2049 := h'.2; omega)]

/-- The convolution of one row. -/
def yc : Fin 512 → EReal :=
  conv (fun j => x3 (ix3 b s j)) (prev x4 b s) (fun j => x4 (ix3 b s j)) (next x4 b s) (fun j => x8 (ix3 0 0 j)) (fun j => x8 (ix3 0 1 j)) (fun j => x8 (ix3 0 2 j))

theorem yc_apply (j : Fin 512) : val_main_v21 (F := Ideal) x3 x4 x8 (ix3 b s j) = yc x3 x4 x8 b s j := by
  rw [val_main_v21_apply, val_main_v20_apply, val_main_v16_apply, val_main_v13_apply, val_main_v15_apply, val_main_v19_apply,
    tap0_apply, tap1_apply, tap2_apply, row0_apply, row2_apply]
  rfl

theorem wa_apply (j : Fin 512) (d : Fin 1024) : val_main_v26 (F := Ideal) x9 (ix2 j d) = x9 (ix3 0 j d) := by
  rw [val_main_v26_apply, val_main_v25_apply]
  refine congrArg x9 (funext fun a => Fin.ext ?_)
  fin_cases a <;> simp [ix3, ix2] <;> omega

theorem wb_apply (j : Fin 512) (d : Fin 1024) : val_main_v30 (F := Ideal) x10 (ix2 j d) = x10 (ix3 0 j d) := by
  rw [val_main_v30_apply, val_main_v29_apply]
  refine congrArg x10 (funext fun a => Fin.ext ?_)
  fin_cases a <;> simp [ix3, ix2] <;> omega

theorem wc_apply (j : Fin 512) (d : Fin 1024) : val_main_v35 (F := Ideal) x11 (ix2 j d) = x11 (ix3 0 j d) := by
  rw [val_main_v35_apply, val_main_v34_apply]
  refine congrArg x11 (funext fun a => Fin.ext ?_)
  fin_cases a <;> simp [ix3, ix2] <;> omega

theorem wo_apply (k d : Fin 1024) : val_main_v40 (F := Ideal) x12 (ix2 k d) = x12 (ix3 0 k d) := by
  rw [val_main_v40_apply, val_main_v39_apply]
  refine congrArg x12 (funext fun a => Fin.ext ?_)
  fin_cases a <;> simp [ix3, ix2] <;> omega

theorem wgu_apply (k : Fin 1024) (f : Fin 5632) : val_main_v67 (F := Ideal) x13 (ix2 k f) = x13 (ix3 0 k f) := by
  rw [val_main_v67_apply, val_main_v66_apply]
  refine congrArg x13 (funext fun a => Fin.ext ?_)
  fin_cases a <;> simp [ix3, ix2] <;> omega

theorem wd_apply (f : Fin 2816) (d : Fin 1024) : val_main_v74 (F := Ideal) x14 (ix2 f d) = x14 (ix3 0 f d) := by
  rw [val_main_v74_apply, val_main_v73_apply]
  refine congrArg x14 (funext fun a => Fin.ext ?_)
  fin_cases a <;> simp [ix3, ix2] <;> omega

theorem g2_apply (d : Fin 1024) : val_main_v58 (F := Ideal) x7 (ix3 b s d) = x7 (ix2 0 d) := by
  rw [val_main_v58_apply, val_main_v57_apply, val_main_v46_apply, val_main_v45_apply]
  refine congrArg x7 (funext fun a => Fin.ext ?_)
  fin_cases a <;> simp [ix3, ix2] <;> omega

/-- The merged branches of one row. -/
def mg : Fin 1024 → EReal :=
  merged (fun d => x5 (ix3 b s ⟨d.val, by omega⟩)) (fun d => x5 (ix3 b s ⟨1024 + d.val, by omega⟩)) (fun d => x5 (ix3 b s ⟨2048 + d.val, by omega⟩))
    (fun j => x1 (ix3 b s j)) (fun j => x2 (ix3 b s j)) (yc x3 x4 x8 b s) (fun j d => x9 (ix3 0 j d)) (fun j d => x10 (ix3 0 j d)) (fun j d => x11 (ix3 0 j d))

theorem mg_apply (d : Fin 1024) : val_main_v38 (F := Ideal) x1 x2 x3 x4 x5 x8 x9 x10 x11 (ix3 b s d) = mg x1 x2 x3 x4 x5 x8 x9 x10 x11 b s d := by
  rw [val_main_v38_apply, val_main_v33_apply, val_main_v28_apply, val_main_v32_apply, val_main_v37_apply, val_main_v27_apply, val_main_v31_apply, val_main_v36_apply,
    val_main_v22_apply, val_main_v23_apply, val_main_v24_apply]
  have e0 : idx_main_v22 (ix3 b s d) = ix3 b s (⟨d.val, by omega⟩ : Fin 3072) := funext fun a => by fin_cases a <;> rfl
  have e1 : idx_main_v23 (ix3 b s d) = ix3 b s (⟨1024 + d.val, by omega⟩ : Fin 3072) := funext fun a => by fin_cases a <;> rfl
  have e2 : idx_main_v24 (ix3 b s d) = ix3 b s (⟨2048 + d.val, by omega⟩ : Fin 3072) := funext fun a => by fin_cases a <;> rfl
  have la : ∀ j, lidx_main_v27 (ix3 b s d) j = ix3 b s j := fun j => funext fun a => by fin_cases a <;> rfl
  have lb : ∀ j, lidx_main_v31 (ix3 b s d) j = ix3 b s j := fun j => funext fun a => by fin_cases a <;> rfl
  have lc : ∀ j, lidx_main_v36 (ix3 b s d) j = ix3 b s j := fun j => funext fun a => by fin_cases a <;> rfl
  have ra : ∀ j, ridx_main_v27 (ix3 b s d) j = ix2 j d := fun j => funext fun a => by fin_cases a <;> rfl
  have rb : ∀ j, ridx_main_v31 (ix3 b s d) j = ix2 j d := fun j => funext fun a => by fin_cases a <;> rfl
  have rc : ∀ j, ridx_main_v36 (ix3 b s d) j = ix2 j d := fun j => funext fun a => by fin_cases a <;> rfl
  rw [e0, e1, e2]
  simp only [la, lb, lc, ra, rb, rc, wa_apply, wb_apply, wc_apply, yc_apply]
  rfl

/-- The row after the mixers. -/
def mid : Fin 1024 → EReal :=
  resid (fun d => x0 (ix3 b s d)) (md x6 b 2) (mg x1 x2 x3 x4 x5 x8 x9 x10 x11 b s) (fun k d => x12 (ix3 0 k d))

theorem mid_apply (d : Fin 1024) : val_main_v44 (F := Ideal) x0 x1 x2 x3 x4 x5 x6 x8 x9 x10 x11 x12 (ix3 b s d)
    = mid x0 x1 x2 x3 x4 x5 x6 x8 x9 x10 x11 x12 b s d := by
  rw [val_main_v44_apply, val_main_v43_apply, md2_apply, val_main_v41_apply]
  have la : ∀ j, lidx_main_v41 (ix3 b s d) j = ix3 b s j := fun j => funext fun a => by fin_cases a <;> rfl
  have ra : ∀ j, ridx_main_v41 (ix3 b s d) j = ix2 j d := fun j => funext fun a => by fin_cases a <;> rfl
  simp only [la, ra, wo_apply, mg_apply]
  rfl

theorem ofBits_one : Ideal.ofBits .f32 0x3F800000#32 = (1 : EReal) := by
  simp [Ideal.ofBits, Ideal.ieee, -EReal.coe_mul]
  norm_num

/-- The row before the feed-forward part. -/
def pre : Fin 1024 → EReal :=
  modul (rms (mid x0 x1 x2 x3 x4 x5 x6 x8 x9 x10 x11 x12 b s) (fun d => x7 (ix2 0 d))) (md x6 b 4) (md x6 b 3)

theorem pre_apply (d : Fin 1024) : val_main_v65 (F := Ideal) x0 x1 x2 x3 x4 x5 x6 x7 x8 x9 x10 x11 x12 (ix3 b s d)
    = pre x0 x1 x2 x3 x4 x5 x6 x7 x8 x9 x10 x11 x12 b s d := by
  rw [val_main_v65_apply, val_main_v63_apply, md3_apply, md4_apply, val_main_v59_apply, g2_apply, val_main_v56_apply, val_main_v55_apply, val_main_v54_apply,
    val_main_v53_apply, val_main_v52_apply, val_main_cst_2_apply, val_main_v51_apply, val_main_v50_apply, val_main_cst_1_apply, val_main_v49_apply, val_main_v48_apply,
    val_main_cst_0_apply]
  have e : ∀ k, idx_main_v48 (idx_main_v49 (idx_main_v55 (ix3 b s d))) k = ix3 b s k := fun k => funext fun a => by fin_cases a <;> rfl
  simp only [e, val_main_v47_apply, mid_apply]
  rw [show (FloatOps.ofBits (F := Ideal) .f32 0x00000000#32) = (0 : EReal) from ofBits_zero, zero_add]
  rfl

theorem hid_apply (f : Fin 5632) : val_main_v68 (F := Ideal) x0 x1 x2 x3 x4 x5 x6 x7 x8 x9 x10 x11 x12 x13 (ix3 b s f)
    = hid (pre x0 x1 x2 x3 x4 x5 x6 x7 x8 x9 x10 x11 x12 b s) (fun k f => x13 (ix3 0 k f)) f := by
  rw [val_main_v68_apply]
  have la : ∀ j, lidx_main_v68 (ix3 b s f) j = ix3 b s j := fun j => funext fun a => by fin_cases a <;> rfl
  have ra : ∀ j, ridx_main_v68 (ix3 b s f) j = ix2 j f := fun j => funext fun a => by fin_cases a <;> rfl
  simp only [la, ra, wgu_apply, pre_apply]
  rfl

theorem act_apply (f : Fin 2816) : val_main_v72 (F := Ideal) x0 x1 x2 x3 x4 x5 x6 x7 x8 x9 x10 x11 x12 x13 (ix3 b s f)
    = act (pre x0 x1 x2 x3 x4 x5 x6 x7 x8 x9 x10 x11 x12 b s) (fun k f => x13 (ix3 0 k f)) f := by
  rw [val_main_v72_apply, val_main_v71_apply, val_main_call0_v5_apply, val_main_call0_v4_apply, val_main_call0_v3_apply, val_main_call0_v2_apply,
    val_main_call0_v1_apply, val_main_call0_v0_apply, val_main_call0_cst_apply, val_main_call0_cst_0_apply, val_main_v69_apply, val_main_v70_apply]
  have e0 : idx_main_v69 (ix3 b s f) = ix3 b s (⟨f.val, by omega⟩ : Fin 5632) := funext fun a => by fin_cases a <;> rfl
  have e1 : idx_main_v70 (ix3 b s f) = ix3 b s (⟨2816 + f.val, by omega⟩ : Fin 5632) := funext fun a => by fin_cases a <;> rfl
  rw [e0, e1, hid_apply, hid_apply, show (FloatOps.ofBits (F := Ideal) .f32 0x3F800000#32) = (1 : EReal) from ofBits_one]
  rfl

/-- The reference's result, one row. -/
theorem out_apply (d : Fin 1024) : val_main_v78 (F := Ideal) x0 x1 x2 x3 x4 x5 x6 x7 x8 x9 x10 x11 x12 x13 x14 (ix3 b s d)
    = ffn (mid x0 x1 x2 x3 x4 x5 x6 x8 x9 x10 x11 x12 b s) (fun d => x7 (ix2 0 d)) (md x6 b 3) (md x6 b 4) (md x6 b 5)
        (fun k f => x13 (ix3 0 k f)) (fun f d => x14 (ix3 0 f d)) d := by
  rw [val_main_v78_apply, val_main_v77_apply, md5_apply, val_main_v75_apply, mid_apply]
  have la : ∀ j, lidx_main_v75 (ix3 b s d) j = ix3 b s j := fun j => funext fun a => by fin_cases a <;> rfl
  have ra : ∀ j, ridx_main_v75 (ix3 b s d) j = ix2 j d := fun j => funext fun a => by fin_cases a <;> rfl
  simp only [la, ra, wd_apply, act_apply]
  rfl

end

end Cert.Reference3Ideal.Ref
-- ==== Proof.FirstArr.lean ====
/- The result array of the first layer's call after the mixers is the reference's. -/
module

public import proofs.«01_k».proof.Proof.FirstOut
public import proofs.«01_k».proof.Proof.FirstIn
public import proofs.«01_k».proof.Proof.FirstRef

@[expose] public section

noncomputable section

namespace Cert.Kernel3Ideal.Arr

open Cert.Kernel3Ideal Cert.Kernel3Ideal.Gen Cert.Kernel3Ideal.Value Cert.Kernel3Ideal.Pay Cert.Kernel3Ideal.In
open Idealize.ShloMosaic Idealize.ShloMosaic.TcCoe Idealize.SL.Sem Cert.Post

variable (m : (ℓ : Loc nD τ sig) → Buf (Elt Ideal) ℓ) (c : Dev nD)

abbrev A0 : VI S16x2048x1024 .f32 := m ((c : Thread nD τ).loc main_arg0)
abbrev A1 : VI S16x2048x512 .f32 := m ((c : Thread nD τ).loc main_arg1)
abbrev A2 : VI S16x2048x512 .f32 := m ((c : Thread nD τ).loc main_arg2)
abbrev A3 : VI S16x2048x512 .f32 := m ((c : Thread nD τ).loc main_arg3)
abbrev A4 : VI S16x2048x512 .f32 := m ((c : Thread nD τ).loc main_arg4)
abbrev A5 : VI S16x2048x3072 .f32 := m ((c : Thread nD τ).loc main_arg5)
abbrev A6 : VI S24x6144 .f32 := m ((c : Thread nD τ).loc main_arg6)
abbrev A7 : VI S2x1024 .f32 := m ((c : Thread nD τ).loc main_arg7)
abbrev A8 : VI S2x3x512 .f32 := m ((c : Thread nD τ).loc main_arg8)
abbrev A9 : VI S2x512x1024 .f32 := m ((c : Thread nD τ).loc main_arg9)
abbrev A10 : VI S2x512x1024 .f32 := m ((c : Thread nD τ).loc main_arg10)
abbrev A11 : VI S2x512x1024 .f32 := m ((c : Thread nD τ).loc main_arg11)
abbrev A12 : VI S2x1024x1024 .f32 := m ((c : Thread nD τ).loc main_arg12)
abbrev A13 : VI S2x1024x5632 .f32 := m ((c : Thread nD τ).loc main_arg13)
abbrev A14 : VI S2x2816x1024 .f32 := m ((c : Thread nD τ).loc main_arg14)

/-- The reference's function of the argument arrays. -/
def G : VI S16x2048x1024 .f32 :=
  Cert.Reference3Ideal.Read.val_main_v78 (F := Ideal) (A0 m c) (A1 m c) (A2 m c) (A3 m c) (A4 m c) (A5 m c) (A6 m c) (A7 m c) (A8 m c) (A9 m c) (A10 m c)
    (A11 m c) (A12 m c) (A13 m c) (A14 m c)

variable (t : Fin cfg0.N)

/-- The convolution of one row: the row before the tile's first is the last of the tile before, and so at the end. -/
theorem yc_eq (r : Fin 512) (j : Fin 512) :
    yc (iblk m c 3 t) (iblk m c 4 t) (iblk m c 5 t) (iblk m c 6 t) (iblk m c 10 t) (grid0.coords t) r j
      = Cert.Reference3Ideal.Ref.yc (A3 m c) (A4 m c) (A8 m c) (tb t) (tr t r) j := by
  refine conv_congr (fun j => blk3 m c t r j) (fun j => ?_) (fun j => blk4 m c t r j) (fun j => ?_) (fun j => blk10 m c t 0 j) (fun j => blk10 m c t 1 j)
    (fun j => blk10 m c t 2 j) j
  · rw [coord1]
    unfold Cert.Reference3Ideal.Ref.prev
    by_cases h0 : r.val = 0
    · rw [if_pos h0]
      by_cases ht : 0 < t.val % 4
      · rw [if_pos ht, dif_pos (by show 0 < 512 * (t.val % 4) + r.val; omega)]
        refine (blk5 m c t ht j).trans (congrArg (fun q => A4 m c (ix3 (tb t) q j)) (Fin.ext ?_))
        show 512 * (t.val % 4) - 1 = 512 * (t.val % 4) + r.val - 1
        omega
      · rw [if_neg ht, dif_neg (by show ¬ 0 < 512 * (t.val % 4) + r.val; omega)]
    · rw [if_neg h0, dif_pos (by show 0 < 512 * (t.val % 4) + r.val; omega)]
      refine (blk4 m c t _ j).trans (congrArg (fun q => A4 m c (ix3 (tb t) q j)) (Fin.ext ?_))
      show 512 * (t.val % 4) + (r.val - 1) = 512 * (t.val % 4) + r.val - 1
      omega
  · rw [coord1]
    unfold Cert.Reference3Ideal.Ref.next
    by_cases h0 : r.val < 511
    · rw [dif_pos h0, dif_pos (by show 512 * (t.val % 4) + r.val < 2047; omega)]
      refine (blk4 m c t _ j).trans (congrArg (fun q => A4 m c (ix3 (tb t) q j)) (Fin.ext ?_))
      show 512 * (t.val % 4) + (r.val + 1) = 512 * (t.val % 4) + r.val + 1
      omega
    · rw [dif_neg h0]
      by_cases ht : t.val % 4 < 3
      · rw [if_pos ht, dif_pos (by show 512 * (t.val % 4) + r.val < 2047; omega)]
        refine (blk6 m c t ht j).trans (congrArg (fun q => A4 m c (ix3 (tb t) q j)) (Fin.ext ?_))
        show 512 * (t.val % 4 + 1) = 512 * (t.val % 4) + r.val + 1
        omega
      · rw [if_neg ht, dif_neg (by show ¬ 512 * (t.val % 4) + r.val < 2047; omega)]

theorem mid_eq (r : Fin 512) (d : Fin 1024) :
    mid (iblk m c 0 t) (iblk m c 1 t) (iblk m c 2 t) (iblk m c 3 t) (iblk m c 4 t) (iblk m c 5 t) (iblk m c 6 t) (iblk m c 7 t) (iblk m c 8 t) (iblk m c 10 t)
        (iblk m c 11 t) (iblk m c 12 t) (iblk m c 13 t) (iblk m c 14 t) (grid0.coords t) r d
      = Cert.Reference3Ideal.Ref.mid (A0 m c) (A1 m c) (A2 m c) (A3 m c) (A4 m c) (A5 m c) (A6 m c) (A8 m c) (A9 m c) (A10 m c) (A11 m c) (A12 m c)
          (tb t) (tr t r) d :=
  resid_congr (fun d => blk0 m c t r d) (fun d => blk8 m c t 2 d)
    (fun k => merged_congr (fun d => blk7 m c t r _) (fun d => blk7 m c t r _) (fun d => blk7 m c t r _) (fun j => blk1 m c t r j) (fun j => blk2 m c t r j)
      (fun j => yc_eq m c t r j) (fun j d => blk11 m c t j d) (fun j d => blk12 m c t j d) (fun j d => blk13 m c t j d) k)
    (fun k d => blk14 m c t k d) d

theorem outv_eq (r : Fin 512) (d : Fin 1024) :
    outv (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (iblk m c 15 t) (iblk m c 16 t) (grid0.coords t) r d
      = G m c (ix3 (tb t) (tr t r) d) := by
  unfold G
  rw [Cert.Reference3Ideal.Ref.out_apply]
  exact ffn_congr (fun d => mid_eq m c t r d) (fun d => blk9 m c t d) (fun d => blk8 m c t 3 d) (fun d => blk8 m c t 4 d) (fun d => blk8 m c t 5 d)
    (fun k f => blk15 m c t k f) (fun f d => blk16 m c t f d) d

/-- What a grid point writes back is its block of the reference's array. -/
theorem flushed_eq : (dats m 0 c).flushed 17 t = ((cfg0.win 17).blk t).view.read (Elt Ideal) (G m c) := by
  rw [flushed17]
  funext j
  obtain ⟨r, k, rfl⟩ : ∃ (r : Fin 512) (k : Fin 1024), j = ix3 0 r k := by
    refine ⟨j 1, j 2, funext fun a => ?_⟩
    match a with
    | ⟨0, _⟩ => exact Subsingleton.elim (α := Fin 1) _ _
    | ⟨1, _⟩ => rfl
    | ⟨2, _⟩ => rfl
  show out0_17 (F := Ideal) (grid0.coords t) _ _ _ _ _ _ _ _ _ _ _ _ _ _ _ _ _ (ix3 0 r k) = G m c (((cfg0.win 17).blk t).view.emb (ix3 0 r k))
  rw [emb17, out_apply]
  exact outv_eq m c t r k

/-- Every index of the result is in some point's block. -/
theorem covered (i : S16x2048x1024.Idx) : ∃ t : Fin cfg0.N, (cfg0.win 17).flush t = true ∧ i ∈ ((cfg0.win 17).blk t).view.set := by
  have h0 : (i 0).val < 16 := (i 0).isLt
  have h1 : (i 1).val < 2048 := (i 1).isLt
  refine ⟨⟨4 * (i 0).val + (i 1).val / 512, by rw [N_eq]; omega⟩, flush0_17 _, ?_⟩
  generalize ht : (⟨4 * (i 0).val + (i 1).val / 512, _⟩ : Fin cfg0.N) = t
  have hv : t.val = 4 * (i 0).val + (i 1).val / 512 := by rw [← ht]
  have h := ((cfg0.win 17).blk t).view.emb_mem_set (ix3 0 (⟨(i 1).val % 512, by omega⟩ : Fin 512) (⟨(i 2).val, (i 2).isLt⟩ : Fin 1024))
  rw [emb17] at h
  have e : i = ix3 (tb t) (tr t ⟨(i 1).val % 512, by omega⟩) (⟨(i 2).val, (i 2).isLt⟩ : Fin 1024) := by
    funext a
    apply Fin.ext
    match a with
    | ⟨0, _⟩ => show (i 0).val = t.val / 4; omega
    | ⟨1, _⟩ => show (i 1).val = 512 * (t.val % 4) + (i 1).val % 512; omega
    | ⟨2, _⟩ => rfl
  rw [e]
  exact h

/-- The result array after the run. -/
theorem final : (dats m 0 c).arrAt 17 cfg0.N = G m c :=
  (dats m 0 c).arrAt_eq_of_cover 17 (G m c) (fun t _ => flushed_eq m c t) covered

end Cert.Kernel3Ideal.Arr
-- ==== Proof.ProjPay.lean ====
/- The stored values of the input projection, at an index. -/
module

public import proofs.«01_k».proof.Proof.Gen.Kernel4Ideal.Skeleton
public import proofs.«01_k».proof.Proof.Post
public import Idealize.ShloMosaic.Lib.Pointwise

@[expose] public section

noncomputable section

namespace Cert.Kernel4Ideal.Pay

open Cert.Kernel4Ideal Cert.Kernel4Ideal.Gen Idealize.ShloMosaic Idealize.SL.Sem Cert.Post

abbrev VI (s : Shape) (e : EltTy) := Vec Ideal s e

/-- The first 256 rows, normed, scaled and shifted. -/
theorem pay3_apply (x : VI S1x256x1024 .f32) (g : VI S1x1024 .f32) (m1 m0 : VI S1x1x1024 .f32) (r : Fin 256) (d : Fin 1024) :
    k0_pay3 x g m1 m0 (ix2 r d)
      = modul (rms (fun d => x (ix3 0 r d)) (fun d => g (ix2 0 d))) (fun d => m1 (ix3 0 0 d)) (fun d => m0 (ix3 0 0 d)) d := by
  unfold k0_pay3 modul rms
  pointwise
  try rfl

theorem pay4_apply (x : VI S1x256x1024 .f32) (r : Fin 256) (d : Fin 1024) : k0_pay4 x (ix2 r d) = x (ix3 0 r d) := by
  unfold k0_pay4
  pointwise
  try rfl

/-- The last 256 rows. -/
theorem pay6_apply (x : VI S1x256x1024 .f32) (g : VI S1x1024 .f32) (m1 m0 : VI S1x1x1024 .f32) (r : Fin 256) (d : Fin 1024) :
    k0_pay6 (k0_pay4 x) (k0_pay5 x) (Scalar.ofBits .f32 0x44800000#32) g m1 m0 (ix2 r d)
      = modul (rms (fun d => x (ix3 0 r d)) (fun d => g (ix2 0 d))) (fun d => m1 (ix3 0 0 d)) (fun d => m0 (ix3 0 0 d)) d := by
  unfold k0_pay6 k0_pay5 modul rms
  pointwise
  simp only [pay4_apply]
  try rfl

/-- One column of the projection of one row. -/
def dotc (h w : Fin 1024 → EReal) : EReal := ∑ k, h k * w k

theorem dotc_congr {h w h' w' : Fin 1024 → EReal} (h1 : ∀ k, h k = h' k) (h2 : ∀ k, w k = w' k) : dotc h w = dotc h' w' := by
  rw [funext h1, funext h2]

theorem pay98_apply (a : VI S256x1024 .bf16) (w : VI S1x1024x1536 .bf16) (r : Fin 256) (j : Fin 512) :
    k0_pay98 a w (ix3 0 r j) = dotc (fun k => a (ix2 r k)) (fun k => w (ix3 0 k ⟨j.val, by omega⟩)) := by
  unfold k0_pay98 k0_pay97 dotc
  pointwise
  try rfl

theorem pay99_apply (a : VI S256x1024 .bf16) (w : VI S1x1024x1536 .bf16) (r : Fin 256) (j : Fin 512) :
    k0_pay99 a w (ix3 0 r j) = dotc (fun k => a (ix2 r k)) (fun k => w (ix3 0 k ⟨512 + j.val, by omega⟩))
      * dotc (fun k => a (ix2 r k)) (fun k => w (ix3 0 k ⟨1024 + j.val, by omega⟩)) := by
  unfold k0_pay99 k0_pay97 dotc
  pointwise
  try rfl

theorem pay101_apply (a : VI S256x1024 .bf16) (w : VI S1x1024x1536 .bf16) (r : Fin 256) (j : Fin 512) :
    k0_pay101 a w (ix3 0 r j) = dotc (fun k => a (ix2 r k)) (fun k => w (ix3 0 k ⟨j.val, by omega⟩)) := by
  unfold k0_pay101 k0_pay100 dotc
  pointwise
  try rfl

theorem pay102_apply (a : VI S256x1024 .bf16) (w : VI S1x1024x1536 .bf16) (r : Fin 256) (j : Fin 512) :
    k0_pay102 a w (ix3 0 r j) = dotc (fun k => a (ix2 r k)) (fun k => w (ix3 0 k ⟨512 + j.val, by omega⟩))
      * dotc (fun k => a (ix2 r k)) (fun k => w (ix3 0 k ⟨1024 + j.val, by omega⟩)) := by
  unfold k0_pay102 k0_pay100 dotc
  pointwise
  try rfl

theorem pay104_apply (a : VI S256x1024 .bf16) (w : VI S1x1024x1024 .bf16) (r : Fin 256) (j : Fin 1024) :
    k0_pay104 a (k0_pay103 w) (ix3 0 r j) = Ideal.logistic (dotc (fun k => a (ix2 r k)) (fun k => w (ix3 0 k j))) := by
  unfold k0_pay104 k0_pay103 dotc
  pointwise
  try rfl

theorem pay105_apply (a : VI S256x1024 .bf16) (w : VI S1x1024x1024 .bf16) (r : Fin 256) (j : Fin 1024) :
    k0_pay105 a w (ix3 0 r j) = Ideal.logistic (dotc (fun k => a (ix2 r k)) (fun k => w (ix3 0 k j))) := by
  unfold k0_pay105 dotc
  pointwise
  try rfl

theorem pay106_apply (a : VI S256x1024 .bf16) (w : VI S1x1024x1024 .bf16) (r : Fin 256) (j : Fin 1024) :
    k0_pay106 a w (ix3 0 r j) = Ideal.logistic (dotc (fun k => a (ix2 r k)) (fun k => w (ix3 0 k j))) := by
  unfold k0_pay106 dotc
  pointwise
  try rfl

theorem pay108_apply (a : VI S256x1024 .bf16) (w : VI S1x1024x1024 .bf16) (r : Fin 256) (j : Fin 1024) :
    k0_pay108 (k0_pay107 a w) (ix3 0 r j) = Ideal.logistic (dotc (fun k => a (ix2 r k)) (fun k => w (ix3 0 k j))) := by
  unfold k0_pay108 k0_pay107 dotc
  pointwise
  try rfl

theorem pay109_apply (a : VI S256x1024 .bf16) (w : VI S1x1024x1024 .bf16) (r : Fin 256) (j : Fin 1024) :
    k0_pay109 a w (ix3 0 r j) = Ideal.logistic (dotc (fun k => a (ix2 r k)) (fun k => w (ix3 0 k j))) := by
  unfold k0_pay109 dotc
  pointwise
  try rfl

theorem pay110_apply (a : VI S256x1024 .bf16) (w : VI S1x1024x1024 .bf16) (r : Fin 256) (j : Fin 1024) :
    k0_pay110 a w (ix3 0 r j) = Ideal.logistic (dotc (fun k => a (ix2 r k)) (fun k => w (ix3 0 k j))) := by
  unfold k0_pay110 dotc
  pointwise
  try rfl

theorem pay112_apply (a : VI S256x1024 .bf16) (w : VI S1x1024x512 .bf16) (r : Fin 256) (j : Fin 128) :
    k0_pay112 a w (ix4 0 0 r j) = dotc (fun k => a (ix2 r k)) (fun k => w (ix3 0 k ⟨j.val, by omega⟩)) := by
  unfold k0_pay112 k0_pay111 dotc
  pointwise
  try rfl

theorem pay113_apply (a : VI S256x1024 .bf16) (w : VI S1x1024x512 .bf16) (r : Fin 256) (j : Fin 128) :
    k0_pay113 (k0_pay111 a w) (ix4 0 0 r j) = dotc (fun k => a (ix2 r k)) (fun k => w (ix3 0 k ⟨128 + j.val, by omega⟩)) := by
  unfold k0_pay113 k0_pay111 dotc
  pointwise
  try rfl

theorem pay114_apply (a : VI S256x1024 .bf16) (w : VI S1x1024x512 .bf16) (r : Fin 256) (j : Fin 128) :
    k0_pay114 (k0_pay111 a w) (ix4 0 0 r j) = dotc (fun k => a (ix2 r k)) (fun k => w (ix3 0 k ⟨256 + j.val, by omega⟩)) := by
  unfold k0_pay114 k0_pay111 dotc
  pointwise
  try rfl

theorem pay115_apply (a : VI S256x1024 .bf16) (w : VI S1x1024x512 .bf16) (r : Fin 256) (j : Fin 128) :
    k0_pay115 (k0_pay111 a w) (ix4 0 0 r j) = dotc (fun k => a (ix2 r k)) (fun k => w (ix3 0 k ⟨384 + j.val, by omega⟩)) := by
  unfold k0_pay115 k0_pay111 dotc
  pointwise
  try rfl

theorem pay117_apply (a : VI S256x1024 .bf16) (w : VI S1x1024x512 .bf16) (r : Fin 256) (j : Fin 128) :
    k0_pay117 a w (ix4 0 0 r j) = dotc (fun k => a (ix2 r k)) (fun k => w (ix3 0 k ⟨j.val, by omega⟩)) := by
  unfold k0_pay117 k0_pay116 dotc
  pointwise
  try rfl

theorem pay118_apply (a : VI S256x1024 .bf16) (w : VI S1x1024x512 .bf16) (r : Fin 256) (j : Fin 128) :
    k0_pay118 a w (ix4 0 0 r j) = dotc (fun k => a (ix2 r k)) (fun k => w (ix3 0 k ⟨128 + j.val, by omega⟩)) := by
  unfold k0_pay118 k0_pay116 dotc
  pointwise
  try rfl

theorem pay1_apply (a : VI S256x1024 .bf16) (w : VI S1x1024x512 .bf16) (r : Fin 256) (j : Fin 128) :
    k0_pay1 (k0_pay116 a w) (ix4 0 0 r j) = dotc (fun k => a (ix2 r k)) (fun k => w (ix3 0 k ⟨256 + j.val, by omega⟩)) := by
  unfold k0_pay1 k0_pay116 dotc
  pointwise
  try rfl

theorem pay2_apply (a : VI S256x1024 .bf16) (w : VI S1x1024x512 .bf16) (r : Fin 256) (j : Fin 128) :
    k0_pay2 (k0_pay116 a w) (ix4 0 0 r j) = dotc (fun k => a (ix2 r k)) (fun k => w (ix3 0 k ⟨384 + j.val, by omega⟩)) := by
  unfold k0_pay2 k0_pay116 dotc
  pointwise
  try rfl

end Cert.Kernel4Ideal.Pay
-- ==== Proof.ProjOut.lean ====
/- What one grid point of the input projection leaves in its output blocks, at an index. -/
module

public import proofs.«01_k».proof.Proof.ProjPay
public import proofs.«01_k».proof.Proof.Gen.Kernel4Ideal.Frame

@[expose] public section

noncomputable section

namespace Cert.Kernel4Ideal.Pay

open Cert.Kernel4Ideal Cert.Kernel4Ideal.Gen Idealize.ShloMosaic Idealize.SL.Sem Cert.Post

/-! ## Loads and stores -/

theorem ld3 {e : EltTy} {n0 n1 n2 m0 m1 m2 : ℕ} (x : VI ⟨3, ![n0, n1, n2]⟩ e) (o0 o1 o2 : ℕ)
    (i : ∀ a : Fin 3, (![o0, o1, o2] : Fin 3 → ℕ) a + (![m0, m1, m2] : Fin 3 → ℕ) a ≤ (⟨3, ![n0, n1, n2]⟩ : Shape).size a)
    (a : Fin m0) (b : Fin m1) (d : Fin m2) (a' : Fin n0) (b' : Fin n1) (d' : Fin n2) (ha : a'.val = o0 + a.val) (hb : b'.val = o1 + b.val)
    (hd : d'.val = o2 + d.val) :
    View.ld x (Rect.unit (s := ⟨3, ![n0, n1, n2]⟩) ![o0, o1, o2] ![m0, m1, m2] i) (ix3 a b d) = x (ix3 a' b' d') := by
  unfold View.ld
  congr 1
  refine funext fun y => Fin.ext ?_
  match y with
  | ⟨0, _⟩ => show o0 + 1 * a.val = a'.val; omega
  | ⟨1, _⟩ => show o1 + 1 * b.val = b'.val; omega
  | ⟨2, _⟩ => show o2 + 1 * d.val = d'.val; omega

theorem ld2 {e : EltTy} {n0 n1 m0 m1 : ℕ} (x : VI ⟨2, ![n0, n1]⟩ e) (o0 o1 : ℕ)
    (i : ∀ a : Fin 2, (![o0, o1] : Fin 2 → ℕ) a + (![m0, m1] : Fin 2 → ℕ) a ≤ (⟨2, ![n0, n1]⟩ : Shape).size a)
    (a : Fin m0) (b : Fin m1) (a' : Fin n0) (b' : Fin n1) (ha : a'.val = o0 + a.val) (hb : b'.val = o1 + b.val) :
    View.ld x (Rect.unit (s := ⟨2, ![n0, n1]⟩) ![o0, o1] ![m0, m1] i) (ix2 a b) = x (ix2 a' b') := by
  unfold View.ld
  congr 1
  refine funext fun y => Fin.ext ?_
  match y with
  | ⟨0, _⟩ => show o0 + 1 * a.val = a'.val; omega
  | ⟨1, _⟩ => show o1 + 1 * b.val = b'.val; omega

theorem canon2 {e : EltTy} {n0 n1 m0 m1 : ℕ} (o0 o1 : ℕ)
    (i : ∀ a : Fin 2, (![o0, o1] : Fin 2 → ℕ) a + (![m0, m1] : Fin 2 → ℕ) a ≤ (⟨2, ![n0, n1]⟩ : Shape).size a)
    (w : VI ⟨2, ![m0, m1]⟩ e) (L : List (View.Piece (Elt Ideal) ⟨2, ![n0, n1]⟩ e)) (a : Fin m0) (b : Fin m1) (a' : Fin n0) (b' : Fin n1) (ha : a'.val = o0 + a.val) (hb : b'.val = o1 + b.val) :
    View.canon ((⟨Rect.unit (s := ⟨2, ![n0, n1]⟩) ![o0, o1] ![m0, m1] i, w⟩ : View.Piece (Elt Ideal) ⟨2, ![n0, n1]⟩ e) :: L) (ix2 a' b') = w (ix2 a b) := by
  have e1 : (ix2 a' b' : (⟨2, ![n0, n1]⟩ : Shape).Idx) = (Rect.unit (s := ⟨2, ![n0, n1]⟩) ![o0, o1] ![m0, m1] i).emb (ix2 a b) := by
    refine funext fun y => Fin.ext ?_
    match y with
    | ⟨0, _⟩ => show a'.val = o0 + 1 * a.val; omega
    | ⟨1, _⟩ => show b'.val = o1 + 1 * b.val; omega
  rw [e1]; exact View.canon_cons_emb _ _ _ _

theorem skip2 {e : EltTy} {n0 n1 m0 m1 : ℕ} (o0 o1 : ℕ)
    (i : ∀ a : Fin 2, (![o0, o1] : Fin 2 → ℕ) a + (![m0, m1] : Fin 2 → ℕ) a ≤ (⟨2, ![n0, n1]⟩ : Shape).size a)
    (w : VI ⟨2, ![m0, m1]⟩ e) (L : List (View.Piece (Elt Ideal) ⟨2, ![n0, n1]⟩ e)) (a' : Fin n0) (b' : Fin n1)
    (h : a'.val < o0 ∨ o0 + m0 ≤ a'.val ∨ b'.val < o1 ∨ o1 + m1 ≤ b'.val) :
    View.canon ((⟨Rect.unit (s := ⟨2, ![n0, n1]⟩) ![o0, o1] ![m0, m1] i, w⟩ : View.Piece (Elt Ideal) ⟨2, ![n0, n1]⟩ e) :: L) (ix2 a' b') = View.canon L (ix2 a' b') := by
  refine View.canon_cons_of_not_mem _ _ fun hm => ?_
  have q := Rect.mem_set_unit.mp (show _ ∈ (Rect.unit (s := ⟨2, ![n0, n1]⟩) ![o0, o1] ![m0, m1] i).set from hm)
  have q0 : o0 ≤ a'.val ∧ a'.val < o0 + m0 := q 0
  have q1 : o1 ≤ b'.val ∧ b'.val < o1 + m1 := q 1
  omega

theorem canon3 {e : EltTy} {n0 n1 n2 m0 m1 m2 : ℕ} (o0 o1 o2 : ℕ)
    (i : ∀ a : Fin 3, (![o0, o1, o2] : Fin 3 → ℕ) a + (![m0, m1, m2] : Fin 3 → ℕ) a ≤ (⟨3, ![n0, n1, n2]⟩ : Shape).size a)
    (w : VI ⟨3, ![m0, m1, m2]⟩ e) (L : List (View.Piece (Elt Ideal) ⟨3, ![n0, n1, n2]⟩ e)) (a : Fin m0) (b : Fin m1) (d : Fin m2) (a' : Fin n0) (b' : Fin n1) (d' : Fin n2) (ha : a'.val = o0 + a.val) (hb : b'.val = o1 + b.val) (hd : d'.val = o2 + d.val) :
    View.canon ((⟨Rect.unit (s := ⟨3, ![n0, n1, n2]⟩) ![o0, o1, o2] ![m0, m1, m2] i, w⟩ : View.Piece (Elt Ideal) ⟨3, ![n0, n1, n2]⟩ e) :: L) (ix3 a' b' d') = w (ix3 a b d) := by
  have e1 : (ix3 a' b' d' : (⟨3, ![n0, n1, n2]⟩ : Shape).Idx) = (Rect.unit (s := ⟨3, ![n0, n1, n2]⟩) ![o0, o1, o2] ![m0, m1, m2] i).emb (ix3 a b d) := by
    refine funext fun y => Fin.ext ?_
    match y with
    | ⟨0, _⟩ => show a'.val = o0 + 1 * a.val; omega
    | ⟨1, _⟩ => show b'.val = o1 + 1 * b.val; omega
    | ⟨2, _⟩ => show d'.val = o2 + 1 * d.val; omega
  rw [e1]; exact View.canon_cons_emb _ _ _ _

theorem skip3 {e : EltTy} {n0 n1 n2 m0 m1 m2 : ℕ} (o0 o1 o2 : ℕ)
    (i : ∀ a : Fin 3, (![o0, o1, o2] : Fin 3 → ℕ) a + (![m0, m1, m2] : Fin 3 → ℕ) a ≤ (⟨3, ![n0, n1, n2]⟩ : Shape).size a)
    (w : VI ⟨3, ![m0, m1, m2]⟩ e) (L : List (View.Piece (Elt Ideal) ⟨3, ![n0, n1, n2]⟩ e)) (a' : Fin n0) (b' : Fin n1) (d' : Fin n2)
    (h : a'.val < o0 ∨ o0 + m0 ≤ a'.val ∨ b'.val < o1 ∨ o1 + m1 ≤ b'.val ∨ d'.val < o2 ∨ o2 + m2 ≤ d'.val) :
    View.canon ((⟨Rect.unit (s := ⟨3, ![n0, n1, n2]⟩) ![o0, o1, o2] ![m0, m1, m2] i, w⟩ : View.Piece (Elt Ideal) ⟨3, ![n0, n1, n2]⟩ e) :: L) (ix3 a' b' d') = View.canon L (ix3 a' b' d') := by
  refine View.canon_cons_of_not_mem _ _ fun hm => ?_
  have q := Rect.mem_set_unit.mp (show _ ∈ (Rect.unit (s := ⟨3, ![n0, n1, n2]⟩) ![o0, o1, o2] ![m0, m1, m2] i).set from hm)
  have q0 : o0 ≤ a'.val ∧ a'.val < o0 + m0 := q 0
  have q1 : o1 ≤ b'.val ∧ b'.val < o1 + m1 := q 1
  have q2 : o2 ≤ d'.val ∧ d'.val < o2 + m2 := q 2
  omega

theorem canon4 {e : EltTy} {n0 n1 n2 n3 m0 m1 m2 m3 : ℕ} (o0 o1 o2 o3 : ℕ)
    (i : ∀ a : Fin 4, (![o0, o1, o2, o3] : Fin 4 → ℕ) a + (![m0, m1, m2, m3] : Fin 4 → ℕ) a ≤ (⟨4, ![n0, n1, n2, n3]⟩ : Shape).size a)
    (w : VI ⟨4, ![m0, m1, m2, m3]⟩ e) (L : List (View.Piece (Elt Ideal) ⟨4, ![n0, n1, n2, n3]⟩ e)) (a : Fin m0) (b : Fin m1) (d : Fin m2) (g : Fin m3) (a' : Fin n0) (b' : Fin n1) (d' : Fin n2) (g' : Fin n3) (ha : a'.val = o0 + a.val) (hb : b'.val = o1 + b.val) (hd : d'.val = o2 + d.val) (hg : g'.val = o3 + g.val) :
    View.canon ((⟨Rect.unit (s := ⟨4, ![n0, n1, n2, n3]⟩) ![o0, o1, o2, o3] ![m0, m1, m2, m3] i, w⟩ : View.Piece (Elt Ideal) ⟨4, ![n0, n1, n2, n3]⟩ e) :: L) (ix4 a' b' d' g') = w (ix4 a b d g) := by
  have e1 : (ix4 a' b' d' g' : (⟨4, ![n0, n1, n2, n3]⟩ : Shape).Idx) = (Rect.unit (s := ⟨4, ![n0, n1, n2, n3]⟩) ![o0, o1, o2, o3] ![m0, m1, m2, m3] i).emb (ix4 a b d g) := by
    refine funext fun y => Fin.ext ?_
    match y with
    | ⟨0, _⟩ => show a'.val = o0 + 1 * a.val; omega
    | ⟨1, _⟩ => show b'.val = o1 + 1 * b.val; omega
    | ⟨2, _⟩ => show d'.val = o2 + 1 * d.val; omega
    | ⟨3, _⟩ => show g'.val = o3 + 1 * g.val; omega
  rw [e1]; exact View.canon_cons_emb _ _ _ _

theorem skip4 {e : EltTy} {n0 n1 n2 n3 m0 m1 m2 m3 : ℕ} (o0 o1 o2 o3 : ℕ)
    (i : ∀ a : Fin 4, (![o0, o1, o2, o3] : Fin 4 → ℕ) a + (![m0, m1, m2, m3] : Fin 4 → ℕ) a ≤ (⟨4, ![n0, n1, n2, n3]⟩ : Shape).size a)
    (w : VI ⟨4, ![m0, m1, m2, m3]⟩ e) (L : List (View.Piece (Elt Ideal) ⟨4, ![n0, n1, n2, n3]⟩ e)) (a' : Fin n0) (b' : Fin n1) (d' : Fin n2) (g' : Fin n3)
    (h : a'.val < o0 ∨ o0 + m0 ≤ a'.val ∨ b'.val < o1 ∨ o1 + m1 ≤ b'.val ∨ d'.val < o2 ∨ o2 + m2 ≤ d'.val ∨ g'.val < o3 ∨ o3 + m3 ≤ g'.val) :
    View.canon ((⟨Rect.unit (s := ⟨4, ![n0, n1, n2, n3]⟩) ![o0, o1, o2, o3] ![m0, m1, m2, m3] i, w⟩ : View.Piece (Elt Ideal) ⟨4, ![n0, n1, n2, n3]⟩ e) :: L) (ix4 a' b' d' g') = View.canon L (ix4 a' b' d' g') := by
  refine View.canon_cons_of_not_mem _ _ fun hm => ?_
  have q := Rect.mem_set_unit.mp (show _ ∈ (Rect.unit (s := ⟨4, ![n0, n1, n2, n3]⟩) ![o0, o1, o2, o3] ![m0, m1, m2, m3] i).set from hm)
  have q0 : o0 ≤ a'.val ∧ a'.val < o0 + m0 := q 0
  have q1 : o1 ≤ b'.val ∧ b'.val < o1 + m1 := q 1
  have q2 : o2 ≤ d'.val ∧ d'.val < o2 + m2 := q 2
  have q3 : o3 ≤ g'.val ∧ g'.val < o3 + m3 := q 3
  omega

/-- The row within the second half of a tile. -/
def hir (q : Fin 512) (h : ¬ q.val < 256) : Fin 256 := ⟨q.val - 256, by omega⟩

theorem hir_eq (q : Fin 512) (h : ¬ q.val < 256) : q.val = 256 + (hir q h).val := by
  show q.val = 256 + (q.val - 256)
  omega

/-! ## The rows of the scratch buffer -/

section
variable (c : Dev nD) (i : grid0.Coords)
  (arg2 : Memref sig .tc .vmem S1x512x1024 .f32) (harg2 : arg2.IsWhole)
  (arg3 : Memref sig .tc .vmem S1x6x1024 .f32) (harg3 : arg3.IsWhole)
  (arg4 : Memref sig .tc .vmem S1x1024 .f32) (harg4 : arg4.IsWhole)
  (arg5 : Memref sig .tc .vmem S1x1024x6912 .bf16) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S512x128 .f32) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S1x4x512x128 .bf16) (harg11 : arg11.IsWhole)
  (arg12 : Memref sig .tc .vmem S1x4x512x128 .bf16) (harg12 : arg12.IsWhole)
  (arg13 : Memref sig .tc .vmem S1x4x512x128 .bf16) (harg13 : arg13.IsWhole)
  (arg14 : Memref sig .tc .vmem S1x4x512x128 .bf16) (harg14 : arg14.IsWhole)
  (arg15 : Memref sig .tc .vmem S1x2x512x128 .bf16) (harg15 : arg15.IsWhole)
  (arg16 : Memref sig .tc .vmem S1x2x512x128 .bf16) (harg16 : arg16.IsWhole)
  (arg17 : Memref sig .tc .vmem S1x512x512 .f32) (harg17 : arg17.IsWhole)
  (arg18 : Memref sig .tc .vmem S1x512x512 .f32) (harg18 : arg18.IsWhole)
  (arg19 : Memref sig .tc .vmem S1x512x3072 .f32) (harg19 : arg19.IsWhole)
  (arg20 : Memref sig .tc .vmem S512x1024 .bf16) (harg20 : arg20.IsWhole)
  (x0 : VI S1x512x1024 .f32) (x1 : VI S1x6x1024 .f32) (x2 : VI S1x1024 .f32) (x3 : VI S1x1024x6912 .bf16) (x4 : VI S1x128 .f32) (x5 : VI S1x128 .f32) (x6 : VI S512x128 .f32) (x7 : VI S512x128 .f32) (x8 : VI S512x128 .f32)

/-- One row of the tile, normed, scaled and shifted. -/
def hrow (q : Fin 512) : Fin 1024 → EReal :=
  modul (rms (fun d => x0 (ix3 0 q d)) (fun d => x2 (ix2 0 d))) (fun d => x1 (ix3 0 1 d)) (fun d => x1 (ix3 0 0 d))

/-- One entry of the projection of a row of the tile. -/
def zb (q : Fin 512) (f : Fin 6912) : EReal := dotc (hrow x0 x1 x2 q) (fun k => x3 (ix3 0 k f))

theorem lx (o : ℕ) (i) (r : Fin 256) (d : Fin 1024) (q : Fin 512) (h : q.val = o + r.val) :
    View.readAt (Elt Ideal) arg2.view (Rect.unit (s := S1x512x1024) ![0, o, 0] ![1, 256, 1024] i).toLoadRect (harg2.unread x0) (ix3 0 r d) = x0 (ix3 0 q d) := by
  rw [View.readAt_eq_ld, Memref.IsWhole.read_unread]
  exact ld3 x0 0 o 0 _ 0 r d 0 q d (by simp) h (by simp)

theorem lm (o : ℕ) (i) (d : Fin 1024) (q : Fin 6) (h : q.val = o) :
    View.readAt (Elt Ideal) arg3.view (Rect.unit (s := S1x6x1024) ![0, o, 0] ![1, 1, 1024] i).toLoadRect (harg3.unread x1) (ix3 0 0 d) = x1 (ix3 0 q d) := by
  rw [View.readAt_eq_ld, Memref.IsWhole.read_unread]
  exact ld3 x1 0 o 0 _ 0 0 d 0 q d (by simp) (by simpa using h) (by simp)

theorem lg (i) (d : Fin 1024) :
    View.readAt (Elt Ideal) arg4.view (Rect.unit (s := S1x1024) ![0, 0] ![1, 1024] i).toLoadRect (harg4.unread x2) (ix2 0 d) = x2 (ix2 0 d) := by
  rw [View.readAt_eq_ld, Memref.IsWhole.read_unread]
  exact ld2 x2 0 0 _ 0 d 0 d (by simp) (by simp)

theorem lw (o n : ℕ) (i) (k : Fin 1024) (j : Fin n) (f : Fin 6912) (h : f.val = o + j.val) :
    View.readAt (Elt Ideal) arg5.view (Rect.unit (s := S1x1024x6912) ![0, 0, o] ![1, 1024, n] i).toLoadRect (harg5.unread x3) (ix3 0 k j) = x3 (ix3 0 k f) := by
  rw [View.readAt_eq_ld, Memref.IsWhole.read_unread]
  exact ld3 x3 0 0 o _ 0 k j 0 k f (by simp) (by simp) h

theorem v63_apply (r : Fin 256) (d : Fin 1024) (q : Fin 512) (h : q.val = r.val) :
    kernelRun0_A.sl.v63 (F := Ideal) c arg2 harg2 arg3 harg3 arg4 harg4 arg20 x0 x1 x2 (ix2 r d) = hrow x0 x1 x2 q d := by
  unfold kernelRun0_A.sl.v63
  rw [View.readCov_eq_canon']
  have e : (Rect.unit (s := S512x1024) ![0, 0] S256x1024.size inb_S512x1024_S256x1024_0_0).emb (ix2 r d) = (ix2 q d : S512x1024.Idx) := by
    refine funext fun y => Fin.ext ?_
    match y with
    | ⟨0, _⟩ => show 0 + 1 * r.val = q.val; omega
    | ⟨1, _⟩ => show 0 + 1 * d.val = d.val; omega
  show View.canon _ ((Rect.unit (s := S512x1024) ![0, 0] S256x1024.size inb_S512x1024_S256x1024_0_0).emb (ix2 r d)) = _
  rw [e]
  unfold kernelRun0_A.sl.HS0_2
  refine (skip2 256 0 inb_S512x1024_S256x1024_256_0 _ _ q d (by omega)).trans ?_
  refine (canon2 0 0 inb_S512x1024_S256x1024_0_0 _ _ r d q d (by omega) (by omega)).trans ?_
  rw [pay3_apply]
  exact modul_congr (rms_congr (fun d => lx arg2 harg2 x0 0 _ r d q (by omega)) (fun d => lg arg4 harg4 x2 _ d))
    (fun d => lm arg3 harg3 x1 1 _ d 1 rfl) (fun d => lm arg3 harg3 x1 0 _ d 0 rfl) d

theorem v147_apply (r : Fin 256) (d : Fin 1024) (q : Fin 512) (h : q.val = 256 + r.val) :
    kernelRun0_A.sl.v147 (F := Ideal) c arg2 harg2 arg3 harg3 arg4 harg4 arg20 x0 x1 x2 (ix2 r d) = hrow x0 x1 x2 q d := by
  unfold kernelRun0_A.sl.v147
  rw [View.readCov_eq_canon']
  have e : (Rect.unit (s := S512x1024) ![256, 0] S256x1024.size inb_S512x1024_S256x1024_256_0).emb (ix2 r d) = (ix2 q d : S512x1024.Idx) := by
    refine funext fun y => Fin.ext ?_
    match y with
    | ⟨0, _⟩ => show 256 + 1 * r.val = q.val; omega
    | ⟨1, _⟩ => show 0 + 1 * d.val = d.val; omega
  show View.canon _ ((Rect.unit (s := S512x1024) ![256, 0] S256x1024.size inb_S512x1024_S256x1024_256_0).emb (ix2 r d)) = _
  rw [e]
  unfold kernelRun0_A.sl.HS0_2
  refine (canon2 256 0 inb_S512x1024_S256x1024_256_0 _ _ r d q d (by omega) (by omega)).trans ?_
  unfold kernelRun0_A.sl.r kernelRun0_A.sl.r_1 kernelRun0_A.sl.cst_17
  refine (pay6_apply _ _ _ _ r d).trans ?_
  exact modul_congr (rms_congr (fun d => lx arg2 harg2 x0 256 _ r d q h) (fun d => lg arg4 harg4 x2 _ d))
    (fun d => lm arg3 harg3 x1 1 _ d 1 rfl) (fun d => lm arg3 harg3 x1 0 _ d 0 rfl) d

/-! ## The output blocks -/

theorem cb_apply (q j : Fin 512) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
        x0 x1 x2 x3 x4 x5 x6 x7 x8 (ix3 0 q j) = zb x0 x1 x2 x3 q ⟨2304 + j.val, by omega⟩ := by
  unfold out0_A_15
  rw [View.read_writes_junk_eq_canon]
  by_cases h : q.val < 256
  · refine (skip3 0 256 0 inb_S1x512x512_S1x256x512_0_256_0 _ _ 0 q j (by omega)).trans ?_
    refine (canon3 0 0 0 inb_S1x512x512_S1x256x512_0_0_0 _ _ 0 ⟨q.val, h⟩ j 0 q j (by simp) (by simp) (by simp)).trans ?_
    exact (pay98_apply _ _ ⟨q.val, h⟩ j).trans (dotc_congr (fun k => v63_apply c arg2 harg2 arg3 harg3 arg4 harg4 arg20 x0 x1 x2 ⟨q.val, h⟩ k q rfl) (fun k => lw arg5 harg5 x3 2304 1536 _ k ⟨j.val, by omega⟩ ⟨2304 + j.val, by omega⟩ (by simp; try omega)))
  · refine (canon3 0 256 0 inb_S1x512x512_S1x256x512_0_256_0 _ _ 0 (hir q h) j 0 q j (by simp) (hir_eq q h) (by simp)).trans ?_
    exact (pay101_apply _ _ (hir q h) j).trans (dotc_congr (fun k => v147_apply c arg2 harg2 arg3 harg3 arg4 harg4 arg20 x0 x1 x2 (hir q h) k q (hir_eq q h)) (fun k => lw arg5 harg5 x3 2304 1536 _ k ⟨j.val, by omega⟩ ⟨2304 + j.val, by omega⟩ (by simp; try omega)))

theorem cu_apply (q j : Fin 512) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
        x0 x1 x2 x3 x4 x5 x6 x7 x8 (ix3 0 q j) = zb x0 x1 x2 x3 q ⟨2816 + j.val, by omega⟩ * zb x0 x1 x2 x3 q ⟨3328 + j.val, by omega⟩ := by
  unfold out0_A_16
  rw [View.read_writes_junk_eq_canon]
  by_cases h : q.val < 256
  · refine (skip3 0 256 0 inb_S1x512x512_S1x256x512_0_256_0 _ _ 0 q j (by omega)).trans ?_
    refine (canon3 0 0 0 inb_S1x512x512_S1x256x512_0_0_0 _ _ 0 ⟨q.val, h⟩ j 0 q j (by simp) (by simp) (by simp)).trans ?_
    exact (pay99_apply _ _ ⟨q.val, h⟩ j).trans (congrArg₂ (· * ·) (dotc_congr (fun k => v63_apply c arg2 harg2 arg3 harg3 arg4 harg4 arg20 x0 x1 x2 ⟨q.val, h⟩ k q rfl) (fun k => lw arg5 harg5 x3 2304 1536 _ k ⟨512 + j.val, by omega⟩ ⟨2816 + j.val, by omega⟩ (by simp; try omega))) (dotc_congr (fun k => v63_apply c arg2 harg2 arg3 harg3 arg4 harg4 arg20 x0 x1 x2 ⟨q.val, h⟩ k q rfl) (fun k => lw arg5 harg5 x3 2304 1536 _ k ⟨1024 + j.val, by omega⟩ ⟨3328 + j.val, by omega⟩ (by simp; try omega))))
  · refine (canon3 0 256 0 inb_S1x512x512_S1x256x512_0_256_0 _ _ 0 (hir q h) j 0 q j (by simp) (hir_eq q h) (by simp)).trans ?_
    exact (pay102_apply _ _ (hir q h) j).trans (congrArg₂ (· * ·) (dotc_congr (fun k => v147_apply c arg2 harg2 arg3 harg3 arg4 harg4 arg20 x0 x1 x2 (hir q h) k q (hir_eq q h)) (fun k => lw arg5 harg5 x3 2304 1536 _ k ⟨512 + j.val, by omega⟩ ⟨2816 + j.val, by omega⟩ (by simp; try omega))) (dotc_congr (fun k => v147_apply c arg2 harg2 arg3 harg3 arg4 harg4 arg20 x0 x1 x2 (hir q h) k q (hir_eq q h)) (fun k => lw arg5 harg5 x3 2304 1536 _ k ⟨1024 + j.val, by omega⟩ ⟨3328 + j.val, by omega⟩ (by simp; try omega))))

theorem gt_apply_0 (q : Fin 512) (j : Fin 3072) (j0 : Fin 1024) (hj : j.val = 0 + j0.val) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
        x0 x1 x2 x3 x4 x5 x6 x7 x8 (ix3 0 q j) = Ideal.logistic (zb x0 x1 x2 x3 q ⟨3840 + j.val, by omega⟩) := by
  unfold out0_A_17
  rw [View.read_writes_junk_eq_canon]
  by_cases h : q.val < 256
  · refine (skip3 0 256 2048 inb_S1x512x3072_S1x256x1024_0_256_2048 _ _ 0 q j (by omega)).trans ?_
    refine (skip3 0 0 2048 inb_S1x512x3072_S1x256x1024_0_0_2048 _ _ 0 q j (by omega)).trans ?_
    refine (skip3 0 256 1024 inb_S1x512x3072_S1x256x1024_0_256_1024 _ _ 0 q j (by omega)).trans ?_
    refine (skip3 0 0 1024 inb_S1x512x3072_S1x256x1024_0_0_1024 _ _ 0 q j (by omega)).trans ?_
    refine (skip3 0 256 0 inb_S1x512x3072_S1x256x1024_0_256_0 _ _ 0 q j (by omega)).trans ?_
    refine (canon3 0 0 0 inb_S1x512x3072_S1x256x1024_0_0_0 _ _ 0 ⟨q.val, h⟩ j0 0 q j (by simp) (by simp) hj).trans ?_
    exact (pay104_apply _ _ ⟨q.val, h⟩ j0).trans (congrArg Ideal.logistic (dotc_congr (fun k => v63_apply c arg2 harg2 arg3 harg3 arg4 harg4 arg20 x0 x1 x2 ⟨q.val, h⟩ k q rfl) (fun k => lw arg5 harg5 x3 3840 1024 _ k j0 _ (by simp; omega))))
  · refine (skip3 0 256 2048 inb_S1x512x3072_S1x256x1024_0_256_2048 _ _ 0 q j (by omega)).trans ?_
    refine (skip3 0 0 2048 inb_S1x512x3072_S1x256x1024_0_0_2048 _ _ 0 q j (by omega)).trans ?_
    refine (skip3 0 256 1024 inb_S1x512x3072_S1x256x1024_0_256_1024 _ _ 0 q j (by omega)).trans ?_
    refine (skip3 0 0 1024 inb_S1x512x3072_S1x256x1024_0_0_1024 _ _ 0 q j (by omega)).trans ?_
    refine (canon3 0 256 0 inb_S1x512x3072_S1x256x1024_0_256_0 _ _ 0 (hir q h) j0 0 q j (by simp) (hir_eq q h) hj).trans ?_
    exact (pay105_apply _ _ (hir q h) j0).trans (congrArg Ideal.logistic (dotc_congr (fun k => v147_apply c arg2 harg2 arg3 harg3 arg4 harg4 arg20 x0 x1 x2 (hir q h) k q (hir_eq q h)) (fun k => lw arg5 harg5 x3 3840 1024 _ k j0 _ (by simp; omega))))

theorem gt_apply_1 (q : Fin 512) (j : Fin 3072) (j0 : Fin 1024) (hj : j.val = 1024 + j0.val) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
        x0 x1 x2 x3 x4 x5 x6 x7 x8 (ix3 0 q j) = Ideal.logistic (zb x0 x1 x2 x3 q ⟨3840 + j.val, by omega⟩) := by
  unfold out0_A_17
  rw [View.read_writes_junk_eq_canon]
  by_cases h : q.val < 256
  · refine (skip3 0 256 2048 inb_S1x512x3072_S1x256x1024_0_256_2048 _ _ 0 q j (by omega)).trans ?_
    refine (skip3 0 0 2048 inb_S1x512x3072_S1x256x1024_0_0_2048 _ _ 0 q j (by omega)).trans ?_
    refine (skip3 0 256 1024 inb_S1x512x3072_S1x256x1024_0_256_1024 _ _ 0 q j (by omega)).trans ?_
    refine (canon3 0 0 1024 inb_S1x512x3072_S1x256x1024_0_0_1024 _ _ 0 ⟨q.val, h⟩ j0 0 q j (by simp) (by simp) hj).trans ?_
    exact (pay106_apply _ _ ⟨q.val, h⟩ j0).trans (congrArg Ideal.logistic (dotc_congr (fun k => v63_apply c arg2 harg2 arg3 harg3 arg4 harg4 arg20 x0 x1 x2 ⟨q.val, h⟩ k q rfl) (fun k => lw arg5 harg5 x3 4864 1024 _ k j0 _ (by simp; omega))))
  · refine (skip3 0 256 2048 inb_S1x512x3072_S1x256x1024_0_256_2048 _ _ 0 q j (by omega)).trans ?_
    refine (skip3 0 0 2048 inb_S1x512x3072_S1x256x1024_0_0_2048 _ _ 0 q j (by omega)).trans ?_
    refine (canon3 0 256 1024 inb_S1x512x3072_S1x256x1024_0_256_1024 _ _ 0 (hir q h) j0 0 q j (by simp) (hir_eq q h) hj).trans ?_
    exact (pay108_apply _ _ (hir q h) j0).trans (congrArg Ideal.logistic (dotc_congr (fun k => v147_apply c arg2 harg2 arg3 harg3 arg4 harg4 arg20 x0 x1 x2 (hir q h) k q (hir_eq q h)) (fun k => lw arg5 harg5 x3 4864 1024 _ k j0 _ (by simp; omega))))

theorem gt_apply_2 (q : Fin 512) (j : Fin 3072) (j0 : Fin 1024) (hj : j.val = 2048 + j0.val) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
        x0 x1 x2 x3 x4 x5 x6 x7 x8 (ix3 0 q j) = Ideal.logistic (zb x0 x1 x2 x3 q ⟨3840 + j.val, by omega⟩) := by
  unfold out0_A_17
  rw [View.read_writes_junk_eq_canon]
  by_cases h : q.val < 256
  · refine (skip3 0 256 2048 inb_S1x512x3072_S1x256x1024_0_256_2048 _ _ 0 q j (by omega)).trans ?_
    refine (canon3 0 0 2048 inb_S1x512x3072_S1x256x1024_0_0_2048 _ _ 0 ⟨q.val, h⟩ j0 0 q j (by simp) (by simp) hj).trans ?_
    exact (pay109_apply _ _ ⟨q.val, h⟩ j0).trans (congrArg Ideal.logistic (dotc_congr (fun k => v63_apply c arg2 harg2 arg3 harg3 arg4 harg4 arg20 x0 x1 x2 ⟨q.val, h⟩ k q rfl) (fun k => lw arg5 harg5 x3 5888 1024 _ k j0 _ (by simp; omega))))
  · refine (canon3 0 256 2048 inb_S1x512x3072_S1x256x1024_0_256_2048 _ _ 0 (hir q h) j0 0 q j (by simp) (hir_eq q h) hj).trans ?_
    exact (pay110_apply _ _ (hir q h) j0).trans (congrArg Ideal.logistic (dotc_congr (fun k => v147_apply c arg2 harg2 arg3 harg3 arg4 harg4 arg20 x0 x1 x2 (hir q h) k q (hir_eq q h)) (fun k => lw arg5 harg5 x3 5888 1024 _ k j0 _ (by simp; omega))))

theorem gt_apply (q : Fin 512) (j : Fin 3072) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
        x0 x1 x2 x3 x4 x5 x6 x7 x8 (ix3 0 q j) = Ideal.logistic (zb x0 x1 x2 x3 q ⟨3840 + j.val, by omega⟩) := by
  by_cases h1 : j.val < 1024
  · exact gt_apply_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 q j ⟨j.val, h1⟩ (by simp)
  · by_cases h2 : j.val < 2048
    · exact gt_apply_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 q j ⟨j.val - 1024, by omega⟩ (by simp; omega)
    · exact gt_apply_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 q j ⟨j.val - 2048, by omega⟩ (by simp; omega)

theorem va_apply_0 (q : Fin 512) (j : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
        x0 x1 x2 x3 x4 x5 x6 x7 x8 (ix4 0 0 q j) = zb x0 x1 x2 x3 q ⟨1024 + (128 * 0 + j.val), by omega⟩ := by
  unfold out0_A_11
  rw [View.read_writes_junk_eq_canon]
  by_cases h : q.val < 256
  · refine (skip4 0 3 256 0 inb_S1x4x512x128_S1x1x256x128_0_3_256_0 _ _ 0 0 q j (by first | omega | (simp; omega) | simp)).trans ?_
    refine (skip4 0 2 256 0 inb_S1x4x512x128_S1x1x256x128_0_2_256_0 _ _ 0 0 q j (by first | omega | (simp; omega) | simp)).trans ?_
    refine (skip4 0 1 256 0 inb_S1x4x512x128_S1x1x256x128_0_1_256_0 _ _ 0 0 q j (by first | omega | (simp; omega) | simp)).trans ?_
    refine (skip4 0 0 256 0 inb_S1x4x512x128_S1x1x256x128_0_0_256_0 _ _ 0 0 q j (by first | omega | (simp; omega) | simp)).trans ?_
    refine (skip4 0 3 0 0 inb_S1x4x512x128_S1x1x256x128_0_3_0_0 _ _ 0 0 q j (by first | omega | (simp; omega) | simp)).trans ?_
    refine (skip4 0 2 0 0 inb_S1x4x512x128_S1x1x256x128_0_2_0_0 _ _ 0 0 q j (by first | omega | (simp; omega) | simp)).trans ?_
    refine (skip4 0 1 0 0 inb_S1x4x512x128_S1x1x256x128_0_1_0_0 _ _ 0 0 q j (by first | omega | (simp; omega) | simp)).trans ?_
    refine (canon4 0 0 0 0 inb_S1x4x512x128_S1x1x256x128_0_0_0_0 _ _ 0 0 ⟨q.val, h⟩ j 0 0 q j (by simp) (by simp) (by simp) (by simp)).trans ?_
    exact (pay112_apply _ _ ⟨q.val, h⟩ j).trans (dotc_congr (fun k => v63_apply c arg2 harg2 arg3 harg3 arg4 harg4 arg20 x0 x1 x2 ⟨q.val, h⟩ k q rfl) (fun k => lw arg5 harg5 x3 1024 512 _ k ⟨j.val, by omega⟩ _ (by simp)))
  · refine (skip4 0 3 256 0 inb_S1x4x512x128_S1x1x256x128_0_3_256_0 _ _ 0 0 q j (by first | omega | (simp; omega) | simp)).trans ?_
    refine (skip4 0 2 256 0 inb_S1x4x512x128_S1x1x256x128_0_2_256_0 _ _ 0 0 q j (by first | omega | (simp; omega) | simp)).trans ?_
    refine (skip4 0 1 256 0 inb_S1x4x512x128_S1x1x256x128_0_1_256_0 _ _ 0 0 q j (by first | omega | (simp; omega) | simp)).trans ?_
    refine (canon4 0 0 256 0 inb_S1x4x512x128_S1x1x256x128_0_0_256_0 _ _ 0 0 (hir q h) j 0 0 q j (by simp) (by simp) (hir_eq q h) (by simp)).trans ?_
    exact (pay117_apply _ _ (hir q h) j).trans (dotc_congr (fun k => v147_apply c arg2 harg2 arg3 harg3 arg4 harg4 arg20 x0 x1 x2 (hir q h) k q (hir_eq q h)) (fun k => lw arg5 harg5 x3 1024 512 _ k ⟨j.val, by omega⟩ _ (by simp)))

theorem va_apply_1 (q : Fin 512) (j : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
        x0 x1 x2 x3 x4 x5 x6 x7 x8 (ix4 0 1 q j) = zb x0 x1 x2 x3 q ⟨1024 + (128 * 1 + j.val), by omega⟩ := by
  unfold out0_A_11
  rw [View.read_writes_junk_eq_canon]
  by_cases h : q.val < 256
  · refine (skip4 0 3 256 0 inb_S1x4x512x128_S1x1x256x128_0_3_256_0 _ _ 0 1 q j (by first | omega | (simp; omega) | simp)).trans ?_
    refine (skip4 0 2 256 0 inb_S1x4x512x128_S1x1x256x128_0_2_256_0 _ _ 0 1 q j (by first | omega | (simp; omega) | simp)).trans ?_
    refine (skip4 0 1 256 0 inb_S1x4x512x128_S1x1x256x128_0_1_256_0 _ _ 0 1 q j (by first | omega | (simp; omega) | simp)).trans ?_
    refine (skip4 0 0 256 0 inb_S1x4x512x128_S1x1x256x128_0_0_256_0 _ _ 0 1 q j (by first | omega | (simp; omega) | simp)).trans ?_
    refine (skip4 0 3 0 0 inb_S1x4x512x128_S1x1x256x128_0_3_0_0 _ _ 0 1 q j (by first | omega | (simp; omega) | simp)).trans ?_
    refine (skip4 0 2 0 0 inb_S1x4x512x128_S1x1x256x128_0_2_0_0 _ _ 0 1 q j (by first | omega | (simp; omega) | simp)).trans ?_
    refine (canon4 0 1 0 0 inb_S1x4x512x128_S1x1x256x128_0_1_0_0 _ _ 0 0 ⟨q.val, h⟩ j 0 1 q j (by simp) (by simp) (by simp) (by simp)).trans ?_
    exact (pay113_apply _ _ ⟨q.val, h⟩ j).trans (dotc_congr (fun k => v63_apply c arg2 harg2 arg3 harg3 arg4 harg4 arg20 x0 x1 x2 ⟨q.val, h⟩ k q rfl) (fun k => lw arg5 harg5 x3 1024 512 _ k ⟨128 + j.val, by omega⟩ _ (by simp)))
  · refine (skip4 0 3 256 0 inb_S1x4x512x128_S1x1x256x128_0_3_256_0 _ _ 0 1 q j (by first | omega | (simp; omega) | simp)).trans ?_
    refine (skip4 0 2 256 0 inb_S1x4x512x128_S1x1x256x128_0_2_256_0 _ _ 0 1 q j (by first | omega | (simp; omega) | simp)).trans ?_
    refine (canon4 0 1 256 0 inb_S1x4x512x128_S1x1x256x128_0_1_256_0 _ _ 0 0 (hir q h) j 0 1 q j (by simp) (by simp) (hir_eq q h) (by simp)).trans ?_
    exact (pay118_apply _ _ (hir q h) j).trans (dotc_congr (fun k => v147_apply c arg2 harg2 arg3 harg3 arg4 harg4 arg20 x0 x1 x2 (hir q h) k q (hir_eq q h)) (fun k => lw arg5 harg5 x3 1024 512 _ k ⟨128 + j.val, by omega⟩ _ (by simp)))

theorem va_apply_2 (q : Fin 512) (j : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
        x0 x1 x2 x3 x4 x5 x6 x7 x8 (ix4 0 2 q j) = zb x0 x1 x2 x3 q ⟨1024 + (128 * 2 + j.val), by omega⟩ := by
  unfold out0_A_11
  rw [View.read_writes_junk_eq_canon]
  by_cases h : q.val < 256
  · refine (skip4 0 3 256 0 inb_S1x4x512x128_S1x1x256x128_0_3_256_0 _ _ 0 2 q j (by first | omega | (simp; omega) | simp)).trans ?_
    refine (skip4 0 2 256 0 inb_S1x4x512x128_S1x1x256x128_0_2_256_0 _ _ 0 2 q j (by first | omega | (simp; omega) | simp)).trans ?_
    refine (skip4 0 1 256 0 inb_S1x4x512x128_S1x1x256x128_0_1_256_0 _ _ 0 2 q j (by first | omega | (simp; omega) | simp)).trans ?_
    refine (skip4 0 0 256 0 inb_S1x4x512x128_S1x1x256x128_0_0_256_0 _ _ 0 2 q j (by first | omega | (simp; omega) | simp)).trans ?_
    refine (skip4 0 3 0 0 inb_S1x4x512x128_S1x1x256x128_0_3_0_0 _ _ 0 2 q j (by first | omega | (simp; omega) | simp)).trans ?_
    refine (canon4 0 2 0 0 inb_S1x4x512x128_S1x1x256x128_0_2_0_0 _ _ 0 0 ⟨q.val, h⟩ j 0 2 q j (by simp) (by simp) (by simp) (by simp)).trans ?_
    exact (pay114_apply _ _ ⟨q.val, h⟩ j).trans (dotc_congr (fun k => v63_apply c arg2 harg2 arg3 harg3 arg4 harg4 arg20 x0 x1 x2 ⟨q.val, h⟩ k q rfl) (fun k => lw arg5 harg5 x3 1024 512 _ k ⟨256 + j.val, by omega⟩ _ (by simp)))
  · refine (skip4 0 3 256 0 inb_S1x4x512x128_S1x1x256x128_0_3_256_0 _ _ 0 2 q j (by first | omega | (simp; omega) | simp)).trans ?_
    refine (canon4 0 2 256 0 inb_S1x4x512x128_S1x1x256x128_0_2_256_0 _ _ 0 0 (hir q h) j 0 2 q j (by simp) (by simp) (hir_eq q h) (by simp)).trans ?_
    exact (pay1_apply _ _ (hir q h) j).trans (dotc_congr (fun k => v147_apply c arg2 harg2 arg3 harg3 arg4 harg4 arg20 x0 x1 x2 (hir q h) k q (hir_eq q h)) (fun k => lw arg5 harg5 x3 1024 512 _ k ⟨256 + j.val, by omega⟩ _ (by simp)))

theorem va_apply_3 (q : Fin 512) (j : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
        x0 x1 x2 x3 x4 x5 x6 x7 x8 (ix4 0 3 q j) = zb x0 x1 x2 x3 q ⟨1024 + (128 * 3 + j.val), by omega⟩ := by
  unfold out0_A_11
  rw [View.read_writes_junk_eq_canon]
  by_cases h : q.val < 256
  · refine (skip4 0 3 256 0 inb_S1x4x512x128_S1x1x256x128_0_3_256_0 _ _ 0 3 q j (by first | omega | (simp; omega) | simp)).trans ?_
    refine (skip4 0 2 256 0 inb_S1x4x512x128_S1x1x256x128_0_2_256_0 _ _ 0 3 q j (by first | omega | (simp; omega) | simp)).trans ?_
    refine (skip4 0 1 256 0 inb_S1x4x512x128_S1x1x256x128_0_1_256_0 _ _ 0 3 q j (by first | omega | (simp; omega) | simp)).trans ?_
    refine (skip4 0 0 256 0 inb_S1x4x512x128_S1x1x256x128_0_0_256_0 _ _ 0 3 q j (by first | omega | (simp; omega) | simp)).trans ?_
    refine (canon4 0 3 0 0 inb_S1x4x512x128_S1x1x256x128_0_3_0_0 _ _ 0 0 ⟨q.val, h⟩ j 0 3 q j (by simp) (by simp) (by simp) (by simp)).trans ?_
    exact (pay115_apply _ _ ⟨q.val, h⟩ j).trans (dotc_congr (fun k => v63_apply c arg2 harg2 arg3 harg3 arg4 harg4 arg20 x0 x1 x2 ⟨q.val, h⟩ k q rfl) (fun k => lw arg5 harg5 x3 1024 512 _ k ⟨384 + j.val, by omega⟩ _ (by simp)))
  · refine (canon4 0 3 256 0 inb_S1x4x512x128_S1x1x256x128_0_3_256_0 _ _ 0 0 (hir q h) j 0 3 q j (by simp) (by simp) (hir_eq q h) (by simp)).trans ?_
    exact (pay2_apply _ _ (hir q h) j).trans (dotc_congr (fun k => v147_apply c arg2 harg2 arg3 harg3 arg4 harg4 arg20 x0 x1 x2 (hir q h) k q (hir_eq q h)) (fun k => lw arg5 harg5 x3 1024 512 _ k ⟨384 + j.val, by omega⟩ _ (by simp)))

theorem va_apply (p : Fin 4) (q : Fin 512) (j : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
        x0 x1 x2 x3 x4 x5 x6 x7 x8 (ix4 0 p q j) = zb x0 x1 x2 x3 q ⟨1024 + (128 * p.val + j.val), by omega⟩ := by
  match p with
  | ⟨0, _⟩ => exact va_apply_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 q j
  | ⟨1, _⟩ => exact va_apply_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 q j
  | ⟨2, _⟩ => exact va_apply_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 q j
  | ⟨3, _⟩ => exact va_apply_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 q j

end

end Cert.Kernel4Ideal.Pay
-- ==== Proof.ProjIn.lean ====
/- The blocks that a grid point of the input projection stages, as entries of the argument arrays. -/
module

public import proofs.«01_k».proof.Proof.Gen.Kernel4Ideal.Value
public import Idealize.ShloMosaic.Lib.Claim
public import Idealize.ShloMosaic.Lib.StableHlo.RunRead
public import Idealize.ShloMosaic.Lib.Pointwise

@[expose] public section

noncomputable section

namespace Cert.Kernel4Ideal.In

open Cert.Kernel4Ideal Cert.Kernel4Ideal.Gen Idealize.ShloMosaic Idealize.ShloMosaic.TcCoe Idealize.SL.Sem

variable (m : (ℓ : Loc nD τ sig) → Buf (Elt Ideal) ℓ)

theorem N_eq : cfg0.N = 64 := N_0

/-- Grid point `t` works on batch `t / 4` … -/
def tb (t : Fin cfg0.N) : Fin 16 := ⟨t.val / 4, by have := lt_of_lt_of_eq t.isLt N_eq; omega⟩
/-- … and on the 512 rows of tile `t % 4`. -/
def tr (t : Fin cfg0.N) (r : Fin 512) : Fin 2048 := ⟨512 * (t.val % 4) + r.val, by omega⟩

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx11 : ∀ t : Fin cfg0.N, win0_11.index t (0 : Fin 4) = t.val / 4 ∧ win0_11.index t (1 : Fin 4) = 0 ∧ win0_11.index t (2 : Fin 4) = t.val % 4 ∧ win0_11.index t (3 : Fin 4) = 0 :=
  (by decide +kernel : ∀ t : Fin grid0.N, _)
theorem idx15 : ∀ t : Fin cfg0.N, win0_15.index t (0 : Fin 3) = t.val / 4 ∧ win0_15.index t (1 : Fin 3) = t.val % 4 ∧ win0_15.index t (2 : Fin 3) = 0 :=
  (by decide +kernel : ∀ t : Fin grid0.N, _)
theorem idx16 : ∀ t : Fin cfg0.N, win0_16.index t (0 : Fin 3) = t.val / 4 ∧ win0_16.index t (1 : Fin 3) = t.val % 4 ∧ win0_16.index t (2 : Fin 3) = 0 :=
  (by decide +kernel : ∀ t : Fin grid0.N, _)
theorem idx17 : ∀ t : Fin cfg0.N, win0_17.index t (0 : Fin 3) = t.val / 4 ∧ win0_17.index t (1 : Fin 3) = t.val % 4 ∧ win0_17.index t (2 : Fin 3) = 0 :=
  (by decide +kernel : ∀ t : Fin grid0.N, _)

theorem emb0 (t : Fin cfg0.N) (r : Fin 512) (d : Fin 1024) : ((cfg0.win 0).blk t).view.emb (ix3 0 r d) = ix3 (tb t) (tr t r) d := by
  obtain ⟨e0, e1, e2⟩ := idx0 t
  funext x; apply Fin.ext
  match x with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 1024 + 1 * d.val = d.val; omega

theorem emb15 (t : Fin cfg0.N) (r : Fin 512) (d : Fin 512) : ((cfg0.win 15).blk t).view.emb (ix3 0 r d) = ix3 (tb t) (tr t r) d := by
  obtain ⟨e0, e1, e2⟩ := idx15 t
  funext x; apply Fin.ext
  match x with
  | ⟨0, _⟩ => show win0_15.index t (0 : Fin 3) * 1 + 1 * 0 = t.val / 4; omega
  | ⟨1, _⟩ => show win0_15.index t (1 : Fin 3) * 512 + 1 * r.val = 512 * (t.val % 4) + r.val; omega
  | ⟨2, _⟩ => show win0_15.index t (2 : Fin 3) * 512 + 1 * d.val = d.val; omega

theorem emb16 (t : Fin cfg0.N) (r : Fin 512) (d : Fin 512) : ((cfg0.win 16).blk t).view.emb (ix3 0 r d) = ix3 (tb t) (tr t r) d := by
  obtain ⟨e0, e1, e2⟩ := idx16 t
  funext x; apply Fin.ext
  match x with
  | ⟨0, _⟩ => show win0_16.index t (0 : Fin 3) * 1 + 1 * 0 = t.val / 4; omega
  | ⟨1, _⟩ => show win0_16.index t (1 : Fin 3) * 512 + 1 * r.val = 512 * (t.val % 4) + r.val; omega
  | ⟨2, _⟩ => show win0_16.index t (2 : Fin 3) * 512 + 1 * d.val = d.val; omega

theorem emb17 (t : Fin cfg0.N) (r : Fin 512) (d : Fin 3072) : ((cfg0.win 17).blk t).view.emb (ix3 0 r d) = ix3 (tb t) (tr t r) d := by
  obtain ⟨e0, e1, e2⟩ := idx17 t
  funext x; apply Fin.ext
  match x with
  | ⟨0, _⟩ => show win0_17.index t (0 : Fin 3) * 1 + 1 * 0 = t.val / 4; omega
  | ⟨1, _⟩ => show win0_17.index t (1 : Fin 3) * 512 + 1 * r.val = 512 * (t.val % 4) + r.val; omega
  | ⟨2, _⟩ => show win0_17.index t (2 : Fin 3) * 3072 + 1 * d.val = d.val; omega

theorem emb1 (t : Fin cfg0.N) (r : Fin 6) (d : Fin 1024) : ((cfg0.win 1).blk t).view.emb (ix3 0 r d) = ix3 (⟨t.val / 4, by have := (tb t).isLt; show t.val / 4 < 24; have : t.val / 4 < 16 := (tb t).isLt; omega⟩ : Fin 24) r d := by
  obtain ⟨e0, e1, e2⟩ := idx1 t
  funext x; apply Fin.ext
  match x with
  | ⟨0, _⟩ => show win0_1.index t (0 : Fin 3) * 1 + 1 * 0 = t.val / 4; omega
  | ⟨1, _⟩ => show win0_1.index t (1 : Fin 3) * 6 + 1 * r.val = r.val; omega
  | ⟨2, _⟩ => show win0_1.index t (2 : Fin 3) * 1024 + 1 * d.val = d.val; omega

theorem emb3 (t : Fin cfg0.N) (r : Fin 1024) (d : Fin 6912) : ((cfg0.win 3).blk t).view.emb (ix3 0 r d) = ix3 0 r d := by
  obtain ⟨e0, e1, e2⟩ := idx3 t
  funext x; apply Fin.ext
  match x with
  | ⟨0, _⟩ => show win0_3.index t (0 : Fin 3) * 1 + 1 * 0 = 0; omega
  | ⟨1, _⟩ => show win0_3.index t (1 : Fin 3) * 1024 + 1 * r.val = r.val; omega
  | ⟨2, _⟩ => show win0_3.index t (2 : Fin 3) * 6912 + 1 * d.val = d.val; omega

theorem emb2 (t : Fin cfg0.N) (r : Fin 1) (d : Fin 1024) : ((cfg0.win 2).blk t).view.emb (ix2 r d) = ix2 r d := by
  obtain ⟨e0, e1⟩ := idx2 t
  funext x; apply Fin.ext
  match x with
  | ⟨0, _⟩ => show win0_2.index t (0 : Fin 2) * 1 + 1 * r.val = r.val; omega
  | ⟨1, _⟩ => show win0_2.index t (1 : Fin 2) * 1024 + 1 * d.val = d.val; omega

theorem emb11 (t : Fin cfg0.N) (p : Fin 4) (r : Fin 512) (d : Fin 128) : ((cfg0.win 11).blk t).view.emb (ix4 0 p r d) = ix4 (tb t) p (tr t r) d := by
  obtain ⟨e0, e1, e2, e3⟩ := idx11 t
  funext x; apply Fin.ext
  match x with
  | ⟨0, _⟩ => show win0_11.index t (0 : Fin 4) * 1 + 1 * 0 = t.val / 4; omega
  | ⟨1, _⟩ => show win0_11.index t (1 : Fin 4) * 4 + 1 * p.val = p.val; omega
  | ⟨2, _⟩ => show win0_11.index t (2 : Fin 4) * 512 + 1 * r.val = 512 * (t.val % 4) + r.val; omega
  | ⟨3, _⟩ => show win0_11.index t (3 : Fin 4) * 128 + 1 * d.val = d.val; omega

variable (c : Dev nD) (t : Fin cfg0.N)

theorem blk0 (r : Fin 512) (d : Fin 1024) : iblk m c 0 t (ix3 0 r d) = m ((c : Thread nD τ).loc main_arg0) (ix3 (tb t) (tr t r) d) := by
  show V m c main_arg0 (((cfg0.win 0).blk t).view.emb (ix3 0 r d)) = _
  rw [emb0]
  entry_read
  try rfl

theorem blk3 (k : Fin 1024) (d : Fin 6912) : iblk m c 3 t (ix3 0 k d) = m ((c : Thread nD τ).loc main_arg3) (ix3 0 k d) := by
  show V m c main_v4 (((cfg0.win 3).blk t).view.emb (ix3 0 k d)) = _
  rw [emb3]
  entry_read
  try rfl

theorem resh1 (x : Vec Ideal S24x6144 .f32) (b : Fin 24) (q : Fin 6) (d : Fin 1024) :
    shapeCast S24x6x1024 x shapeCasts_S24x6144_S24x6x1024 (ix3 b q d) = x (ix2 b ⟨1024 * q.val + d.val, by omega⟩) := by
  pointwise
  refine congrArg x (funext fun a => Fin.ext ?_)
  fin_cases a <;> simp [ix2] <;> omega

theorem blk1 (r : Fin 6) (d : Fin 1024) : iblk m c 1 t (ix3 0 r d) = m ((c : Thread nD τ).loc main_arg1) (ix2 ⟨(tb t).val, by omega⟩ ⟨1024 * r.val + d.val, by omega⟩) := by
  show V m c main_v0 (((cfg0.win 1).blk t).view.emb (ix3 0 r d)) = _
  rw [emb1]
  entry_read
  exact resh1 _ _ r d

theorem row2 (x : Vec Ideal S2x1024 .f32) (d : Fin 1024) :
    shapeCast S1x1024 (shapeCast S1024 (extractStridedSlice S1x1024 ![0, 0] x slices_S2x1024_S1x1024_0_0) shapeCasts_S1x1024_S1024) shapeCasts_S1024_S1x1024
      (ix2 0 d) = x (ix2 0 d) := by
  pointwise
  try rfl

theorem blk2 (d : Fin 1024) : iblk m c 2 t (ix2 0 d) = m ((c : Thread nD τ).loc main_arg2) (ix2 0 d) := by
  show V m c main_v3 (((cfg0.win 2).blk t).view.emb (ix2 0 d)) = _
  rw [emb2]
  entry_read
  exact row2 _ d

end Cert.Kernel4Ideal.In
-- ==== Proof.ProjRef.lean ====
/- What the reference of the input projection computes, at an index. -/
module

public import proofs.«01_k».proof.Proof.Gen.Reference4Ideal.Read
public import Idealize.ShloMosaic.Lib.Pointwise
public import proofs.«01_k».proof.Proof.ProjPay

@[expose] public section

noncomputable section

namespace Cert.Reference4Ideal.Ref

open Cert.Reference4Ideal Cert.Reference4Ideal.Gen Cert.Reference4Ideal.Read Idealize.ShloMosaic Idealize.SL.Sem
open Cert.Post Cert.Kernel4Ideal.Pay

section
variable (x0 : VI S16x2048x1024 .f32) (x1 : VI S24x6144 .f32) (x2 : VI S2x1024 .f32) (x3 : VI S2x1024x6912 .f32) (b : Fin 16) (s : Fin 2048)

/-- One of the six modulation vectors of a batch. -/
def md (q : Fin 6) (d : Fin 1024) : EReal := x1 (ix2 ⟨b.val, by omega⟩ ⟨1024 * q.val + d.val, by omega⟩)

theorem md0_apply (d : Fin 1024) : val_main_v22 (F := Ideal) x1 (ix3 b s d) = md x1 b 0 d := by
  rw [val_main_v22_apply, val_main_v21_apply, val_main_v0_apply]
  refine congrArg x1 (funext fun a => Fin.ext ?_)
  fin_cases a <;> simp [ix3, ix2] <;> omega

theorem md1_apply (d : Fin 1024) : val_main_v19 (F := Ideal) x1 (ix3 b s d) = @HAdd.hAdd EReal EReal EReal _ (Ideal.ofBits .f32 0x3F800000#32) (md x1 b 1 d) := by
  rw [val_main_v19_apply, val_main_v18_apply, val_main_v17_apply, val_main_cst_2_apply, val_main_v16_apply, val_main_v0_apply]
  refine congrArg (fun z : EReal => Ideal.ofBits .f32 0x3F800000#32 + z) (congrArg x1 (funext fun a => Fin.ext ?_))
  fin_cases a <;> simp [ix3, ix2] <;> omega

theorem g1_apply (d : Fin 1024) : val_main_v14 (F := Ideal) x2 (ix3 b s d) = x2 (ix2 0 d) := by
  rw [val_main_v14_apply, val_main_v13_apply, val_main_v2_apply, val_main_v1_apply]
  refine congrArg x2 (funext fun a => Fin.ext ?_)
  fin_cases a <;> simp [ix3, ix2] <;> omega

theorem w_apply (k : Fin 1024) (f : Fin 6912) : val_main_v25 (F := Ideal) x3 (ix2 k f) = x3 (ix3 0 k f) := by
  rw [val_main_v25_apply, val_main_v24_apply]
  refine congrArg x3 (funext fun a => Fin.ext ?_)
  fin_cases a <;> simp [ix3, ix2] <;> omega

theorem ofBits_zero : Ideal.ofBits .f32 0x00000000#32 = (0 : EReal) := by
  simp [Ideal.ofBits, Ideal.ieee]

theorem ofBits_one : Ideal.ofBits .f32 0x3F800000#32 = (1 : EReal) := by
  simp [Ideal.ofBits, Ideal.ieee, -EReal.coe_mul]
  norm_num

/-- A row of the residual stream, normed, scaled and shifted. -/
def pre : Fin 1024 → EReal := modul (rms (fun d => x0 (ix3 b s d)) (fun d => x2 (ix2 0 d))) (md x1 b 1) (md x1 b 0)

theorem pre_apply (d : Fin 1024) : val_main_v23 (F := Ideal) x0 x1 x2 (ix3 b s d) = pre x0 x1 x2 b s d := by
  rw [val_main_v23_apply, val_main_v20_apply, md0_apply, md1_apply, val_main_v15_apply, g1_apply, val_main_v12_apply, val_main_v11_apply, val_main_v10_apply,
    val_main_v9_apply, val_main_v8_apply, val_main_cst_1_apply, val_main_v7_apply, val_main_v6_apply, val_main_cst_0_apply, val_main_v5_apply, val_main_v4_apply,
    val_main_cst_apply]
  have e : ∀ k, idx_main_v4 (idx_main_v5 (idx_main_v11 (ix3 b s d))) k = ix3 b s k := fun k => funext fun a => by fin_cases a <;> rfl
  simp only [e, val_main_v3_apply]
  rw [show (FloatOps.ofBits (F := Ideal) .f32 0x00000000#32) = (0 : EReal) from ofBits_zero, zero_add]
  rfl

/-- One entry of the projection. -/
def z (f : Fin 6912) : EReal := dotc (pre x0 x1 x2 b s) (fun k => x3 (ix3 0 k f))

theorem z_apply (f : Fin 6912) : val_main_v26 (F := Ideal) x0 x1 x2 x3 (ix3 b s f) = z x0 x1 x2 x3 b s f := by
  rw [val_main_v26_apply]
  have la : ∀ j, lidx_main_v26 (ix3 b s f) j = ix3 b s j := fun j => funext fun a => by fin_cases a <;> rfl
  have ra : ∀ j, ridx_main_v26 (ix3 b s f) j = ix2 j f := fun j => funext fun a => by fin_cases a <;> rfl
  simp only [la, ra, w_apply, pre_apply]
  rfl

theorem av_apply (p : Fin 4) (j : Fin 128) : val_main_v39 (F := Ideal) x0 x1 x2 x3 (ix4 b p s j)
    = z x0 x1 x2 x3 b s ⟨1024 + (128 * p.val + j.val), by omega⟩ := by
  rw [val_main_v39_apply, val_main_v38_apply, val_main_v37_apply, val_main_v29_apply, ← z_apply]
  show val_main_v26 (F := Ideal) x0 x1 x2 x3 _ = _
  refine congrArg (val_main_v26 (F := Ideal) x0 x1 x2 x3) (funext fun a => Fin.ext ?_)
  fin_cases a <;> simp [ix3, ix4] <;> omega

theorem cb_apply (j : Fin 512) : val_main_v33 (F := Ideal) x0 x1 x2 x3 (ix3 b s j) = z x0 x1 x2 x3 b s ⟨2304 + j.val, by omega⟩ := by
  rw [val_main_v33_apply, ← z_apply]
  refine congrArg (val_main_v26 (F := Ideal) x0 x1 x2 x3) (funext fun a => Fin.ext ?_)
  fin_cases a <;> simp [ix3]

theorem cc_apply (j : Fin 512) : val_main_v34 (F := Ideal) x0 x1 x2 x3 (ix3 b s j) = z x0 x1 x2 x3 b s ⟨2816 + j.val, by omega⟩ := by
  rw [val_main_v34_apply, ← z_apply]
  refine congrArg (val_main_v26 (F := Ideal) x0 x1 x2 x3) (funext fun a => Fin.ext ?_)
  fin_cases a <;> simp [ix3]

theorem cx_apply (j : Fin 512) : val_main_v35 (F := Ideal) x0 x1 x2 x3 (ix3 b s j) = z x0 x1 x2 x3 b s ⟨3328 + j.val, by omega⟩ := by
  rw [val_main_v35_apply, ← z_apply]
  refine congrArg (val_main_v26 (F := Ideal) x0 x1 x2 x3) (funext fun a => Fin.ext ?_)
  fin_cases a <;> simp [ix3]

theorem cu_apply (j : Fin 512) : val_main_v40 (F := Ideal) x0 x1 x2 x3 (ix3 b s j)
    = z x0 x1 x2 x3 b s ⟨2816 + j.val, by omega⟩ * z x0 x1 x2 x3 b s ⟨3328 + j.val, by omega⟩ := by
  rw [val_main_v40_apply, cc_apply, cx_apply]
  rfl

theorem gt_apply (j : Fin 3072) : val_main_v46 (F := Ideal) x0 x1 x2 x3 (ix3 b s j)
    = Ideal.logistic (z x0 x1 x2 x3 b s ⟨3840 + j.val, by omega⟩) := by
  rw [val_main_v46_apply, val_main_v45_apply, val_main_cst_4_apply, val_main_v44_apply, val_main_v43_apply, val_main_cst_3_apply, val_main_v42_apply,
    val_main_v41_apply, val_main_v36_apply, ← z_apply]
  have e : idx_main_v36 (ix3 b s j) = ix3 b s (⟨3840 + j.val, by omega⟩ : Fin 6912) := funext fun a => by fin_cases a <;> rfl
  rw [e, show (FloatOps.ofBits (F := Ideal) .f32 0x3F800000#32) = (1 : EReal) from ofBits_one]
  rfl

end

end Cert.Reference4Ideal.Ref
-- ==== Proof.ProjArr.lean ====
/- Four of the result arrays of the input projection are the reference's. -/
module

public import proofs.«01_k».proof.Proof.ProjOut
public import proofs.«01_k».proof.Proof.ProjIn
public import proofs.«01_k».proof.Proof.ProjRef

@[expose] public section

noncomputable section

namespace Cert.Kernel4Ideal.Arr

open Cert.Kernel4Ideal Cert.Kernel4Ideal.Gen Cert.Kernel4Ideal.Value Cert.Kernel4Ideal.Pay Cert.Kernel4Ideal.In
open Idealize.ShloMosaic Idealize.ShloMosaic.TcCoe Idealize.SL.Sem Cert.Post

variable (m : (ℓ : Loc nD τ sig) → Buf (Elt Ideal) ℓ) (c : Dev nD)

abbrev A0 : VI S16x2048x1024 .f32 := m ((c : Thread nD τ).loc main_arg0)
abbrev A1 : VI S24x6144 .f32 := m ((c : Thread nD τ).loc main_arg1)
abbrev A2 : VI S2x1024 .f32 := m ((c : Thread nD τ).loc main_arg2)
abbrev A3 : VI S2x1024x6912 .f32 := m ((c : Thread nD τ).loc main_arg3)

/-- The reference's functions of the argument arrays. -/
def G11 : VI S16x4x2048x128 .bf16 := Cert.Reference4Ideal.Read.val_main_v39 (F := Ideal) (A0 m c) (A1 m c) (A2 m c) (A3 m c)
def G15 : VI S16x2048x512 .f32 := Cert.Reference4Ideal.Read.val_main_v33 (F := Ideal) (A0 m c) (A1 m c) (A2 m c) (A3 m c)
def G16 : VI S16x2048x512 .f32 := Cert.Reference4Ideal.Read.val_main_v40 (F := Ideal) (A0 m c) (A1 m c) (A2 m c) (A3 m c)
def G17 : VI S16x2048x3072 .f32 := Cert.Reference4Ideal.Read.val_main_v46 (F := Ideal) (A0 m c) (A1 m c) (A2 m c) (A3 m c)

variable (t : Fin cfg0.N)

/-- An entry of the tile's projection is the reference's. -/
theorem zb_eq (q : Fin 512) (f : Fin 6912) : zb (iblk m c 0 t) (iblk m c 1 t) (iblk m c 2 t) (iblk m c 3 t) q f
    = Cert.Reference4Ideal.Ref.z (A0 m c) (A1 m c) (A2 m c) (A3 m c) (tb t) (tr t q) f :=
  dotc_congr (fun k => modul_congr (rms_congr (fun d => blk0 m c t q d) (fun d => blk2 m c t d)) (fun d => blk1 m c t 1 d) (fun d => blk1 m c t 0 d) k)
    (fun k => blk3 m c t k f)

theorem flushed_eq11 : (dats m 0 c).flushed 11 t = ((cfg0.win 11).blk t).view.read (Elt Ideal) (G11 m c) := by
  rw [flushed11_A m c t]
  funext j
  obtain ⟨p, r, k, rfl⟩ : ∃ (p : Fin 4) (r : Fin 512) (k : Fin 128), j = ix4 0 p r k := by
    refine ⟨j 1, j 2, j 3, funext fun a => ?_⟩
    match a with
    | ⟨0, _⟩ => exact Subsingleton.elim (α := Fin 1) _ _
    | ⟨1, _⟩ => rfl
    | ⟨2, _⟩ => rfl
    | ⟨3, _⟩ => rfl
  show out0_A_11 (F := Ideal) _ _ _ _ _ _ _ _ _ _ _ _ _ _ _ _ _ _ _ _ _ _ _ _ _ _ _ _ _ _ _ _ _ _ _ _ _ _ _ _ _ _ _ _ _ _ _ _ _ (ix4 0 p r k) = G11 m c (((cfg0.win 11).blk t).view.emb (ix4 0 p r k))
  rw [emb11, va_apply]
  unfold G11
  rw [Cert.Reference4Ideal.Ref.av_apply]
  exact zb_eq m c t r _

theorem covered11 (i : S16x4x2048x128.Idx) : ∃ t : Fin cfg0.N, (cfg0.win 11).flush t = true ∧ i ∈ ((cfg0.win 11).blk t).view.set := by
  have h0 : (i 0).val < 16 := (i 0).isLt
  have h2 : (i 2).val < 2048 := (i 2).isLt
  refine ⟨⟨4 * (i 0).val + (i 2).val / 512, by rw [N_eq]; omega⟩, flush0_11 _, ?_⟩
  generalize ht : (⟨4 * (i 0).val + (i 2).val / 512, _⟩ : Fin cfg0.N) = t
  have hv : t.val = 4 * (i 0).val + (i 2).val / 512 := by rw [← ht]
  have h := ((cfg0.win 11).blk t).view.emb_mem_set (ix4 0 (⟨(i 1).val, (i 1).isLt⟩ : Fin 4) (⟨(i 2).val % 512, by omega⟩ : Fin 512) (⟨(i 3).val, (i 3).isLt⟩ : Fin 128))
  rw [emb11] at h
  have e : i = ix4 (tb t) (⟨(i 1).val, (i 1).isLt⟩ : Fin 4) (tr t ⟨(i 2).val % 512, by omega⟩) (⟨(i 3).val, (i 3).isLt⟩ : Fin 128) := by
    funext a
    apply Fin.ext
    match a with
    | ⟨0, _⟩ => show (i 0).val = t.val / 4; omega
    | ⟨1, _⟩ => rfl
    | ⟨2, _⟩ => show (i 2).val = 512 * (t.val % 4) + (i 2).val % 512; omega
    | ⟨3, _⟩ => rfl
  rw [e]
  exact h

theorem final11 : (dats m 0 c).arrAt 11 cfg0.N = G11 m c :=
  (dats m 0 c).arrAt_eq_of_cover 11 (G11 m c) (fun t _ => flushed_eq11 m c t) covered11

theorem flushed_eq15 : (dats m 0 c).flushed 15 t = ((cfg0.win 15).blk t).view.read (Elt Ideal) (G15 m c) := by
  rw [flushed15_A m c t]
  funext j
  obtain ⟨r, k, rfl⟩ : ∃ (r : Fin 512) (k : Fin 512), j = ix3 0 r k := by
    refine ⟨j 1, j 2, funext fun a => ?_⟩
    match a with
    | ⟨0, _⟩ => exact Subsingleton.elim (α := Fin 1) _ _
    | ⟨1, _⟩ => rfl
    | ⟨2, _⟩ => rfl
  show out0_A_15 (F := Ideal) _ _ _ _ _ _ _ _ _ _ _ _ _ _ _ _ _ _ _ _ _ _ _ _ _ _ _ _ _ _ _ _ _ _ _ _ _ _ _ _ _ _ _ _ _ _ _ _ _ (ix3 0 r k) = G15 m c (((cfg0.win 15).blk t).view.emb (ix3 0 r k))
  rw [emb15, cb_apply]
  unfold G15
  rw [Cert.Reference4Ideal.Ref.cb_apply]
  exact zb_eq m c t r _

theorem covered15 (i : S16x2048x512.Idx) : ∃ t : Fin cfg0.N, (cfg0.win 15).flush t = true ∧ i ∈ ((cfg0.win 15).blk t).view.set := by
  have h0 : (i 0).val < 16 := (i 0).isLt
  have h1 : (i 1).val < 2048 := (i 1).isLt
  refine ⟨⟨4 * (i 0).val + (i 1).val / 512, by rw [N_eq]; omega⟩, flush0_15 _, ?_⟩
  generalize ht : (⟨4 * (i 0).val + (i 1).val / 512, _⟩ : Fin cfg0.N) = t
  have hv : t.val = 4 * (i 0).val + (i 1).val / 512 := by rw [← ht]
  have h := ((cfg0.win 15).blk t).view.emb_mem_set (ix3 0 (⟨(i 1).val % 512, by omega⟩ : Fin 512) (⟨(i 2).val, (i 2).isLt⟩ : Fin 512))
  rw [emb15] at h
  have e : i = ix3 (tb t) (tr t ⟨(i 1).val % 512, by omega⟩) (⟨(i 2).val, (i 2).isLt⟩ : Fin 512) := by
    funext a
    apply Fin.ext
    match a with
    | ⟨0, _⟩ => show (i 0).val = t.val / 4; omega
    | ⟨1, _⟩ => show (i 1).val = 512 * (t.val % 4) + (i 1).val % 512; omega
    | ⟨2, _⟩ => rfl
  rw [e]
  exact h

theorem final15 : (dats m 0 c).arrAt 15 cfg0.N = G15 m c :=
  (dats m 0 c).arrAt_eq_of_cover 15 (G15 m c) (fun t _ => flushed_eq15 m c t) covered15

theorem flushed_eq16 : (dats m 0 c).flushed 16 t = ((cfg0.win 16).blk t).view.read (Elt Ideal) (G16 m c) := by
  rw [flushed16_A m c t]
  funext j
  obtain ⟨r, k, rfl⟩ : ∃ (r : Fin 512) (k : Fin 512), j = ix3 0 r k := by
    refine ⟨j 1, j 2, funext fun a => ?_⟩
    match a with
    | ⟨0, _⟩ => exact Subsingleton.elim (α := Fin 1) _ _
    | ⟨1, _⟩ => rfl
    | ⟨2, _⟩ => rfl
  show out0_A_16 (F := Ideal) _ _ _ _ _ _ _ _ _ _ _ _ _ _ _ _ _ _ _ _ _ _ _ _ _ _ _ _ _ _ _ _ _ _ _ _ _ _ _ _ _ _ _ _ _ _ _ _ _ (ix3 0 r k) = G16 m c (((cfg0.win 16).blk t).view.emb (ix3 0 r k))
  rw [emb16, cu_apply]
  unfold G16
  rw [Cert.Reference4Ideal.Ref.cu_apply]
  exact congrArg₂ (· * ·) (zb_eq m c t r _) (zb_eq m c t r _)

theorem covered16 (i : S16x2048x512.Idx) : ∃ t : Fin cfg0.N, (cfg0.win 16).flush t = true ∧ i ∈ ((cfg0.win 16).blk t).view.set := by
  have h0 : (i 0).val < 16 := (i 0).isLt
  have h1 : (i 1).val < 2048 := (i 1).isLt
  refine ⟨⟨4 * (i 0).val + (i 1).val / 512, by rw [N_eq]; omega⟩, flush0_16 _, ?_⟩
  generalize ht : (⟨4 * (i 0).val + (i 1).val / 512, _⟩ : Fin cfg0.N) = t
  have hv : t.val = 4 * (i 0).val + (i 1).val / 512 := by rw [← ht]
  have h := ((cfg0.win 16).blk t).view.emb_mem_set (ix3 0 (⟨(i 1).val % 512, by omega⟩ : Fin 512) (⟨(i 2).val, (i 2).isLt⟩ : Fin 512))
  rw [emb16] at h
  have e : i = ix3 (tb t) (tr t ⟨(i 1).val % 512, by omega⟩) (⟨(i 2).val, (i 2).isLt⟩ : Fin 512) := by
    funext a
    apply Fin.ext
    match a with
    | ⟨0, _⟩ => show (i 0).val = t.val / 4; omega
    | ⟨1, _⟩ => show (i 1).val = 512 * (t.val % 4) + (i 1).val % 512; omega
    | ⟨2, _⟩ => rfl
  rw [e]
  exact h

theorem final16 : (dats m 0 c).arrAt 16 cfg0.N = G16 m c :=
  (dats m 0 c).arrAt_eq_of_cover 16 (G16 m c) (fun t _ => flushed_eq16 m c t) covered16

theorem flushed_eq17 : (dats m 0 c).flushed 17 t = ((cfg0.win 17).blk t).view.read (Elt Ideal) (G17 m c) := by
  rw [flushed17_A m c t]
  funext j
  obtain ⟨r, k, rfl⟩ : ∃ (r : Fin 512) (k : Fin 3072), j = ix3 0 r k := by
    refine ⟨j 1, j 2, funext fun a => ?_⟩
    match a with
    | ⟨0, _⟩ => exact Subsingleton.elim (α := Fin 1) _ _
    | ⟨1, _⟩ => rfl
    | ⟨2, _⟩ => rfl
  show out0_A_17 (F := Ideal) _ _ _ _ _ _ _ _ _ _ _ _ _ _ _ _ _ _ _ _ _ _ _ _ _ _ _ _ _ _ _ _ _ _ _ _ _ _ _ _ _ _ _ _ _ _ _ _ _ (ix3 0 r k) = G17 m c (((cfg0.win 17).blk t).view.emb (ix3 0 r k))
  rw [emb17, gt_apply]
  unfold G17
  rw [Cert.Reference4Ideal.Ref.gt_apply]
  exact congrArg Ideal.logistic (zb_eq m c t r _)

theorem covered17 (i : S16x2048x3072.Idx) : ∃ t : Fin cfg0.N, (cfg0.win 17).flush t = true ∧ i ∈ ((cfg0.win 17).blk t).view.set := by
  have h0 : (i 0).val < 16 := (i 0).isLt
  have h1 : (i 1).val < 2048 := (i 1).isLt
  refine ⟨⟨4 * (i 0).val + (i 1).val / 512, by rw [N_eq]; omega⟩, flush0_17 _, ?_⟩
  generalize ht : (⟨4 * (i 0).val + (i 1).val / 512, _⟩ : Fin cfg0.N) = t
  have hv : t.val = 4 * (i 0).val + (i 1).val / 512 := by rw [← ht]
  have h := ((cfg0.win 17).blk t).view.emb_mem_set (ix3 0 (⟨(i 1).val % 512, by omega⟩ : Fin 512) (⟨(i 2).val, (i 2).isLt⟩ : Fin 3072))
  rw [emb17] at h
  have e : i = ix3 (tb t) (tr t ⟨(i 1).val % 512, by omega⟩) (⟨(i 2).val, (i 2).isLt⟩ : Fin 3072) := by
    funext a
    apply Fin.ext
    match a with
    | ⟨0, _⟩ => show (i 0).val = t.val / 4; omega
    | ⟨1, _⟩ => show (i 1).val = 512 * (t.val % 4) + (i 1).val % 512; omega
    | ⟨2, _⟩ => rfl
  rw [e]
  exact h

theorem final17 : (dats m 0 c).arrAt 17 cfg0.N = G17 m c :=
  (dats m 0 c).arrAt_eq_of_cover 17 (G17 m c) (fun t _ => flushed_eq17 m c t) covered17

end Cert.Kernel4Ideal.Arr
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Arr
public import proofs.«01_k».proof.Proof.PostArr
public import proofs.«01_k».proof.Proof.FirstArr
public import proofs.«01_k».proof.Proof.ProjArr
public import Idealize.ShloMosaic.Adequacy
public import Idealize.ShloMosaic.Init

@[expose] public section

noncomputable section

namespace Cert.Proof

open Idealize.ShloMosaic Idealize.SL.Sem Cert.Kernel

/-- A reference declares no semaphore, so its counters hold nothing. -/
theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Both results are the reference's array read at the kernel's own arguments: the kernel's by the row blocks, which cover
    its result, the reference's because the arguments agree. -/
theorem value : Cert.algebraic_KernelIdeal_ReferenceIdeal := by
  intro m g m' g' _ hagree
  refine ⟨fun c => Cert.KernelIdeal.Arr.G m c,
    (θ_run Cert.KernelIdeal.defs _ _).mono (fun r h c => ⟨(h c).1.trans (Cert.KernelIdeal.Arr.final m c), (h c).2⟩)
      (Cert.KernelIdeal.Value.run_blocks (F := Ideal) m g),
    (θ_run Cert.ReferenceIdeal.defs _ _).mono (fun r h c => ⟨(h c).1.trans ?_, (h c).2⟩)
      (Cert.ReferenceIdeal.Value.run (F := Ideal) m' g')⟩
  obtain ⟨h0, h1, h2, h3, h4, h5, h6, h7, h8, h9⟩ := hagree c
  rw [Cert.ReferenceIdeal.Read.val_main_v68_eq m' c, h0, h1, h2, h3, h4, h5, h6, h7, h8, h9]
  rfl

theorem frame_r2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The same for the call after the mixers. -/
theorem value2 : Cert.algebraic_Kernel2Ideal_Reference2Ideal := by
  intro m g m' g' _ hagree
  refine ⟨fun c => Cert.Kernel2Ideal.Arr.G m c,
    (θ_run Cert.Kernel2Ideal.defs _ _).mono (fun r h c => ⟨(h c).1.trans (Cert.Kernel2Ideal.Arr.final m c), (h c).2⟩)
      (Cert.Kernel2Ideal.Value.run_blocks (F := Ideal) m g),
    (θ_run Cert.Reference2Ideal.defs _ _).mono (fun r h c => ⟨(h c).1.trans ?_, (h c).2⟩)
      (Cert.Reference2Ideal.Value.run (F := Ideal) m' g')⟩
  obtain ⟨h0, h1, h2, h3, h4, h5, h6, h7, h8, h9, h10, h11, h12, h13, h14, h15⟩ := hagree c
  refine (Cert.Reference2Ideal.Read.val_main_v91_eq (StableHlo.launchContents m' c)).trans ?_
  show Cert.Reference2Ideal.Read.val_main_v91 (F := Ideal) (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4)) (m' ((c.tc : Thread _ _).loc Cert.Reference2Ideal.main_arg5)) (m' ((c.tc : Thread _ _).loc Cert.Reference2Ideal.main_arg6)) (m' ((c.tc : Thread _ _).loc Cert.Reference2Ideal.main_arg7)) (m' ((c.tc : Thread _ _).loc Cert.Reference2Ideal.main_arg8)) (m' ((c.tc : Thread _ _).loc Cert.Reference2Ideal.main_arg9)) (m' ((c.tc : Thread _ _).loc Cert.Reference2Ideal.main_arg10)) (m' ((c.tc : Thread _ _).loc Cert.Reference2Ideal.main_arg11)) (m' ((c.tc : Thread _ _).loc Cert.Reference2Ideal.main_arg12)) (m' ((c.tc : Thread _ _).loc Cert.Reference2Ideal.main_arg13)) (m' ((c.tc : Thread _ _).loc Cert.Reference2Ideal.main_arg14)) (m' ((c.tc : Thread _ _).loc Cert.Reference2Ideal.main_arg15)) = Cert.Kernel2Ideal.Arr.G m c
  rw [h0, h1, h2, h3, h4, h5, h6, h7, h8, h9, h10, h11, h12, h13, h14, h15]
  rfl

theorem frame_r3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The same for the first layer's call after the mixers. -/
theorem value3 : Cert.algebraic_Kernel3Ideal_Reference3Ideal := by
  intro m g m' g' _ hagree
  refine ⟨fun c => Cert.Kernel3Ideal.Arr.G m c,
    (θ_run Cert.Kernel3Ideal.defs _ _).mono (fun r h c => ⟨(h c).1.trans (Cert.Kernel3Ideal.Arr.final m c), (h c).2⟩)
      (Cert.Kernel3Ideal.Value.run_blocks (F := Ideal) m g),
    (θ_run Cert.Reference3Ideal.defs _ _).mono (fun r h c => ⟨(h c).1.trans ?_, (h c).2⟩)
      (Cert.Reference3Ideal.Value.run (F := Ideal) m' g')⟩
  obtain ⟨h0, h1, h2, h3, h4, h5, h6, h7, h8, h9, h10, h11, h12, h13, h14⟩ := hagree c
  rw [Cert.Reference3Ideal.Read.val_main_v78_eq m' c, h0, h1, h2, h3, h4, h5, h6, h7, h8, h9, h10, h11, h12, h13, h14]
  rfl

theorem frame_r4 : Cert.quiescent_Reference4Ideal := fun m ρ _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m ρ)

/-- Four results of the input projection: the values' heads, the convolution's gate and operand, and the gates. -/
theorem value4 : Cert.algebraic_Kernel4Ideal_Reference4Ideal := by
  intro m g m' g' _ hagree
  refine ⟨fun c => Cert.Kernel4Ideal.Arr.G11 m c, fun c => Cert.Kernel4Ideal.Arr.G15 m c, fun c => Cert.Kernel4Ideal.Arr.G16 m c,
    fun c => Cert.Kernel4Ideal.Arr.G17 m c,
    (θ_run Cert.Kernel4Ideal.defs _ _).mono (fun r h c => ⟨(h c).2.2.1.trans (Cert.Kernel4Ideal.Arr.final11 m c),
      (h c).2.2.2.2.2.2.1.trans (Cert.Kernel4Ideal.Arr.final15 m c), (h c).2.2.2.2.2.2.2.1.trans (Cert.Kernel4Ideal.Arr.final16 m c),
      (h c).2.2.2.2.2.2.2.2.1.trans (Cert.Kernel4Ideal.Arr.final17 m c), (h c).2.2.2.2.2.2.2.2.2⟩)
      (Cert.Kernel4Ideal.Value.run_blocks (F := Ideal) m g),
    (θ_run Cert.Reference4Ideal.defs _ _).mono (fun r h c => ⟨(h c).1.trans ?_, (h c).2.1.trans ?_, (h c).2.2.1.trans ?_, (h c).2.2.2.1.trans ?_,
      (h c).2.2.2.2⟩)
      (Cert.Reference4Ideal.Value.run (F := Ideal) m' g')⟩
  · obtain ⟨h0, h1, h2, h3, -⟩ := hagree c
    refine (Cert.Reference4Ideal.Read.val_main_v39_eq _ _ _ _).trans ?_
    rw [h0, h1, h2, h3]
    rfl
  · obtain ⟨h0, h1, h2, h3, -⟩ := hagree c
    refine (Cert.Reference4Ideal.Read.val_main_v33_eq _ _ _ _).trans ?_
    rw [h0, h1, h2, h3]
    rfl
  · obtain ⟨h0, h1, h2, h3, -⟩ := hagree c
    refine (Cert.Reference4Ideal.Read.val_main_v40_eq _ _ _ _).trans ?_
    rw [h0, h1, h2, h3]
    rfl
  · obtain ⟨h0, h1, h2, h3, -⟩ := hagree c
    refine (Cert.Reference4Ideal.Read.val_main_v46_eq _ _ _ _).trans ?_
    rw [h0, h1, h2, h3]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ, frame_r,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  trivial, value, trivial, value2, trivial, value3, trivial, value4⟩

end Cert.Proof

end
